-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_v6_9) = v1 c
          ∧ r.2.mem ((c.tc : Thread Cert.ReferenceIdeal.nD Cert.ReferenceIdeal.τ).loc Cert.ReferenceIdeal.main_v9) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S4x512x512 : Shape := ⟨3, ![4, 512, 512]⟩
abbrev S4x4096 : Shape := ⟨2, ![4, 4096]⟩
abbrev S512x32 : Shape := ⟨2, ![512, 32]⟩
abbrev S32 : Shape := ⟨1, ![32]⟩
abbrev S32x8192x32 : Shape := ⟨3, ![32, 8192, 32]⟩
abbrev S10x4096x32 : Shape := ⟨3, ![10, 4096, 32]⟩
abbrev S10x32 : Shape := ⟨2, ![10, 32]⟩
abbrev S_ : Shape := ⟨0, ![]⟩

class Facts : Prop where
  bcast_S_S4x512x512 : S_.BroadcastsInDim S4x512x512 (![] : Fin 0 → Fin S4x512x512.rank)
  reducesTo_S4x512x512_S_d0_1_2 : S4x512x512.ReducesTo [0, 1, 2] S_
  h_S_ : 0 < S_.numel
  bcast_S_S4x4096 : S_.BroadcastsInDim S4x4096 (![] : Fin 0 → Fin S4x4096.rank)
  reducesTo_S4x4096_S_d0_1 : S4x4096.ReducesTo [0, 1] S_
  bcast_S_S512x32 : S_.BroadcastsInDim S512x32 (![] : Fin 0 → Fin S512x32.rank)
  reducesTo_S512x32_S_d0_1 : S512x32.ReducesTo [0, 1] S_
  bcast_S_S32 : S_.BroadcastsInDim S32 (![] : Fin 0 → Fin S32.rank)
  reducesTo_S32_S_d0 : S32.ReducesTo [0] S_
  bcast_S_S32x8192x32 : S_.BroadcastsInDim S32x8192x32 (![] : Fin 0 → Fin S32x8192x32.rank)
  reducesTo_S32x8192x32_S_d0_1_2 : S32x8192x32.ReducesTo [0, 1, 2] S_
  bcast_S_S10x4096x32 : S_.BroadcastsInDim S10x4096x32 (![] : Fin 0 → Fin S10x4096x32.rank)
  reducesTo_S10x4096x32_S_d0_1_2 : S10x4096x32.ReducesTo [0, 1, 2] S_
  bcast_S_S10x32 : S_.BroadcastsInDim S10x32 (![] : Fin 0 → Fin S10x32.rank)
  reducesTo_S10x32_S_d0_1 : S10x32.ReducesTo [0, 1] S_

variable [Facts]

def fn_part1 {F : FTy → Type} [FloatOps F] (main_arg4 : FVec F S32x8192x32 .f32) (main_arg5 : FVec F S10x4096x32 .f32) (main_arg6 : FVec F S10x32 .f32) (main_v13 : IVec S_ 1) (main_v16 : IVec S32 1) : IVec S_ 1 :=
  let main_c_5 : IVec S_ 1 := constantI S_ 1 1#1
  let main_v17 : IVec S_ 1 := (fun x v => Host.reduce IntOp.andi x v reducesTo_S32_S_d0 h_S_) main_v16 main_c_5
  let main_v18 : IVec S_ 1 := andi main_v13 main_v17
  let main_v19 : FVec F S32x8192x32 .f32 := Host.absf main_arg4
  let main_cst_6 : FVec F S_ .f32 := constant S_ .f32 0x7F800000#32
  let main_v20 : FVec F S32x8192x32 .f32 := broadcastInDim S32x8192x32 ![] bcast_S_S32x8192x32 main_cst_6
  let main_v21 : IVec S32x8192x32 1 := cmpf .olt main_v19 main_v20
  let main_c_7 : IVec S_ 1 := constantI S_ 1 1#1
  let main_v22 : IVec S_ 1 := (fun x v => Host.reduce IntOp.andi x v reducesTo_S32x8192x32_S_d0_1_2 h_S_) main_v21 main_c_7
  let main_v23 : IVec S_ 1 := andi main_v18 main_v22
  let main_v24 : FVec F S10x4096x32 .f32 := Host.absf main_arg5
  let main_cst_8 : FVec F S_ .f32 := constant S_ .f32 0x7F800000#32
  let main_v25 : FVec F S10x4096x32 .f32 := broadcastInDim S10x4096x32 ![] bcast_S_S10x4096x32 main_cst_8
  let main_v26 : IVec S10x4096x32 1 := cmpf .olt main_v24 main_v25
  let main_c_9 : IVec S_ 1 := constantI S_ 1 1#1
  let main_v27 : IVec S_ 1 := (fun x v => Host.reduce IntOp.andi x v reducesTo_S10x4096x32_S_d0_1_2 h_S_) main_v26 main_c_9
  let main_v28 : IVec S_ 1 := andi main_v23 main_v27
  let main_v29 : FVec F S10x32 .f32 := Host.absf main_arg6
  let main_cst_10 : FVec F S_ .f32 := constant S_ .f32 0x7F800000#32
  let main_v30 : FVec F S10x32 .f32 := broadcastInDim S10x32 ![] bcast_S_S10x32 main_cst_10
  let main_v31 : IVec S10x32 1 := cmpf .olt main_v29 main_v30
  let main_c_11 : IVec S_ 1 := constantI S_ 1 1#1
  let main_v32 : IVec S_ 1 := (fun x v => Host.reduce IntOp.andi x v reducesTo_S10x32_S_d0_1 h_S_) main_v31 main_c_11
  let main_v33 : IVec S_ 1 := andi main_v28 main_v32
  main_v33

def fn {F : FTy → Type} [FloatOps F] (main_arg0 : FVec F S4x512x512 .f32) (main_arg1 : FVec F S4x4096 .f32) (main_arg2 : FVec F S512x32 .f32) (main_arg3 : FVec F S32 .f32) (main_arg4 : FVec F S32x8192x32 .f32) (main_arg5 : FVec F S10x4096x32 .f32) (main_arg6 : FVec F S10x32 .f32) : IVec S_ 1 :=
  let main_v0 : FVec F S4x512x512 .f32 := Host.absf main_arg0
  let main_cst : FVec F S_ .f32 := constant S_ .f32 0x7F800000#32
  let main_v1 : FVec F S4x512x512 .f32 := broadcastInDim S4x512x512 ![] bcast_S_S4x512x512 main_cst
  let main_v2 : IVec S4x512x512 1 := cmpf .olt main_v0 main_v1
  let main_c : IVec S_ 1 := constantI S_ 1 1#1
  let main_v3 : IVec S_ 1 := (fun x v => Host.reduce IntOp.andi x v reducesTo_S4x512x512_S_d0_1_2 h_S_) main_v2 main_c
  let main_v4 : FVec F S4x4096 .f32 := Host.absf main_arg1
  let main_cst_0 : FVec F S_ .f32 := constant S_ .f32 0x7F800000#32
  let main_v5 : FVec F S4x4096 .f32 := broadcastInDim S4x4096 ![] bcast_S_S4x4096 main_cst_0
  let main_v6 : IVec S4x4096 1 := cmpf .olt main_v4 main_v5
  let main_c_1 : IVec S_ 1 := constantI S_ 1 1#1
  let main_v7 : IVec S_ 1 := (fun x v => Host.reduce IntOp.andi x v reducesTo_S4x4096_S_d0_1 h_S_) main_v6 main_c_1
  let main_v8 : IVec S_ 1 := andi main_v3 main_v7
  let main_v9 : FVec F S512x32 .f32 := Host.absf main_arg2
  let main_cst_2 : FVec F S_ .f32 := constant S_ .f32 0x7F800000#32
  let main_v10 : FVec F S512x32 .f32 := broadcastInDim S512x32 ![] bcast_S_S512x32 main_cst_2
  let main_v11 : IVec S512x32 1 := cmpf .olt main_v9 main_v10
  let main_c_3 : IVec S_ 1 := constantI S_ 1 1#1
  let main_v12 : IVec S_ 1 := (fun x v => Host.reduce IntOp.andi x v reducesTo_S512x32_S_d0_1 h_S_) main_v11 main_c_3
  let main_v13 : IVec S_ 1 := andi main_v8 main_v12
  let main_v14 : FVec F S32 .f32 := Host.absf main_arg3
  let main_cst_4 : FVec F S_ .f32 := constant S_ .f32 0x7F800000#32
  let main_v15 : FVec F S32 .f32 := broadcastInDim S32 ![] bcast_S_S32 main_cst_4
  let main_v16 : IVec S32 1 := cmpf .olt main_v14 main_v15
  fn_part1 (F := F) main_arg4 main_arg5 main_arg6 main_v13 main_v16
-- ==== Kernel.lean ====
abbrev S4x512x512 : Shape := ⟨3, ![4, 512, 512]⟩
abbrev S4x4096 : Shape := ⟨2, ![4, 4096]⟩
abbrev S512x32 : Shape := ⟨2, ![512, 32]⟩
abbrev S32 : Shape := ⟨1, ![32]⟩
abbrev S32x8192x32 : Shape := ⟨3, ![32, 8192, 32]⟩
abbrev S10x4096x32 : Shape := ⟨3, ![10, 4096, 32]⟩
abbrev S10x32 : Shape := ⟨2, ![10, 32]⟩
abbrev S2048x512 : Shape := ⟨2, ![2048, 512]⟩
abbrev S1x32 : Shape := ⟨2, ![1, 32]⟩
abbrev S10x1x32 : Shape := ⟨3, ![10, 1, 32]⟩
abbrev S2048x32 : Shape := ⟨2, ![2048, 32]⟩
abbrev S32x1x2048 : Shape := ⟨3, ![32, 1, 2048]⟩
abbrev S1x1 : Shape := ⟨2, ![1, 1]⟩
abbrev S4x512x32 : Shape := ⟨3, ![4, 512, 32]⟩
abbrev S32x4x512 : Shape := ⟨3, ![32, 4, 512]⟩
abbrev S_ : Shape := ⟨0, ![]⟩
abbrev S1x8192x32 : Shape := ⟨3, ![1, 8192, 32]⟩
abbrev S1x1x2048 : Shape := ⟨3, ![1, 1, 2048]⟩
abbrev S1x8192 : Shape := ⟨2, ![1, 8192]⟩
abbrev S8192x96 : Shape := ⟨2, ![8192, 96]⟩
abbrev S1x4096x32 : Shape := ⟨3, ![1, 4096, 32]⟩
abbrev S4096x32 : Shape := ⟨2, ![4096, 32]⟩
abbrev S4x32 : Shape := ⟨2, ![4, 32]⟩
abbrev S1x1x32 : Shape := ⟨3, ![1, 1, 32]⟩
abbrev S2048x4 : Shape := ⟨2, ![2048, 4]⟩
abbrev S1x2048x32 : Shape := ⟨3, ![1, 2048, 32]⟩
abbrev S2048 : Shape := ⟨1, ![2048]⟩
abbrev S1x2048 : Shape := ⟨2, ![1, 2048]⟩
abbrev S2048x96 : Shape := ⟨2, ![2048, 96]⟩
abbrev S1024x1 : Shape := ⟨2, ![1024, 1]⟩
abbrev S1024x96 : Shape := ⟨2, ![1024, 96]⟩
abbrev S1024x32 : Shape := ⟨2, ![1024, 32]⟩
abbrev S1024 : Shape := ⟨1, ![1024]⟩
abbrev S1024x2048 : Shape := ⟨2, ![1024, 2048]⟩
abbrev S1x1024x32 : Shape := ⟨3, ![1, 1024, 32]⟩
abbrev S1 : Shape := ⟨1, ![1]⟩
abbrev S1x1x1 : Shape := ⟨3, ![1, 1, 1]⟩
abbrev S1x1x1024 : Shape := ⟨3, ![1, 1, 1024]⟩

abbrev nBuf : Space → Nat
  | .hbm => 18
  | .vmem => 15
  | .smem => 1
  | _ => 0

abbrev bufTy : (tb : Table) → Fin (tcTables nBuf tb) → BufTy
  | .hbm, ⟨0, _⟩ => ⟨S4x512x512, .f32⟩
  | .hbm, ⟨1, _⟩ => ⟨S4x4096, .f32⟩
  | .hbm, ⟨2, _⟩ => ⟨S512x32, .f32⟩
  | .hbm, ⟨3, _⟩ => ⟨S32, .f32⟩
  | .hbm, ⟨4, _⟩ => ⟨S32x8192x32, .f32⟩
  | .hbm, ⟨5, _⟩ => ⟨S10x4096x32, .f32⟩
  | .hbm, ⟨6, _⟩ => ⟨S10x32, .f32⟩
  | .hbm, ⟨7, _⟩ => ⟨S2048x512, .f32⟩
  | .hbm, ⟨8, _⟩ => ⟨S1x32, .f32⟩
  | .hbm, ⟨9, _⟩ => ⟨S10x1x32, .f32⟩
  | .hbm, ⟨10, _⟩ => ⟨S2048x32, .f32⟩
  | .hbm, ⟨11, _⟩ => ⟨S32x1x2048, .i32⟩
  | .hbm, ⟨12, _⟩ => ⟨S1x1, .f32⟩
  | .hbm, ⟨13, _⟩ => ⟨S4x512x32, .f32⟩
  | .hbm, ⟨14, _⟩ => ⟨S32x4x512, .i32⟩
  | .hbm, ⟨15, _⟩ => ⟨S_, .f32⟩
  | .hbm, ⟨16, _⟩ => ⟨S_, .f32⟩
  | .hbm, ⟨17, _⟩ => ⟨S_, .f32⟩
  | .local _ .vmem, ⟨0, _⟩ => ⟨S2048x512, .f32⟩
  | .local _ .vmem, ⟨1, _⟩ => ⟨S4x4096, .f32⟩
  | .local _ .vmem, ⟨2, _⟩ => ⟨S512x32, .f32⟩
  | .local _ .vmem, ⟨3, _⟩ => ⟨S1x32, .f32⟩
  | .local _ .vmem, ⟨4, _⟩ => ⟨S1x8192x32, .f32⟩
  | .local _ .vmem, ⟨5, _⟩ => ⟨S1x8192x32, .f32⟩
  | .local _ .vmem, ⟨6, _⟩ => ⟨S10x4096x32, .f32⟩
  | .local _ .vmem, ⟨7, _⟩ => ⟨S10x1x32, .f32⟩
  | .local _ .vmem, ⟨8, _⟩ => ⟨S2048x32, .f32⟩
  | .local _ .vmem, ⟨9, _⟩ => ⟨S1x1x2048, .i32⟩
  | .local _ .vmem, ⟨10, _⟩ => ⟨S1x1x2048, .i32⟩
  | .local _ .vmem, ⟨11, _⟩ => ⟨S2048x32, .f32⟩
  | .local _ .vmem, ⟨12, _⟩ => ⟨S2048x32, .f32⟩
  | .local _ .vmem, ⟨13, _⟩ => ⟨S1x8192, .f32⟩
  | .local _ .vmem, ⟨14, _⟩ => ⟨S8192x96, .f32⟩
  | .local _ .smem, ⟨0, _⟩ => ⟨S1x1, .f32⟩
  | _, _ => ⟨S4x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .smem, ⟨0, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3_0 : Ref sig .tc := ⟨.hbm, 10, rfl⟩
abbrev main_call0_v3_1 : Ref sig .tc := ⟨.hbm, 11, rfl⟩
abbrev main_call0_v3_2 : Ref sig .tc := ⟨.hbm, 12, rfl⟩
abbrev main_v0_0 : Ref sig .tc := ⟨.hbm, 13, rfl⟩
abbrev main_v0_1 : Ref sig .tc := ⟨.hbm, 14, rfl⟩
abbrev main_call0_v6 : Ref sig .tc := ⟨.hbm, 15, rfl⟩
abbrev main_call0_cst : Ref sig .tc := ⟨.hbm, 16, rfl⟩
abbrev main_v0_2 : Ref sig .tc := ⟨.hbm, 17, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_scratch3 : Ref sig .tc := ⟨.vmem, 14, rfl⟩
abbrev cc0_stg9_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10
abbrev cc0_sem9_0 : DmaSem sig := 11

abbrev nD : Nat := 1
abbrev τ : Topo := Topo.v7x

variable {F : FTy → Type} [FloatOps F]

abbrev grid0 : Pipeline.Grid := ⟨1, ![32], ![false]⟩

def k0_cond2 (i : grid0.Coords) : BitVec 1 :=
  let arg0 : BitVec 32 := BitVec.ofNat 32 (i 0).val
  let c10_i32 : BitVec 32 := 10#32
  let v3 : BitVec 1 := Scalar.cmpi .slt arg0 c10_i32
  let v4 : BitVec 32 := Scalar.extui v3
  let c0_i32_1 : BitVec 32 := 0#32
  let v5 : BitVec 1 := Scalar.cmpi .ne v4 c0_i32_1
  v5

def k0_off1 (i : grid0.Coords) : Fin 3 → Nat :=
  let arg0 : BitVec 32 := BitVec.ofNat 32 (i 0).val
  let c9_i32 : BitVec 32 := 9#32
  let v82 : BitVec 32 := Scalar.minsi arg0 c9_i32
  let v84 : Index := Scalar.indexCast v82
  let c0_58 : Index := 0#32
  let c0_59 : Index := 0#32
  ![v84.toNat, 0, 0]
def k0_off2 (i : grid0.Coords) : Fin 3 → Nat :=
  let arg0 : BitVec 32 := BitVec.ofNat 32 (i 0).val
  let c9_i32 : BitVec 32 := 9#32
  let v82 : BitVec 32 := Scalar.minsi arg0 c9_i32
  let v88 : Index := Scalar.indexCast v82
  let c0_61 : Index := 0#32
  let c0_62 : Index := 0#32
  ![v88.toNat, 0, 0]
@[reducible] def k0_t1_loop : Scf.Loop 32 :=
  let c0_i32_2 : BitVec 32 := 0#32
  let c4_i32 : BitVec 32 := 4#32
  let v6 : BitVec 32 := Scalar.addi c0_i32_2 c4_i32
  let c1_i32 : BitVec 32 := 1#32
  ⟨c0_i32_2, v6, c1_i32⟩
def k0_off3 (k0_t1 : Fin k0_t1_loop.trips) : Fin 3 → Nat :=
  let c0_56 : Index := 0#32
  let c0_i32_2 : BitVec 32 := 0#32
  let c1_i32 : BitVec 32 := 1#32
  let arg15 : BitVec 32 := Scf.iv c0_i32_2 c1_i32 k0_t1
  let c2048_i32 : BitVec 32 := 2048#32
  let v82 : BitVec 32 := Scalar.muli arg15 c2048_i32
  let v83 : Index := Scalar.indexCast v82
  let c0_57 : Index := 0#32
  ![0, v83.toNat, 0]
def k0_off4 (k0_t1 : Fin k0_t1_loop.trips) : Fin 2 → Nat :=
  let c0_60 : Index := 0#32
  let c0_i32_2 : BitVec 32 := 0#32
  let c1_i32 : BitVec 32 := 1#32
  let arg15 : BitVec 32 := Scf.iv c0_i32_2 c1_i32 k0_t1
  let c2048_i32_59 : BitVec 32 := 2048#32
  let v88 : BitVec 32 := Scalar.muli arg15 c2048_i32_59
  let v89 : Index := Scalar.indexCast v88
  ![0, v89.toNat]
def k0_off5 (k0_t1 : Fin k0_t1_loop.trips) : Fin 2 → Nat :=
  let c0_i32_2 : BitVec 32 := 0#32
  let c1_i32 : BitVec 32 := 1#32
  let arg15 : BitVec 32 := Scf.iv c0_i32_2 c1_i32 k0_t1
  let c2048_i32_61 : BitVec 32 := 2048#32
  let v100 : BitVec 32 := Scalar.muli arg15 c2048_i32_61
  let v101 : Index := Scalar.indexCast v100
  let c0_62 : Index := 0#32
  ![v101.toNat, 0]
@[reducible] def k0_t2_loop : Scf.Loop 32 :=
  let c0_i32_8 : BitVec 32 := 0#32
  let c4_i32_9 : BitVec 32 := 4#32
  let v15 : BitVec 32 := Scalar.addi c0_i32_8 c4_i32_9
  let c1_i32_10 : BitVec 32 := 1#32
  ⟨c0_i32_8, v15, c1_i32_10⟩
def k0_off6 (k0_t2 : Fin k0_t2_loop.trips) : Fin 3 → Nat :=
  let c0_56 : Index := 0#32
  let c0_i32_8 : BitVec 32 := 0#32
  let c1_i32_10 : BitVec 32 := 1#32
  let arg15 : BitVec 32 := Scf.iv c0_i32_8 c1_i32_10 k0_t2
  let c2048_i32 : BitVec 32 := 2048#32
  let v82 : BitVec 32 := Scalar.muli arg15 c2048_i32
  let v83 : Index := Scalar.indexCast v82
  let c0_57 : Index := 0#32
  ![0, v83.toNat, 0]
def k0_off7 (k0_t2 : Fin k0_t2_loop.trips) : Fin 2 → Nat :=
  let c0_60 : Index := 0#32
  let c0_i32_8 : BitVec 32 := 0#32
  let c1_i32_10 : BitVec 32 := 1#32
  let arg15 : BitVec 32 := Scf.iv c0_i32_8 c1_i32_10 k0_t2
  let c2048_i32_59 : BitVec 32 := 2048#32
  let v87 : BitVec 32 := Scalar.muli arg15 c2048_i32_59
  let v88 : Index := Scalar.indexCast v87
  ![0, v88.toNat]
@[reducible] def k0_t3_loop : Scf.Loop 32 :=
  let c0_i32_14 : BitVec 32 := 0#32
  let c4_i32_15 : BitVec 32 := 4#32
  let v22 : BitVec 32 := Scalar.addi c0_i32_14 c4_i32_15
  let c1_i32_16 : BitVec 32 := 1#32
  ⟨c0_i32_14, v22, c1_i32_16⟩
def k0_off8 (k0_t3 : Fin k0_t3_loop.trips) : Fin 3 → Nat :=
  let c0_56 : Index := 0#32
  let c0_i32_14 : BitVec 32 := 0#32
  let c1_i32_16 : BitVec 32 := 1#32
  let arg15 : BitVec 32 := Scf.iv c0_i32_14 c1_i32_16 k0_t3
  let c2048_i32 : BitVec 32 := 2048#32
  let v82 : BitVec 32 := Scalar.muli arg15 c2048_i32
  let v83 : Index := Scalar.indexCast v82
  let c0_57 : Index := 0#32
  ![0, v83.toNat, 0]
def k0_off9 (k0_t3 : Fin k0_t3_loop.trips) : Fin 2 → Nat :=
  let c0_60 : Index := 0#32
  let c0_i32_14 : BitVec 32 := 0#32
  let c1_i32_16 : BitVec 32 := 1#32
  let arg15 : BitVec 32 := Scf.iv c0_i32_14 c1_i32_16 k0_t3
  let c2048_i32_59 : BitVec 32 := 2048#32
  let v87 : BitVec 32 := Scalar.muli arg15 c2048_i32_59
  let v88 : Index := Scalar.indexCast v87
  ![0, v88.toNat]
def k0_off10 (k0_t3 : Fin k0_t3_loop.trips) : Fin 2 → Nat :=
  let c0_i32_14 : BitVec 32 := 0#32
  let c1_i32_16 : BitVec 32 := 1#32
  let arg15 : BitVec 32 := Scf.iv c0_i32_14 c1_i32_16 k0_t3
  let c2048_i32_64 : BitVec 32 := 2048#32
  let v111 : BitVec 32 := Scalar.muli arg15 c2048_i32_64
  let v112 : Index := Scalar.indexCast v111
  let c0_65 : Index := 0#32
  ![v112.toNat, 0]
@[reducible] def k0_t4_loop : Scf.Loop 32 :=
  let c0_i32_35 : BitVec 32 := 0#32
  let c4_i32_36 : BitVec 32 := 4#32
  let v52 : BitVec 32 := Scalar.addi c0_i32_35 c4_i32_36
  let c1_i32_37 : BitVec 32 := 1#32
  ⟨c0_i32_35, v52, c1_i32_37⟩
def k0_off11 (k0_t4 : Fin k0_t4_loop.trips) : Fin 2 → Nat :=
  let c0_i32_35 : BitVec 32 := 0#32
  let c1_i32_37 : BitVec 32 := 1#32
  let arg15 : BitVec 32 := Scf.iv c0_i32_35 c1_i32_37 k0_t4
  let c2048_i32 : BitVec 32 := 2048#32
  let v82 : BitVec 32 := Scalar.muli arg15 c2048_i32
  let v83 : Index := Scalar.indexCast v82
  let c0_56 : Index := 0#32
  ![v83.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S2048x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S4x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x8192x32 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S10x4096x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S10x1x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2048x32 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1x1x2048 .i32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .smem S1x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== ReferenceIdeal.lean ====
abbrev S4x512x512 : Shape := ⟨3, ![4, 512, 512]⟩
abbrev S4x4096 : Shape := ⟨2, ![4, 4096]⟩
abbrev S512x32 : Shape := ⟨2, ![512, 32]⟩
abbrev S32 : Shape := ⟨1, ![32]⟩
abbrev S32x8192x32 : Shape := ⟨3, ![32, 8192, 32]⟩
abbrev S10x4096x32 : Shape := ⟨3, ![10, 4096, 32]⟩
abbrev S10x32 : Shape := ⟨2, ![10, 32]⟩
abbrev S4x512x32 : Shape := ⟨3, ![4, 512, 32]⟩
abbrev S1x1x32 : Shape := ⟨3, ![1, 1, 32]⟩
abbrev S_ : Shape := ⟨0, ![]⟩
abbrev S32x4x512 : Shape := ⟨3, ![32, 4, 512]⟩
abbrev S1x4096x32 : Shape := ⟨3, ![1, 4096, 32]⟩
abbrev S4096x32 : Shape := ⟨2, ![4096, 32]⟩
abbrev S4x32 : Shape := ⟨2, ![4, 32]⟩
abbrev S1x32 : Shape := ⟨2, ![1, 32]⟩
abbrev S4x1x32 : Shape := ⟨3, ![4, 1, 32]⟩
abbrev S1x8192x32 : Shape := ⟨3, ![1, 8192, 32]⟩
abbrev S8192x32 : Shape := ⟨2, ![8192, 32]⟩
abbrev S4x512 : Shape := ⟨2, ![4, 512]⟩
abbrev S4x512x1 : Shape := ⟨3, ![4, 512, 1]⟩
abbrev S8192 : Shape := ⟨1, ![8192]⟩
abbrev S4x512x8192 : Shape := ⟨3, ![4, 512, 8192]⟩
abbrev S1x1x8192 : Shape := ⟨3, ![1, 1, 8192]⟩
abbrev S1 : Shape := ⟨1, ![1]⟩

abbrev nBuf : Space → Nat
  | .hbm => 169
  | .vmem => 0
  | .smem => 0
  | _ => 0

abbrev hbmTy0_0 (i : Nat) : BufTy := match i % 128 with
  | 0 => ⟨S4x512x512, .f32⟩
  | 1 => ⟨S4x4096, .f32⟩
  | 2 => ⟨S512x32, .f32⟩
  | 3 => ⟨S32, .f32⟩
  | 4 => ⟨S32x8192x32, .f32⟩
  | 5 => ⟨S10x4096x32, .f32⟩
  | 6 => ⟨S10x32, .f32⟩
  | 7 => ⟨S4x512x32, .f32⟩
  | 8 => ⟨S1x1x32, .f32⟩
  | 9 => ⟨S4x512x32, .f32⟩
  | 10 => ⟨S4x512x32, .f32⟩
  | 11 => ⟨S_, .f32⟩
  | 12 => ⟨S4x512x32, .f32⟩
  | 13 => ⟨S_, .i32⟩
  | 14 => ⟨S32x4x512, .i32⟩
  | 15 => ⟨S_, .i32⟩
  | 16 => ⟨S_, .f32⟩
  | 17 => ⟨S_, .i32⟩
  | 18 => ⟨S10x4096x32, .f32⟩
  | 19 => ⟨S4x4096, .f32⟩
  | 20 => ⟨S10x32, .f32⟩
  | 21 => ⟨S32x8192x32, .f32⟩
  | 22 => ⟨S4x512x32, .f32⟩
  | 23 => ⟨S_, .i32⟩
  | 24 => ⟨S_, .i32⟩
  | 25 => ⟨S4x512x32, .f32⟩
  | 26 => ⟨S4x512x32, .f32⟩
  | 27 => ⟨S32x4x512, .i32⟩
  | 28 => ⟨S_, .f32⟩
  | 29 => ⟨S_, .i32⟩
  | 30 => ⟨S_, .i1⟩
  | 31 => ⟨S_, .i32⟩
  | 32 => ⟨S_, .i32⟩
  | 33 => ⟨S_, .i32⟩
  | 34 => ⟨S_, .i32⟩
  | 35 => ⟨S_, .i32⟩
  | 36 => ⟨S_, .i32⟩
  | 37 => ⟨S_, .i1⟩
  | 38 => ⟨S_, .i32⟩
  | 39 => ⟨S_, .i32⟩
  | 40 => ⟨S_, .i32⟩
  | 41 => ⟨S_, .i32⟩
  | 42 => ⟨S_, .i32⟩
  | 43 => ⟨S_, .i1⟩
  | 44 => ⟨S_, .i32⟩
  | 45 => ⟨S_, .i32⟩
  | 46 => ⟨S_, .i32⟩
  | 47 => ⟨S_, .i32⟩
  | 48 => ⟨S_, .i32⟩
  | 49 => ⟨S_, .i32⟩
  | 50 => ⟨S_, .i32⟩
  | 51 => ⟨S_, .i1⟩
  | 52 => ⟨S_, .i32⟩
  | 53 => ⟨S_, .i32⟩
  | 54 => ⟨S_, .i32⟩
  | 55 => ⟨S_, .i32⟩
  | 56 => ⟨S_, .i32⟩
  | 57 => ⟨S1x4096x32, .f32⟩
  | 58 => ⟨S4096x32, .f32⟩
  | 59 => ⟨S4x32, .f32⟩
  | 60 => ⟨S_, .i32⟩
  | 61 => ⟨S_, .i32⟩
  | 62 => ⟨S_, .i1⟩
  | 63 => ⟨S_, .i32⟩
  | 64 => ⟨S_, .i32⟩
  | 65 => ⟨S_, .i32⟩
  | 66 => ⟨S_, .i32⟩
  | 67 => ⟨S_, .i32⟩
  | 68 => ⟨S_, .i1⟩
  | 69 => ⟨S_, .i32⟩
  | 70 => ⟨S_, .i32⟩
  | 71 => ⟨S_, .i32⟩
  | 72 => ⟨S_, .i32⟩
  | 73 => ⟨S_, .i32⟩
  | 74 => ⟨S1x32, .f32⟩
  | 75 => ⟨S32, .f32⟩
  | 76 => ⟨S1x32, .f32⟩
  | 77 => ⟨S4x32, .f32⟩
  | 78 => ⟨S4x32, .f32⟩
  | 79 => ⟨S_, .i32⟩
  | 80 => ⟨S_, .i1⟩
  | 81 => ⟨S4x1x32, .f32⟩
  | 82 => ⟨S_, .f32⟩
  | 83 => ⟨S4x1x32, .f32⟩
  | 84 => ⟨S4x1x32, .f32⟩
  | 85 => ⟨S4x512x32, .f32⟩
  | 86 => ⟨S4x512x32, .f32⟩
  | 87 => ⟨S4x512x32, .f32⟩
  | 88 => ⟨S_, .i32⟩
  | 89 => ⟨S_, .i32⟩
  | 90 => ⟨S_, .i1⟩
  | 91 => ⟨S_, .i32⟩
  | 92 => ⟨S_, .i32⟩
  | 93 => ⟨S_, .i32⟩
  | 94 => ⟨S_, .i32⟩
  | 95 => ⟨S_, .i32⟩
  | 96 => ⟨S_, .i1⟩
  | 97 => ⟨S_, .i32⟩
  | 98 => ⟨S_, .i32⟩
  | 99 => ⟨S_, .i32⟩
  | 100 => ⟨S_, .i32⟩
  | 101 => ⟨S_, .i32⟩
  | 102 => ⟨S_, .i32⟩
  | 103 => ⟨S_, .i32⟩
  | 104 => ⟨S_, .i1⟩
  | 105 => ⟨S_, .i32⟩
  | 106 => ⟨S_, .i32⟩
  | 107 => ⟨S_, .i32⟩
  | 108 => ⟨S_, .i32⟩
  | 109 => ⟨S_, .i32⟩
  | 110 => ⟨S1x8192x32, .f32⟩
  | 111 => ⟨S8192x32, .f32⟩
  | 112 => ⟨S4x512x32, .f32⟩
  | 113 => ⟨S_, .f32⟩
  | 114 => ⟨S4x512, .f32⟩
  | 115 => ⟨S4x512x1, .f32⟩
  | 116 => ⟨S8192x32, .f32⟩
  | 117 => ⟨S_, .f32⟩
  | 118 => ⟨S8192, .f32⟩
  | 119 => ⟨S4x512x8192, .f32⟩
  | 120 => ⟨S_, .f32⟩
  | 121 => ⟨S4x512x8192, .f32⟩
  | 122 => ⟨S4x512x8192, .f32⟩
  | 123 => ⟨S4x512x8192, .f32⟩
  | 124 => ⟨S4x512x8192, .f32⟩
  | 125 => ⟨S1x1x8192, .f32⟩
  | 126 => ⟨S4x512x8192, .f32⟩
  | 127 => ⟨S4x512x8192, .f32⟩
  | _ => ⟨S4x512x512, .f32⟩

abbrev hbmTy0_1 (i : Nat) : BufTy := match i % 128 with
  | 0 => ⟨S_, .f32⟩
  | 1 => ⟨S4x512x8192, .f32⟩
  | 2 => ⟨S4x512x8192, .f32⟩
  | 3 => ⟨S4x512x8192, .f32⟩
  | 4 => ⟨S4x512x8192, .i32⟩
  | 5 => ⟨S_, .f32⟩
  | 6 => ⟨S_, .i32⟩
  | 7 => ⟨S4x512, .f32⟩
  | 8 => ⟨S4x512, .i32⟩
  | 9 => ⟨S_, .i32⟩
  | 10 => ⟨S_, .i1⟩
  | 11 => ⟨S_, .i32⟩
  | 12 => ⟨S_, .i32⟩
  | 13 => ⟨S_, .i32⟩
  | 14 => ⟨S_, .i32⟩
  | 15 => ⟨S1, .i32⟩
  | 16 => ⟨S32x4x512, .i32⟩
  | 17 => ⟨S_, .i32⟩
  | 18 => ⟨S4x512, .i32⟩
  | 19 => ⟨S4x512, .i1⟩
  | 20 => ⟨S_, .i32⟩
  | 21 => ⟨S4x512, .i32⟩
  | 22 => ⟨S4x512, .i32⟩
  | 23 => ⟨S4x512, .i32⟩
  | 24 => ⟨S4x512x1, .i32⟩
  | 25 => ⟨S4x512x32, .f32⟩
  | 26 => ⟨S4x512x32, .f32⟩
  | 27 => ⟨S4x512x32, .f32⟩
  | 28 => ⟨S4x512x32, .f32⟩
  | 29 => ⟨S4x512x32, .f32⟩
  | 30 => ⟨S_, .f32⟩
  | 31 => ⟨S_, .f32⟩
  | 32 => ⟨S_, .f32⟩
  | 33 => ⟨S_, .f32⟩
  | 34 => ⟨S_, .f32⟩
  | 35 => ⟨S_, .i32⟩
  | 36 => ⟨S_, .i32⟩
  | 37 => ⟨S4x512x32, .f32⟩
  | 38 => ⟨S4x512x32, .f32⟩
  | 39 => ⟨S_, .f32⟩
  | 40 => ⟨S_, .f32⟩
  | _ => ⟨S4x512x512, .f32⟩

abbrev hbmTy (i : Nat) : BufTy := match i / 128 with
  | 0 => hbmTy0_0 i
  | 1 => hbmTy0_1 i
  | _ => ⟨S4x512x512, .f32⟩

abbrev bufTy : (tb : Table) → Fin (tcTables nBuf tb) → BufTy
  | .hbm, ⟨i, _⟩ => hbmTy i
  | _, _ => ⟨S4x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_c : Ref sig .tc := ⟨.hbm, 13, rfl⟩
abbrev main_v5 : Ref sig .tc := ⟨.hbm, 14, rfl⟩
abbrev main_c_0 : Ref sig .tc := ⟨.hbm, 15, rfl⟩
abbrev main_cst_1 : Ref sig .tc := ⟨.hbm, 16, rfl⟩
abbrev main_c_2 : Ref sig .tc := ⟨.hbm, 17, rfl⟩
abbrev main_v6_0 : Ref sig .tc := ⟨.hbm, 18, rfl⟩
abbrev main_v6_1 : Ref sig .tc := ⟨.hbm, 19, rfl⟩
abbrev main_v6_2 : Ref sig .tc := ⟨.hbm, 20, rfl⟩
abbrev main_v6_3 : Ref sig .tc := ⟨.hbm, 21, rfl⟩
abbrev main_v6_4 : Ref sig .tc := ⟨.hbm, 22, rfl⟩
abbrev main_v6_5 : Ref sig .tc := ⟨.hbm, 23, rfl⟩
abbrev main_v6_6 : Ref sig .tc := ⟨.hbm, 24, rfl⟩
abbrev main_v6_7 : Ref sig .tc := ⟨.hbm, 25, rfl⟩
abbrev main_v6_8 : Ref sig .tc := ⟨.hbm, 26, rfl⟩
abbrev main_v6_9 : Ref sig .tc := ⟨.hbm, 27, rfl⟩
abbrev main_v6_10 : Ref sig .tc := ⟨.hbm, 28, rfl⟩
abbrev main_while0c_c_14 : Ref sig .tc := ⟨.hbm, 29, rfl⟩
abbrev main_while0c_v10 : Ref sig .tc := ⟨.hbm, 30, rfl⟩
abbrev main_while0b_c_14 : Ref sig .tc := ⟨.hbm, 31, rfl⟩
abbrev main_while0b_v10 : Ref sig .tc := ⟨.hbm, 32, rfl⟩
abbrev main_while0b_c_15 : Ref sig .tc := ⟨.hbm, 33, rfl⟩
abbrev main_while0b_v11 : Ref sig .tc := ⟨.hbm, 34, rfl⟩
abbrev main_while0b_v12 : Ref sig .tc := ⟨.hbm, 35, rfl⟩
abbrev main_while0b_c_16 : Ref sig .tc := ⟨.hbm, 36, rfl⟩
abbrev main_while0b_v13 : Ref sig .tc := ⟨.hbm, 37, rfl⟩
abbrev main_while0b_c_17 : Ref sig .tc := ⟨.hbm, 38, rfl⟩
abbrev main_while0b_v14 : Ref sig .tc := ⟨.hbm, 39, rfl⟩
abbrev main_while0b_v15 : Ref sig .tc := ⟨.hbm, 40, rfl⟩
abbrev main_while0b_c_18 : Ref sig .tc := ⟨.hbm, 41, rfl⟩
abbrev main_while0b_c_19 : Ref sig .tc := ⟨.hbm, 42, rfl⟩
abbrev main_while0b_v16 : Ref sig .tc := ⟨.hbm, 43, rfl⟩
abbrev main_while0b_c_20 : Ref sig .tc := ⟨.hbm, 44, rfl⟩
abbrev main_while0b_c_21 : Ref sig .tc := ⟨.hbm, 45, rfl⟩
abbrev main_while0b_v17 : Ref sig .tc := ⟨.hbm, 46, rfl⟩
abbrev main_while0b_c_22 : Ref sig .tc := ⟨.hbm, 47, rfl⟩
abbrev main_while0b_v18 : Ref sig .tc := ⟨.hbm, 48, rfl⟩
abbrev main_while0b_c_23 : Ref sig .tc := ⟨.hbm, 49, rfl⟩
abbrev main_while0b_c_24 : Ref sig .tc := ⟨.hbm, 50, rfl⟩
abbrev main_while0b_v19 : Ref sig .tc := ⟨.hbm, 51, rfl⟩
abbrev main_while0b_c_25 : Ref sig .tc := ⟨.hbm, 52, rfl⟩
abbrev main_while0b_c_26 : Ref sig .tc := ⟨.hbm, 53, rfl⟩
abbrev main_while0b_v20 : Ref sig .tc := ⟨.hbm, 54, rfl⟩
abbrev main_while0b_c_27 : Ref sig .tc := ⟨.hbm, 55, rfl⟩
abbrev main_while0b_v21 : Ref sig .tc := ⟨.hbm, 56, rfl⟩
abbrev main_while0b_v22 : Ref sig .tc := ⟨.hbm, 57, rfl⟩
abbrev main_while0b_v23 : Ref sig .tc := ⟨.hbm, 58, rfl⟩
abbrev main_while0b_v24 : Ref sig .tc := ⟨.hbm, 59, rfl⟩
abbrev main_while0b_v25 : Ref sig .tc := ⟨.hbm, 60, rfl⟩
abbrev main_while0b_c_28 : Ref sig .tc := ⟨.hbm, 61, rfl⟩
abbrev main_while0b_v26 : Ref sig .tc := ⟨.hbm, 62, rfl⟩
abbrev main_while0b_c_29 : Ref sig .tc := ⟨.hbm, 63, rfl⟩
abbrev main_while0b_v27 : Ref sig .tc := ⟨.hbm, 64, rfl⟩
abbrev main_while0b_v28 : Ref sig .tc := ⟨.hbm, 65, rfl⟩
abbrev main_while0b_c_30 : Ref sig .tc := ⟨.hbm, 66, rfl⟩
abbrev main_while0b_c_31 : Ref sig .tc := ⟨.hbm, 67, rfl⟩
abbrev main_while0b_v29 : Ref sig .tc := ⟨.hbm, 68, rfl⟩
abbrev main_while0b_c_32 : Ref sig .tc := ⟨.hbm, 69, rfl⟩
abbrev main_while0b_c_33 : Ref sig .tc := ⟨.hbm, 70, rfl⟩
abbrev main_while0b_v30 : Ref sig .tc := ⟨.hbm, 71, rfl⟩
abbrev main_while0b_c_34 : Ref sig .tc := ⟨.hbm, 72, rfl⟩
abbrev main_while0b_v31 : Ref sig .tc := ⟨.hbm, 73, rfl⟩
abbrev main_while0b_v32 : Ref sig .tc := ⟨.hbm, 74, rfl⟩
abbrev main_while0b_v33 : Ref sig .tc := ⟨.hbm, 75, rfl⟩
abbrev main_while0b_v34 : Ref sig .tc := ⟨.hbm, 76, rfl⟩
abbrev main_while0b_v35 : Ref sig .tc := ⟨.hbm, 77, rfl⟩
abbrev main_while0b_v36 : Ref sig .tc := ⟨.hbm, 78, rfl⟩
abbrev main_while0b_c_35 : Ref sig .tc := ⟨.hbm, 79, rfl⟩
abbrev main_while0b_v37 : Ref sig .tc := ⟨.hbm, 80, rfl⟩
abbrev main_while0b_v38 : Ref sig .tc := ⟨.hbm, 81, rfl⟩
abbrev main_while0b_cst_36 : Ref sig .tc := ⟨.hbm, 82, rfl⟩
abbrev main_while0b_v39 : Ref sig .tc := ⟨.hbm, 83, rfl⟩
abbrev main_while0b_v40 : Ref sig .tc := ⟨.hbm, 84, rfl⟩
abbrev main_while0b_v41 : Ref sig .tc := ⟨.hbm, 85, rfl⟩
abbrev main_while0b_v42 : Ref sig .tc := ⟨.hbm, 86, rfl⟩
abbrev main_while0b_v43 : Ref sig .tc := ⟨.hbm, 87, rfl⟩
abbrev main_while0b_v44 : Ref sig .tc := ⟨.hbm, 88, rfl⟩
abbrev main_while0b_c_37 : Ref sig .tc := ⟨.hbm, 89, rfl⟩
abbrev main_while0b_v45 : Ref sig .tc := ⟨.hbm, 90, rfl⟩
abbrev main_while0b_c_38 : Ref sig .tc := ⟨.hbm, 91, rfl⟩
abbrev main_while0b_v46 : Ref sig .tc := ⟨.hbm, 92, rfl⟩
abbrev main_while0b_v47 : Ref sig .tc := ⟨.hbm, 93, rfl⟩
abbrev main_while0b_c_39 : Ref sig .tc := ⟨.hbm, 94, rfl⟩
abbrev main_while0b_c_40 : Ref sig .tc := ⟨.hbm, 95, rfl⟩
abbrev main_while0b_v48 : Ref sig .tc := ⟨.hbm, 96, rfl⟩
abbrev main_while0b_c_41 : Ref sig .tc := ⟨.hbm, 97, rfl⟩
abbrev main_while0b_c_42 : Ref sig .tc := ⟨.hbm, 98, rfl⟩
abbrev main_while0b_v49 : Ref sig .tc := ⟨.hbm, 99, rfl⟩
abbrev main_while0b_c_43 : Ref sig .tc := ⟨.hbm, 100, rfl⟩
abbrev main_while0b_v50 : Ref sig .tc := ⟨.hbm, 101, rfl⟩
abbrev main_while0b_c_44 : Ref sig .tc := ⟨.hbm, 102, rfl⟩
abbrev main_while0b_c_45 : Ref sig .tc := ⟨.hbm, 103, rfl⟩
abbrev main_while0b_v51 : Ref sig .tc := ⟨.hbm, 104, rfl⟩
abbrev main_while0b_c_46 : Ref sig .tc := ⟨.hbm, 105, rfl⟩
abbrev main_while0b_c_47 : Ref sig .tc := ⟨.hbm, 106, rfl⟩
abbrev main_while0b_v52 : Ref sig .tc := ⟨.hbm, 107, rfl⟩
abbrev main_while0b_c_48 : Ref sig .tc := ⟨.hbm, 108, rfl⟩
abbrev main_while0b_v53 : Ref sig .tc := ⟨.hbm, 109, rfl⟩
abbrev main_while0b_v54 : Ref sig .tc := ⟨.hbm, 110, rfl⟩
abbrev main_while0b_v55 : Ref sig .tc := ⟨.hbm, 111, rfl⟩
abbrev main_while0b_v56 : Ref sig .tc := ⟨.hbm, 112, rfl⟩
abbrev main_while0b_cst_49 : Ref sig .tc := ⟨.hbm, 113, rfl⟩
abbrev main_while0b_v57 : Ref sig .tc := ⟨.hbm, 114, rfl⟩
abbrev main_while0b_v58 : Ref sig .tc := ⟨.hbm, 115, rfl⟩
abbrev main_while0b_v59 : Ref sig .tc := ⟨.hbm, 116, rfl⟩
abbrev main_while0b_cst_50 : Ref sig .tc := ⟨.hbm, 117, rfl⟩
abbrev main_while0b_v60 : Ref sig .tc := ⟨.hbm, 118, rfl⟩
abbrev main_while0b_v61 : Ref sig .tc := ⟨.hbm, 119, rfl⟩
abbrev main_while0b_cst_51 : Ref sig .tc := ⟨.hbm, 120, rfl⟩
abbrev main_while0b_v62 : Ref sig .tc := ⟨.hbm, 121, rfl⟩
abbrev main_while0b_v63 : Ref sig .tc := ⟨.hbm, 122, rfl⟩
abbrev main_while0b_v64 : Ref sig .tc := ⟨.hbm, 123, rfl⟩
abbrev main_while0b_v65 : Ref sig .tc := ⟨.hbm, 124, rfl⟩
abbrev main_while0b_v66 : Ref sig .tc := ⟨.hbm, 125, rfl⟩
abbrev main_while0b_v67 : Ref sig .tc := ⟨.hbm, 126, rfl⟩
abbrev main_while0b_v68 : Ref sig .tc := ⟨.hbm, 127, rfl⟩
abbrev main_while0b_cst_52 : Ref sig .tc := ⟨.hbm, 128, rfl⟩
abbrev main_while0b_v69 : Ref sig .tc := ⟨.hbm, 129, rfl⟩
abbrev main_while0b_v70 : Ref sig .tc := ⟨.hbm, 130, rfl⟩
abbrev main_while0b_v71 : Ref sig .tc := ⟨.hbm, 131, rfl⟩
abbrev main_while0b_call1_v0 : Ref sig .tc := ⟨.hbm, 132, rfl⟩
abbrev main_while0b_call1_cst : Ref sig .tc := ⟨.hbm, 133, rfl⟩
abbrev main_while0b_call1_c : Ref sig .tc := ⟨.hbm, 134, rfl⟩
abbrev main_while0b_call1_v1_0 : Ref sig .tc := ⟨.hbm, 135, rfl⟩
abbrev main_while0b_v72 : Ref sig .tc := ⟨.hbm, 136, rfl⟩
abbrev main_while0b_c_53 : Ref sig .tc := ⟨.hbm, 137, rfl⟩
abbrev main_while0b_v73 : Ref sig .tc := ⟨.hbm, 138, rfl⟩
abbrev main_while0b_c_54 : Ref sig .tc := ⟨.hbm, 139, rfl⟩
abbrev main_while0b_v74 : Ref sig .tc := ⟨.hbm, 140, rfl⟩
abbrev main_while0b_v75 : Ref sig .tc := ⟨.hbm, 141, rfl⟩
abbrev main_while0b_v76 : Ref sig .tc := ⟨.hbm, 142, rfl⟩
abbrev main_while0b_v77 : Ref sig .tc := ⟨.hbm, 143, rfl⟩
abbrev main_while0b_v78 : Ref sig .tc := ⟨.hbm, 144, rfl⟩
abbrev main_while0b_c_55 : Ref sig .tc := ⟨.hbm, 145, rfl⟩
abbrev main_while0b_v79 : Ref sig .tc := ⟨.hbm, 146, rfl⟩
abbrev main_while0b_v80 : Ref sig .tc := ⟨.hbm, 147, rfl⟩
abbrev main_while0b_c_56 : Ref sig .tc := ⟨.hbm, 148, rfl⟩
abbrev main_while0b_v81 : Ref sig .tc := ⟨.hbm, 149, rfl⟩
abbrev main_while0b_v82 : Ref sig .tc := ⟨.hbm, 150, rfl⟩
abbrev main_while0b_v83 : Ref sig .tc := ⟨.hbm, 151, rfl⟩
abbrev main_while0b_v84 : Ref sig .tc := ⟨.hbm, 152, rfl⟩
abbrev main_while0b_v85 : Ref sig .tc := ⟨.hbm, 153, rfl⟩
abbrev main_while0b_v86 : Ref sig .tc := ⟨.hbm, 154, rfl⟩
abbrev main_while0b_v87 : Ref sig .tc := ⟨.hbm, 155, rfl⟩
abbrev main_while0b_v88 : Ref sig .tc := ⟨.hbm, 156, rfl⟩
abbrev main_while0b_v89 : Ref sig .tc := ⟨.hbm, 157, rfl⟩
abbrev main_while0b_cst_57 : Ref sig .tc := ⟨.hbm, 158, rfl⟩
abbrev main_while0b_v90 : Ref sig .tc := ⟨.hbm, 159, rfl⟩
abbrev main_while0b_cst_58 : Ref sig .tc := ⟨.hbm, 160, rfl⟩
abbrev main_while0b_v91 : Ref sig .tc := ⟨.hbm, 161, rfl⟩
abbrev main_while0b_v92 : Ref sig .tc := ⟨.hbm, 162, rfl⟩
abbrev main_while0b_c_59 : Ref sig .tc := ⟨.hbm, 163, rfl⟩
abbrev main_while0b_v93 : Ref sig .tc := ⟨.hbm, 164, rfl⟩
abbrev main_v7 : Ref sig .tc := ⟨.hbm, 165, rfl⟩
abbrev main_v8 : Ref sig .tc := ⟨.hbm, 166, rfl⟩
abbrev main_cst_3 : Ref sig .tc := ⟨.hbm, 167, rfl⟩
abbrev main_v9 : Ref sig .tc := ⟨.hbm, 168, rfl⟩

abbrev nD : Nat := 1
abbrev τ : Topo := Topo.v7x

variable {F : FTy → Type} [FloatOps F]

abbrev main_while0_count : Scf.Loop 32 := ⟨0#32, 32#32, 1#32⟩
-- ==== Proof.KernelIdeal.Prep.lean ====
/-
The prep loop of the kernel, read back as one closed description of what it leaves in its two scratch buffers: the
squared norms of the codebook's rows, and the three-part table of its rows. After the loop neither buffer depends on
what it held before, which is what lets one grid step be described from its inputs alone.
-/
module

public import proofs.«01_k».proof.Proof.Gen.KernelIdeal.Loops
public import Idealize.ShloMosaic.Lib.Pipeline.Frame
public import Idealize.ShloMosaic.Lib.WritesUnit
public import Idealize.ShloMosaic.Lib.WholeRead
public import Idealize.ShloMosaic.Lib.ValueIdxCore

@[expose] public section

set_option maxRecDepth 8192

noncomputable section

namespace Cert.KernelIdeal.Prep

open Cert.KernelIdeal Cert.KernelIdeal.Gen
open Idealize.ShloMosaic Idealize.ShloMosaic.ValueIdx Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The loop runs four trips. -/
theorem trips_eq : k0_t1_loop.trips = 4 := by decide +kernel

/-- The chunk of 2048 codebook rows trip `k` reads. -/
def chunk (cb : Vec F S1x8192x32 .f32) (k : Fin k0_t1_loop.trips) : Vec F S1x2048x32 .f32 := fun z =>
  cb ((Rect.unit (s := S1x8192x32) (k0_off3 k) S1x2048x32.size (k0_off3_inb k)).toLoadRect.idx z)

/-- The trip that writes column (or row) `n` of a scratch buffer. -/
def tripOf (n : Fin 8192) : Fin k0_t1_loop.trips := ⟨n.val / 2048, by rw [trips_eq]; omega⟩

/-- The squared norms of the codebook's rows, as the prep loop leaves them: column `n` is the norm its trip computed. -/
def b2Of (cb : Vec F S1x8192x32 .f32) : Vec F S1x8192 .f32 := fun y =>
  k0_pay11 (chunk cb (tripOf (y 1))) (ix2 (n0 := 1) (n1 := 2048) 0 ⟨(y 1).val % 2048, Nat.mod_lt _ (by decide)⟩)

/-- The three-part table of the codebook's rows, as the prep loop leaves it: row `n` is the row its trip computed. -/
def tblOf (cb : Vec F S1x8192x32 .f32) : Vec F S8192x96 .f32 := fun y =>
  k0_pay12 (chunk cb (tripOf (y 0))) (ix2 (n0 := 2048) (n1 := 96) ⟨(y 0).val % 2048, Nat.mod_lt _ (by decide)⟩ (y 1))

variable (𝒱 : Variants) (c : Dev nD) (bd : Option 𝒱.V) (i : grid0.Coords)
  (arg1 : Memref sig .tc .vmem S2048x512 .f32) (harg1 : arg1.IsWhole) (arg2 : Memref sig .tc .vmem S4x4096 .f32) (harg2 : arg2.IsWhole)
  (arg3 : Memref sig .tc .vmem S512x32 .f32) (harg3 : arg3.IsWhole) (arg4 : Memref sig .tc .vmem S1x32 .f32) (harg4 : arg4.IsWhole)
  (arg5 : Memref sig .tc .vmem S1x8192x32 .f32) (harg5 : arg5.IsWhole) (arg6 : Memref sig .tc .vmem S10x4096x32 .f32) (harg6 : arg6.IsWhole)
  (arg7 : Memref sig .tc .vmem S10x1x32 .f32) (harg7 : arg7.IsWhole) (arg8 : Memref sig .tc .vmem S2048x32 .f32) (harg8 : arg8.IsWhole)
  (arg9 : Memref sig .tc .vmem S1x1x2048 .i32) (harg9 : arg9.IsWhole) (arg10 : Memref sig .tc .smem S1x1 .f32) (harg10 : arg10.IsWhole)
  (arg11 : Memref sig .tc .vmem S2048x32 .f32) (harg11 : arg11.IsWhole) (arg12 : Memref sig .tc .vmem S2048x32 .f32) (harg12 : arg12.IsWhole)
  (arg13 : Memref sig .tc .vmem S1x8192 .f32) (harg13 : arg13.IsWhole) (arg14 : Memref sig .tc .vmem S8192x96 .f32) (harg14 : arg14.IsWhole)
  (X : BufTy.Contents (Elt F) arg5.view.ty)

/-- Trip `k` of the prep loop reads the codebook's chunk `k` and writes one piece into each buffer. -/
theorem trip_pieces (k : Fin k0_t1_loop.trips) :
    tripL_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 X k
      = ([⟨Rect.unit (s := S1x8192) (k0_off4 k) S1x2048.size (k0_off4_inb k),
            k0_pay11 (arg5.view.readAt (Elt F) (Rect.unit (s := S1x8192x32) (k0_off3 k) S1x2048x32.size (k0_off3_inb k)).toLoadRect X)⟩],
         [⟨Rect.unit (s := S8192x96) (k0_off5 k) S2048x96.size (k0_off5_inb k),
            k0_pay12 (arg5.view.readAt (Elt F) (Rect.unit (s := S1x8192x32) (k0_off3 k) S1x2048x32.size (k0_off3_inb k)).toLoadRect X)⟩]) := by
  unfold tripL_k0_t1 trip_k0_t1
  rfl

/-- A read of the codebook's buffer through trip `k`'s rectangle is the chunk. -/
theorem readAt_chunk (k : Fin k0_t1_loop.trips) :
    arg5.view.readAt (Elt F) (Rect.unit (s := S1x8192x32) (k0_off3 k) S1x2048x32.size (k0_off3_inb k)).toLoadRect X
      = chunk (arg5.view.read (Elt F) X) k := by
  funext z; rw [View.readAt_apply]; rfl

/-- Before trip `n`, the columns of the norms' buffer below `2048 * n` hold the norms and the others what they held. -/
theorem read_pieces_norms (G : BufTy.Contents (Elt F) arg13.view.ty) (n : ℕ) (hn : n ≤ 4) (y : S1x8192.Idx) :
    arg13.view.read (Elt F) (arg13.view.writes (Elt F) G (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 X n).1) y
      = if (y 1).val < 2048 * n then b2Of (arg5.view.read (Elt F) X) y else arg13.view.read (Elt F) G y := by
  induction n with
  | zero => rw [if_neg (by omega)]; rfl
  | succ n ih =>
    have hlt : n < k0_t1_loop.trips := by rw [trips_eq]; omega
    have hs := pb_k0_t1_succ (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 X ⟨n, hlt⟩
    rw [trip_pieces] at hs
    rw [show n + 1 = (⟨n, hlt⟩ : Fin k0_t1_loop.trips).val + 1 from rfl, hs, readAt_chunk]
    show arg13.view.read (Elt F) (arg13.view.writes (Elt F) G (_ :: (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 X n).1)) y = _
    by_cases h : (y 1).val < 2048 * n
    · rw [View.read_writes_cons_unit_of_not_mem arg13.view G (s := S1x8192) (size := S1x2048.size) (k0_off4_inb ⟨n, hlt⟩) _ _ y (k0_off4_eq ⟨n, hlt⟩) 1 (Or.inl h), ih (by omega),
        if_pos h, if_pos (by show (y 1).val < 2048 * (n + 1); omega)]
    · by_cases h' : (y 1).val < 2048 * (n + 1)
      · have hk : tripOf (y 1) = ⟨n, hlt⟩ := Fin.ext (by show (y 1).val / 2048 = n; omega)
        rw [if_pos h', View.read_writes_cons_unit_of_mem arg13.view G (s := S1x8192) (size := S1x2048.size) (k0_off4_inb ⟨n, hlt⟩) _ _ y
          (ix2 (n0 := 1) (n1 := 2048) 0 ⟨(y 1).val % 2048, Nat.mod_lt _ (by decide)⟩) (k0_off4_eq ⟨n, hlt⟩)
          (Fin.forall_fin_two.mpr ⟨by
              have := (y 0).isLt
              show (y 0).val = 0 + 0
              have : (y 0).val < 1 := (y 0).isLt
              omega, by
              show (y 1).val = 2048 * n + (y 1).val % 2048
              omega⟩), b2Of, hk]
      · rw [View.read_writes_cons_unit_of_not_mem arg13.view G (s := S1x8192) (size := S1x2048.size) (k0_off4_inb ⟨n, hlt⟩) _ _ y (k0_off4_eq ⟨n, hlt⟩) 1
            (Or.inr (by show 2048 * n + 2048 ≤ (y 1).val; omega)), ih (by omega), if_neg h,
          if_neg (by show ¬ (y 1).val < 2048 * (n + 1); exact h')]

/-- Before trip `n`, the rows of the table's buffer below `2048 * n` hold the table and the others what they held. -/
theorem read_pieces_table (G : BufTy.Contents (Elt F) arg14.view.ty) (n : ℕ) (hn : n ≤ 4) (y : S8192x96.Idx) :
    arg14.view.read (Elt F) (arg14.view.writes (Elt F) G (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 X n).2) y
      = if (y 0).val < 2048 * n then tblOf (arg5.view.read (Elt F) X) y else arg14.view.read (Elt F) G y := by
  induction n with
  | zero => rw [if_neg (by omega)]; rfl
  | succ n ih =>
    have hlt : n < k0_t1_loop.trips := by rw [trips_eq]; omega
    have hs := pb_k0_t1_succ (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 X ⟨n, hlt⟩
    rw [trip_pieces] at hs
    rw [show n + 1 = (⟨n, hlt⟩ : Fin k0_t1_loop.trips).val + 1 from rfl, hs, readAt_chunk]
    show arg14.view.read (Elt F) (arg14.view.writes (Elt F) G (_ :: (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 X n).2)) y = _
    by_cases h : (y 0).val < 2048 * n
    · rw [View.read_writes_cons_unit_of_not_mem arg14.view G (s := S8192x96) (size := S2048x96.size) (k0_off5_inb ⟨n, hlt⟩) _ _ y (k0_off5_eq ⟨n, hlt⟩) 0 (Or.inl h), ih (by omega),
        if_pos h, if_pos (by show (y 0).val < 2048 * (n + 1); omega)]
    · by_cases h' : (y 0).val < 2048 * (n + 1)
      · have hk : tripOf (y 0) = ⟨n, hlt⟩ := Fin.ext (by show (y 0).val / 2048 = n; omega)
        rw [if_pos h', View.read_writes_cons_unit_of_mem arg14.view G (s := S8192x96) (size := S2048x96.size) (k0_off5_inb ⟨n, hlt⟩) _ _ y
          (ix2 (n0 := 2048) (n1 := 96) ⟨(y 0).val % 2048, Nat.mod_lt _ (by decide)⟩ (y 1)) (k0_off5_eq ⟨n, hlt⟩)
          (Fin.forall_fin_two.mpr ⟨by
              show (y 0).val = 2048 * n + (y 0).val % 2048
              omega, by
              show (y 1).val = 0 + (y 1).val
              omega⟩), tblOf, hk]
      · rw [View.read_writes_cons_unit_of_not_mem arg14.view G (s := S8192x96) (size := S2048x96.size) (k0_off5_inb ⟨n, hlt⟩) _ _ y (k0_off5_eq ⟨n, hlt⟩) 0
            (Or.inr (by show 2048 * n + 2048 ≤ (y 0).val; omega)), ih (by omega), if_neg h,
          if_neg (by show ¬ (y 0).val < 2048 * (n + 1); exact h')]

/-- What the continuation after the prep loop starts from: the codebook as it was, the norms' buffer at the norms and
    the table's buffer at the table. -/
instance exit_prep (E : Set ℕ) (G13 : BufTy.Contents (Elt F) arg13.view.ty) (G14 : BufTy.Contents (Elt F) arg14.view.ty) :
    LoopExit (loopInv_k0_t1 (F := F) 𝒱 c bd E i arg1 harg1 arg2 harg2 arg3 harg3 arg4 harg4 arg5 harg5 arg6 harg6 arg7 harg7 arg8 harg8 arg9 harg9 arg10 harg10 arg11 harg11 arg12 harg12 arg13 harg13 arg14 harg14 X G13 G14) where
  post _ := iprop((arg5.view.loc (c : Thread nD τ) ↦[arg5.view.set]{fullShare} X)
    ∗ (arg13.view.loc (c : Thread nD τ) ↦[arg13.view.set]{fullShare} harg13.unread (b2Of (arg5.view.read (Elt F) X)))
    ∗ (arg14.view.loc (c : Thread nD τ) ↦[arg14.view.set]{fullShare} harg14.unread (tblOf (arg5.view.read (Elt F) X))))
  exit _ := by
    have h13 := harg13.eq_unread (f := arg13.view.writes (Elt F) G13 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 X 4).1)
      (X := b2Of (arg5.view.read (Elt F) X)) (by
        funext y
        rw [read_pieces_norms (hn := le_rfl), if_pos (show (y 1).val < 2048 * 4 from (y 1).isLt)])
    have h14 := harg14.eq_unread (f := arg14.view.writes (Elt F) G14 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 X 4).2)
      (X := tblOf (arg5.view.read (Elt F) X)) (by
        funext y
        rw [read_pieces_table (hn := le_rfl), if_pos (show (y 0).val < 2048 * 4 from (y 0).isLt)])
    rw [← h13, ← h14]
    show inv_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 X G13 G14 k0_t1_loop.trips _ ⊢ _
    rw [trips_eq]
    unfold inv_k0_t1
    iintro ⟨H5, ⟨%f13, H13, %e13⟩, ⟨%f14, H14, %e14⟩⟩
    subst e13 e14
    isplitl [H5]; · iexact H5
    isplitl [H13]; · iexact H13
    iexact H14

end Cert.KernelIdeal.Prep
-- ==== Proof.KernelIdeal.RunA.lean ====
/- GENERATED, UNTRUSTED: the whole-body RUN of `proofs.«01_k».proof.KernelIdeal`'s kernel in
   case A of its frame certificate (`Gen.kernelRun0_A`: the body's triple by `sl_exec` over the skeleton; the
   pieces each buffer ends with are the witness) — one module per case, so that each case elaborates in a separate
   `lean` process with its own memory; the run modules form a chain (each imports the one before) so that an
   auxiliary theorem `simp` generates for a part's skeleton (`<part>_skel.congr_simp`) is declared in one module only. DO NOT EDIT. -/
module

public import proofs.«01_k».proof.Proof.Gen.KernelIdeal.Frame.Runs
public import proofs.«01_k».proof.Proof.KernelIdeal.Prep

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE A (`scf.if` 0 taken, `scf.if` 1 taken: points 0), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg1 : Memref sig .tc .vmem S2048x512 .f32) (harg1 : arg1.IsWhole) (arg2 : Memref sig .tc .vmem S4x4096 .f32) (harg2 : arg2.IsWhole) (arg3 : Memref sig .tc .vmem S512x32 .f32) (harg3 : arg3.IsWhole) (arg4 : Memref sig .tc .vmem S1x32 .f32) (harg4 : arg4.IsWhole) (arg5 : Memref sig .tc .vmem S1x8192x32 .f32) (harg5 : arg5.IsWhole) (arg6 : Memref sig .tc .vmem S10x4096x32 .f32) (harg6 : arg6.IsWhole) (arg7 : Memref sig .tc .vmem S10x1x32 .f32) (harg7 : arg7.IsWhole) (arg8 : Memref sig .tc .vmem S2048x32 .f32) (harg8 : arg8.IsWhole) (arg9 : Memref sig .tc .vmem S1x1x2048 .i32) (harg9 : arg9.IsWhole) (arg10 : Memref sig .tc .smem S1x1 .f32) (harg10 : arg10.IsWhole) (arg11 : Memref sig .tc .vmem S2048x32 .f32) (harg11 : arg11.IsWhole) (arg12 : Memref sig .tc .vmem S2048x32 .f32) (harg12 : arg12.IsWhole) (arg13 : Memref sig .tc .vmem S1x8192 .f32) (harg13 : arg13.IsWhole) (arg14 : Memref sig .tc .vmem S8192x96 .f32) (harg14 : arg14.IsWhole) (hc0 : cond0_0 i) (hc1 : cond0_1 i)
    (x0 : Vec F S2048x512 .f32) (x1 : Vec F S4x4096 .f32) (x2 : Vec F S512x32 .f32) (x3 : Vec F S1x32 .f32) (x4 : Vec F S1x8192x32 .f32) (x5 : Vec F S10x4096x32 .f32) (x6 : Vec F S10x1x32 .f32) :
    Σ' (L7 : List (View.Piece (Elt F) S2048x32 .f32)), Σ' (L8 : List (View.Piece (Elt F) S1x1x2048 .i32)), Σ' (L9 : List (View.Piece (Elt F) S1x1 .f32)), Σ' (LS0 : List (View.Piece (Elt F) S2048x32 .f32)), { LS1 : List (View.Piece (Elt F) S2048x32 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f LS0) ∗ (∃ f, arg12.view.loc (c : Thread nD τ) ↦[arg12.view.set]{fullShare} arg12.view.writes (Elt F) f LS1) ∗ (∃ d, owns (c : Thread nD τ) arg13 fullShare d) ∗ (∃ d, owns (c : Thread nD τ) arg14 fullShare d)) -∗ K ⟨⟩))
          ⊢ wp frame (wpE (defs₀ (F := F)) Variants.none c none) E (cc0__rvq_body i arg1 harg1 arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, ?_, ?_, fun E K => ?run⟩
  case run =>
    simp only [cc0__rvq_body_eq_skeleton]; unfold cc0__rvq_body_skel
    simp only [k0_part2_eq_skeleton, k0_part1_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%ds0, %fs0, -, HS0⟩, ⟨%ds1, %fs1, -, HS1⟩, ⟨%ds2, %fs2, -, HS2⟩, ⟨%ds3, %fs3, -, HS3⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [HL0]
    · iexists _; isplitr; · ipureintro; exact harg5.read_unread _
      iexact HL0
    isplitl [H5]
    · iexists _; isplitr; · ipureintro; exact harg6.read_unread _
      iexact H5
    isplitl [H6]
    · iexists _; isplitr; · ipureintro; exact harg7.read_unread _
      iexact H6
    isplitl [H7]; · iexists _; iexact H7
    isplitl [H8]; · iexists _; iexact H8
    isplitl [H9]; · iexists _; iexact H9
    isplitl [HS0]; · iexists _; iexact HS0
    isplitl [HS1]; · iexists _; iexact HS1
    isplitl [HL1]
    · iexists _, _; isplitr; swap; · iexact HL1
      ipureintro; rfl
    iexists _, _; isplitr; swap; · iexact HL2
    ipureintro; rfl

end Cert.KernelIdeal.Gen

end
-- ==== Proof.KernelIdeal.RunB.lean ====
/- GENERATED, UNTRUSTED: the whole-body RUN of `proofs.«01_k».proof.KernelIdeal`'s kernel in
   case B of its frame certificate (`Gen.kernelRun0_B`: the body's triple by `sl_exec` over the skeleton; the
   pieces each buffer ends with are the witness) — one module per case, so that each case elaborates in a separate
   `lean` process with its own memory; the run modules form a chain (each imports the one before) so that an
   auxiliary theorem `simp` generates for a part's skeleton (`<part>_skel.congr_simp`) is declared in one module only. DO NOT EDIT. -/
module

public import proofs.«01_k».proof.Proof.KernelIdeal.RunA

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE B (`scf.if` 0 not taken, `scf.if` 1 taken: points 1, 2, … 9: 9 of 32), WITH the
    proof that on whole staging memrefs — the inputs' at their contents, the outputs it reads before covering (7, 9) at their running contents `xo·`, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg1 : Memref sig .tc .vmem S2048x512 .f32) (harg1 : arg1.IsWhole) (arg2 : Memref sig .tc .vmem S4x4096 .f32) (harg2 : arg2.IsWhole) (arg3 : Memref sig .tc .vmem S512x32 .f32) (harg3 : arg3.IsWhole) (arg4 : Memref sig .tc .vmem S1x32 .f32) (harg4 : arg4.IsWhole) (arg5 : Memref sig .tc .vmem S1x8192x32 .f32) (harg5 : arg5.IsWhole) (arg6 : Memref sig .tc .vmem S10x4096x32 .f32) (harg6 : arg6.IsWhole) (arg7 : Memref sig .tc .vmem S10x1x32 .f32) (harg7 : arg7.IsWhole) (arg8 : Memref sig .tc .vmem S2048x32 .f32) (harg8 : arg8.IsWhole) (arg9 : Memref sig .tc .vmem S1x1x2048 .i32) (harg9 : arg9.IsWhole) (arg10 : Memref sig .tc .smem S1x1 .f32) (harg10 : arg10.IsWhole) (arg11 : Memref sig .tc .vmem S2048x32 .f32) (harg11 : arg11.IsWhole) (arg12 : Memref sig .tc .vmem S2048x32 .f32) (harg12 : arg12.IsWhole) (arg13 : Memref sig .tc .vmem S1x8192 .f32) (harg13 : arg13.IsWhole) (arg14 : Memref sig .tc .vmem S8192x96 .f32) (harg14 : arg14.IsWhole) (hc0 : ¬cond0_0 i) (hc1 : cond0_1 i)
    (x0 : Vec F S2048x512 .f32) (x1 : Vec F S4x4096 .f32) (x2 : Vec F S512x32 .f32) (x3 : Vec F S1x32 .f32) (x4 : Vec F S1x8192x32 .f32) (x5 : Vec F S10x4096x32 .f32) (x6 : Vec F S10x1x32 .f32) (xo7 : Vec F S2048x32 .f32) (xo9 : Vec F S1x1 .f32) (xs0 : Vec F S2048x32 .f32) (xs1 : Vec F S2048x32 .f32) :
    Σ' (L7 : List (View.Piece (Elt F) S2048x32 .f32)), Σ' (L8 : List (View.Piece (Elt F) S1x1x2048 .i32)), Σ' (L9 : List (View.Piece (Elt F) S1x1 .f32)), Σ' (LS0 : List (View.Piece (Elt F) S2048x32 .f32)), { LS1 : List (View.Piece (Elt F) S2048x32 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare xo7 ∗ (∃ d, owns (c : Thread nD τ) arg9 fullShare d) ∗ owns (c : Thread nD τ) arg10 fullShare xo9 ∗ owns (c : Thread nD τ) arg11 fullShare xs0 ∗ owns (c : Thread nD τ) arg12 fullShare xs1 ∗ (∃ d, owns (c : Thread nD τ) arg13 fullShare d) ∗ (∃ d, owns (c : Thread nD τ) arg14 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9) ∗ owns (c : Thread nD τ) arg11 fullShare xs0 ∗ (∃ f, arg12.view.loc (c : Thread nD τ) ↦[arg12.view.set]{fullShare} arg12.view.writes (Elt F) f LS1) ∗ (∃ d, owns (c : Thread nD τ) arg13 fullShare d) ∗ (∃ d, owns (c : Thread nD τ) arg14 fullShare d)) -∗ K ⟨⟩))
          ⊢ wp frame (wpE (defs₀ (F := F)) Variants.none c none) E (cc0__rvq_body i arg1 harg1 arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, [], ?_, fun E K => ?run⟩
  case run =>
    simp only [cc0__rvq_body_eq_skeleton]; unfold cc0__rvq_body_skel
    simp only [k0_part2_eq_skeleton, k0_part1_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, ⟨%fs0, %hfs0, HS0⟩, ⟨%fs1, %hfs1, HS1⟩, ⟨%ds2, %fs2, -, HS2⟩, ⟨%ds3, %fs3, -, HS3⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg10.eq_unread hf9; obtain rfl := harg11.eq_unread hfs0; obtain rfl := harg12.eq_unread hfs1
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [HL0]
    · iexists _; isplitr; · ipureintro; exact harg5.read_unread _
      iexact HL0
    isplitl [H5]
    · iexists _; isplitr; · ipureintro; exact harg6.read_unread _
      iexact H5
    isplitl [H6]
    · iexists _; isplitr; · ipureintro; exact harg7.read_unread _
      iexact H6
    isplitl [H7]; · iexists _; iexact H7
    isplitl [H8]; · iexists _; iexact H8
    isplitl [H9]; · iexists _; iexact H9
    isplitl [HS0]
    · iexists _; isplitr; · ipureintro; exact harg11.read_unread _
      iexact HS0
    isplitl [HS1]; · iexists _; iexact HS1
    isplitl [HL1]
    · iexists _, _; isplitr; swap; · iexact HL1
      ipureintro; rfl
    iexists _, _; isplitr; swap; · iexact HL2
    ipureintro; rfl

end Cert.KernelIdeal.Gen

end
-- ==== Proof.KernelIdeal.RunC.lean ====
/- GENERATED, UNTRUSTED: the whole-body RUN of `proofs.«01_k».proof.KernelIdeal`'s kernel in
   case C of its frame certificate (`Gen.kernelRun0_C`: the body's triple by `sl_exec` over the skeleton; the
   pieces each buffer ends with are the witness) — one module per case, so that each case elaborates in a separate
   `lean` process with its own memory; the run modules form a chain (each imports the one before) so that an
   auxiliary theorem `simp` generates for a part's skeleton (`<part>_skel.congr_simp`) is declared in one module only. DO NOT EDIT. -/
module

public import proofs.«01_k».proof.Proof.KernelIdeal.RunB

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE C (`scf.if` 0 not taken, `scf.if` 1 not taken: points 10, 11, … 31: 22 of 32), WITH the
    proof that on whole staging memrefs — the inputs' at their contents, the outputs it reads before covering (7, 9) at their running contents `xo·`, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_C (c : Dev nD) (i : grid0.Coords) (arg1 : Memref sig .tc .vmem S2048x512 .f32) (harg1 : arg1.IsWhole) (arg2 : Memref sig .tc .vmem S4x4096 .f32) (harg2 : arg2.IsWhole) (arg3 : Memref sig .tc .vmem S512x32 .f32) (harg3 : arg3.IsWhole) (arg4 : Memref sig .tc .vmem S1x32 .f32) (harg4 : arg4.IsWhole) (arg5 : Memref sig .tc .vmem S1x8192x32 .f32) (harg5 : arg5.IsWhole) (arg6 : Memref sig .tc .vmem S10x4096x32 .f32) (harg6 : arg6.IsWhole) (arg7 : Memref sig .tc .vmem S10x1x32 .f32) (harg7 : arg7.IsWhole) (arg8 : Memref sig .tc .vmem S2048x32 .f32) (harg8 : arg8.IsWhole) (arg9 : Memref sig .tc .vmem S1x1x2048 .i32) (harg9 : arg9.IsWhole) (arg10 : Memref sig .tc .smem S1x1 .f32) (harg10 : arg10.IsWhole) (arg11 : Memref sig .tc .vmem S2048x32 .f32) (harg11 : arg11.IsWhole) (arg12 : Memref sig .tc .vmem S2048x32 .f32) (harg12 : arg12.IsWhole) (arg13 : Memref sig .tc .vmem S1x8192 .f32) (harg13 : arg13.IsWhole) (arg14 : Memref sig .tc .vmem S8192x96 .f32) (harg14 : arg14.IsWhole) (hc0 : ¬cond0_0 i) (hc1 : ¬cond0_1 i)
    (x0 : Vec F S2048x512 .f32) (x1 : Vec F S4x4096 .f32) (x2 : Vec F S512x32 .f32) (x3 : Vec F S1x32 .f32) (x4 : Vec F S1x8192x32 .f32) (x5 : Vec F S10x4096x32 .f32) (x6 : Vec F S10x1x32 .f32) (xo7 : Vec F S2048x32 .f32) (xo9 : Vec F S1x1 .f32) (xs0 : Vec F S2048x32 .f32) (xs1 : Vec F S2048x32 .f32) :
    Σ' (L7 : List (View.Piece (Elt F) S2048x32 .f32)), Σ' (L8 : List (View.Piece (Elt F) S1x1x2048 .i32)), Σ' (L9 : List (View.Piece (Elt F) S1x1 .f32)), Σ' (LS0 : List (View.Piece (Elt F) S2048x32 .f32)), { LS1 : List (View.Piece (Elt F) S2048x32 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare xo7 ∗ (∃ d, owns (c : Thread nD τ) arg9 fullShare d) ∗ owns (c : Thread nD τ) arg10 fullShare xo9 ∗ owns (c : Thread nD τ) arg11 fullShare xs0 ∗ owns (c : Thread nD τ) arg12 fullShare xs1 ∗ (∃ d, owns (c : Thread nD τ) arg13 fullShare d) ∗ (∃ d, owns (c : Thread nD τ) arg14 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9) ∗ owns (c : Thread nD τ) arg11 fullShare xs0 ∗ (∃ f, arg12.view.loc (c : Thread nD τ) ↦[arg12.view.set]{fullShare} arg12.view.writes (Elt F) f LS1) ∗ (∃ d, owns (c : Thread nD τ) arg13 fullShare d) ∗ (∃ d, owns (c : Thread nD τ) arg14 fullShare d)) -∗ K ⟨⟩))
          ⊢ wp frame (wpE (defs₀ (F := F)) Variants.none c none) E (cc0__rvq_body i arg1 harg1 arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, [], ?_, fun E K => ?run⟩
  case run =>
    simp only [cc0__rvq_body_eq_skeleton]; unfold cc0__rvq_body_skel
    simp only [k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, ⟨%fs0, %hfs0, HS0⟩, ⟨%fs1, %hfs1, HS1⟩, ⟨%ds2, %fs2, -, HS2⟩, ⟨%ds3, %fs3, -, HS3⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg10.eq_unread hf9; obtain rfl := harg11.eq_unread hfs0; obtain rfl := harg12.eq_unread hfs1
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [HL0]
    · iexists _; isplitr; · ipureintro; exact harg5.read_unread _
      iexact HL0
    isplitl [H5]
    · iexists _; isplitr; · ipureintro; exact harg6.read_unread _
      iexact H5
    isplitl [H6]
    · iexists _; isplitr; · ipureintro; exact harg7.read_unread _
      iexact H6
    isplitl [H7]; · iexists _; iexact H7
    isplitl [H8]; · iexists _; iexact H8
    isplitl [H9]; · iexists _; iexact H9
    isplitl [HS0]
    · iexists _; isplitr; · ipureintro; exact harg11.read_unread _
      iexact HS0
    isplitl [HS1]; · iexists _; iexact HS1
    isplitl [HL1]
    · iexists _, _; isplitr; swap; · iexact HL1
      ipureintro; rfl
    iexists _, _; isplitr; swap; · iexact HL2
    ipureintro; rfl

end Cert.KernelIdeal.Gen

end
-- ==== Proof.KernelIdeal.Frame.lean ====
/- GENERATED, UNTRUSTED: the FRAME CERTIFICATE of `proofs.«01_k».proof.KernelIdeal`,
   its last module — what the outputs (and a carried scratch, when the kernel has one) hold per case (covers,
   `Gen.outK_κ_W`) and point by point (`Gen.outsAtK`), the proof data (`Gen.dats`), the body obligation, the run
   (`Gen.run_main`) and `Gen.frame`; the frame kit (`Gen.hmain`, `Gen.V`, `Gen.iblk`, `Gen.frame_of`) and what the
   runs share are in Frame/Runs.lean, each case's whole-body run in Frame/Run<κ>.lean; and, the kernel being of
   CLASS R (whole staging memrefs, literal-rectangle covering stores; SMEM words, the generator, loads of its outputs and
   a scratch accumulator CARRIED between points (stored whole at the grid's first point, its contents after each point stated), `scf.if`s on the coordinates admitted — framerun.py), the whole certificate: the body's triple per case as a subtype the
   run finds (`Gen.kernelRunK_κ`, by `sl_exec`: the pieces each output ends with are its witness), the conditions in closed
   form (`Gen.hcondK_J`), what the outputs hold point by point (`Gen.outsAtK`), the proof data, the obligation, the run
   (`Gen.run_main`, `θ_run_frame_around_track`) and `Gen.frame` — the frame claim at any `F`: Proof.lean is
   `theorem Cert.Proof.claim : Cert.Claim := ⟨Gen.facts, fun m ρ _ => Gen.frame m ρ⟩`.
   CLASS R (3 cases of its conditionals, 4 scratch operands, scratch `arg11`, `arg12` carried between points, outputs [7, 9] live (their block's contents carried over from the point before)): the certificate is whole here — not class A: the kernel takes operands the pipeline does not stage (scratch, semaphores, tables, arrays left in HBM). DO NOT EDIT. -/
module

public import proofs.«01_k».proof.Proof.KernelIdeal.RunC
public import Idealize.ShloMosaic.Lib.Claim

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Case A's pieces for output 7 are of SEVERAL sizes (3 stores of `S1024x32`, `S2048x32`): cut into blocks of `![1024, 32]` they tile its block (checked by the kernel's evaluation: Lib/Ring.lean `Piece.tiledBy`), so they cover it. -/
theorem cover0_A_7 (c : Dev nD) (i : grid0.Coords) (arg1 : Memref sig .tc .vmem S2048x512 .f32) (harg1 : arg1.IsWhole) (arg2 : Memref sig .tc .vmem S4x4096 .f32) (harg2 : arg2.IsWhole) (arg3 : Memref sig .tc .vmem S512x32 .f32) (harg3 : arg3.IsWhole) (arg4 : Memref sig .tc .vmem S1x32 .f32) (harg4 : arg4.IsWhole) (arg5 : Memref sig .tc .vmem S1x8192x32 .f32) (harg5 : arg5.IsWhole) (arg6 : Memref sig .tc .vmem S10x4096x32 .f32) (harg6 : arg6.IsWhole) (arg7 : Memref sig .tc .vmem S10x1x32 .f32) (harg7 : arg7.IsWhole) (arg8 : Memref sig .tc .vmem S2048x32 .f32) (harg8 : arg8.IsWhole) (arg9 : Memref sig .tc .vmem S1x1x2048 .i32) (harg9 : arg9.IsWhole) (arg10 : Memref sig .tc .smem S1x1 .f32) (harg10 : arg10.IsWhole) (arg11 : Memref sig .tc .vmem S2048x32 .f32) (harg11 : arg11.IsWhole) (arg12 : Memref sig .tc .vmem S2048x32 .f32) (harg12 : arg12.IsWhole) (arg13 : Memref sig .tc .vmem S1x8192 .f32) (harg13 : arg13.IsWhole) (arg14 : Memref sig .tc .vmem S8192x96 .f32) (harg14 : arg14.IsWhole) (hc0 : cond0_0 i) (hc1 : cond0_1 i)
    (x0 : Vec F S2048x512 .f32) (x1 : Vec F S4x4096 .f32) (x2 : Vec F S512x32 .f32) (x3 : Vec F S1x32 .f32) (x4 : Vec F S1x8192x32 .f32) (x5 : Vec F S10x4096x32 .f32) (x6 : Vec F S10x1x32 .f32) (y : S2048x32.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6).1, y ∈ pc.1.set :=
  View.cover_of_tiledBy (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6).1 ![1024, 32] (by sl_kernel_rfl) y

/-- What case A leaves in output 7's staging buffer: its pieces read back over junk. -/
def out0_A_7 (c : Dev nD) (i : grid0.Coords) (arg1 : Memref sig .tc .vmem S2048x512 .f32) (harg1 : arg1.IsWhole) (arg2 : Memref sig .tc .vmem S4x4096 .f32) (harg2 : arg2.IsWhole) (arg3 : Memref sig .tc .vmem S512x32 .f32) (harg3 : arg3.IsWhole) (arg4 : Memref sig .tc .vmem S1x32 .f32) (harg4 : arg4.IsWhole) (arg5 : Memref sig .tc .vmem S1x8192x32 .f32) (harg5 : arg5.IsWhole) (arg6 : Memref sig .tc .vmem S10x4096x32 .f32) (harg6 : arg6.IsWhole) (arg7 : Memref sig .tc .vmem S10x1x32 .f32) (harg7 : arg7.IsWhole) (arg8 : Memref sig .tc .vmem S2048x32 .f32) (harg8 : arg8.IsWhole) (arg9 : Memref sig .tc .vmem S1x1x2048 .i32) (harg9 : arg9.IsWhole) (arg10 : Memref sig .tc .smem S1x1 .f32) (harg10 : arg10.IsWhole) (arg11 : Memref sig .tc .vmem S2048x32 .f32) (harg11 : arg11.IsWhole) (arg12 : Memref sig .tc .vmem S2048x32 .f32) (harg12 : arg12.IsWhole) (arg13 : Memref sig .tc .vmem S1x8192 .f32) (harg13 : arg13.IsWhole) (arg14 : Memref sig .tc .vmem S8192x96 .f32) (harg14 : arg14.IsWhole) (hc0 : cond0_0 i) (hc1 : cond0_1 i)
    (x0 : Vec F S2048x512 .f32) (x1 : Vec F S4x4096 .f32) (x2 : Vec F S512x32 .f32) (x3 : Vec F S1x32 .f32) (x4 : Vec F S1x8192x32 .f32) (x5 : Vec F S10x4096x32 .f32) (x6 : Vec F S10x1x32 .f32) : Vec F S2048x32 .f32 :=
  VO0_7.read (Elt F) (VO0_7.writes (Elt F) VO0_7.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6).1)

/-- Case A's pieces for output 8 tile its block (2 stores of `S1x1x1024`, checked by the kernel's evaluation: Lib/Ring.lean `Piece.tiledL`, linear in the pieces, through a loop's `@[irreducible]` trip theorem too), so they cover it. -/
theorem cover0_A_8 (c : Dev nD) (i : grid0.Coords) (arg1 : Memref sig .tc .vmem S2048x512 .f32) (harg1 : arg1.IsWhole) (arg2 : Memref sig .tc .vmem S4x4096 .f32) (harg2 : arg2.IsWhole) (arg3 : Memref sig .tc .vmem S512x32 .f32) (harg3 : arg3.IsWhole) (arg4 : Memref sig .tc .vmem S1x32 .f32) (harg4 : arg4.IsWhole) (arg5 : Memref sig .tc .vmem S1x8192x32 .f32) (harg5 : arg5.IsWhole) (arg6 : Memref sig .tc .vmem S10x4096x32 .f32) (harg6 : arg6.IsWhole) (arg7 : Memref sig .tc .vmem S10x1x32 .f32) (harg7 : arg7.IsWhole) (arg8 : Memref sig .tc .vmem S2048x32 .f32) (harg8 : arg8.IsWhole) (arg9 : Memref sig .tc .vmem S1x1x2048 .i32) (harg9 : arg9.IsWhole) (arg10 : Memref sig .tc .smem S1x1 .f32) (harg10 : arg10.IsWhole) (arg11 : Memref sig .tc .vmem S2048x32 .f32) (harg11 : arg11.IsWhole) (arg12 : Memref sig .tc .vmem S2048x32 .f32) (harg12 : arg12.IsWhole) (arg13 : Memref sig .tc .vmem S1x8192 .f32) (harg13 : arg13.IsWhole) (arg14 : Memref sig .tc .vmem S8192x96 .f32) (harg14 : arg14.IsWhole) (hc0 : cond0_0 i) (hc1 : cond0_1 i)
    (x0 : Vec F S2048x512 .f32) (x1 : Vec F S4x4096 .f32) (x2 : Vec F S512x32 .f32) (x3 : Vec F S1x32 .f32) (x4 : Vec F S1x8192x32 .f32) (x5 : Vec F S10x4096x32 .f32) (x6 : Vec F S10x1x32 .f32) (y : S1x1x2048.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6).2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6).2.1 S1x1x1024.size (by sl_kernel_rfl) y

/-- What case A leaves in output 8's staging buffer: its pieces read back over junk. -/
def out0_A_8 (c : Dev nD) (i : grid0.Coords) (arg1 : Memref sig .tc .vmem S2048x512 .f32) (harg1 : arg1.IsWhole) (arg2 : Memref sig .tc .vmem S4x4096 .f32) (harg2 : arg2.IsWhole) (arg3 : Memref sig .tc .vmem S512x32 .f32) (harg3 : arg3.IsWhole) (arg4 : Memref sig .tc .vmem S1x32 .f32) (harg4 : arg4.IsWhole) (arg5 : Memref sig .tc .vmem S1x8192x32 .f32) (harg5 : arg5.IsWhole) (arg6 : Memref sig .tc .vmem S10x4096x32 .f32) (harg6 : arg6.IsWhole) (arg7 : Memref sig .tc .vmem S10x1x32 .f32) (harg7 : arg7.IsWhole) (arg8 : Memref sig .tc .vmem S2048x32 .f32) (harg8 : arg8.IsWhole) (arg9 : Memref sig .tc .vmem S1x1x2048 .i32) (harg9 : arg9.IsWhole) (arg10 : Memref sig .tc .smem S1x1 .f32) (harg10 : arg10.IsWhole) (arg11 : Memref sig .tc .vmem S2048x32 .f32) (harg11 : arg11.IsWhole) (arg12 : Memref sig .tc .vmem S2048x32 .f32) (harg12 : arg12.IsWhole) (arg13 : Memref sig .tc .vmem S1x8192 .f32) (harg13 : arg13.IsWhole) (arg14 : Memref sig .tc .vmem S8192x96 .f32) (harg14 : arg14.IsWhole) (hc0 : cond0_0 i) (hc1 : cond0_1 i)
    (x0 : Vec F S2048x512 .f32) (x1 : Vec F S4x4096 .f32) (x2 : Vec F S512x32 .f32) (x3 : Vec F S1x32 .f32) (x4 : Vec F S1x8192x32 .f32) (x5 : Vec F S10x4096x32 .f32) (x6 : Vec F S10x1x32 .f32) : Vec F S1x1x2048 .i32 :=
  VO0_8.read (Elt F) (VO0_8.writes (Elt F) VO0_8.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6).2.1)

/-- Case A's pieces for output 9 tile its block (3 stores of `S1x1`, checked by the kernel's evaluation: Lib/Ring.lean `Piece.tiledL`, linear in the pieces, through a loop's `@[irreducible]` trip theorem too), so they cover it. -/
theorem cover0_A_9 (c : Dev nD) (i : grid0.Coords) (arg1 : Memref sig .tc .vmem S2048x512 .f32) (harg1 : arg1.IsWhole) (arg2 : Memref sig .tc .vmem S4x4096 .f32) (harg2 : arg2.IsWhole) (arg3 : Memref sig .tc .vmem S512x32 .f32) (harg3 : arg3.IsWhole) (arg4 : Memref sig .tc .vmem S1x32 .f32) (harg4 : arg4.IsWhole) (arg5 : Memref sig .tc .vmem S1x8192x32 .f32) (harg5 : arg5.IsWhole) (arg6 : Memref sig .tc .vmem S10x4096x32 .f32) (harg6 : arg6.IsWhole) (arg7 : Memref sig .tc .vmem S10x1x32 .f32) (harg7 : arg7.IsWhole) (arg8 : Memref sig .tc .vmem S2048x32 .f32) (harg8 : arg8.IsWhole) (arg9 : Memref sig .tc .vmem S1x1x2048 .i32) (harg9 : arg9.IsWhole) (arg10 : Memref sig .tc .smem S1x1 .f32) (harg10 : arg10.IsWhole) (arg11 : Memref sig .tc .vmem S2048x32 .f32) (harg11 : arg11.IsWhole) (arg12 : Memref sig .tc .vmem S2048x32 .f32) (harg12 : arg12.IsWhole) (arg13 : Memref sig .tc .vmem S1x8192 .f32) (harg13 : arg13.IsWhole) (arg14 : Memref sig .tc .vmem S8192x96 .f32) (harg14 : arg14.IsWhole) (hc0 : cond0_0 i) (hc1 : cond0_1 i)
    (x0 : Vec F S2048x512 .f32) (x1 : Vec F S4x4096 .f32) (x2 : Vec F S512x32 .f32) (x3 : Vec F S1x32 .f32) (x4 : Vec F S1x8192x32 .f32) (x5 : Vec F S10x4096x32 .f32) (x6 : Vec F S10x1x32 .f32) (y : S1x1.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6).2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6).2.2.1 S1x1.size (by sl_kernel_rfl) y

/-- What case A leaves in output 9's staging buffer: its pieces read back over junk. -/
def out0_A_9 (c : Dev nD) (i : grid0.Coords) (arg1 : Memref sig .tc .vmem S2048x512 .f32) (harg1 : arg1.IsWhole) (arg2 : Memref sig .tc .vmem S4x4096 .f32) (harg2 : arg2.IsWhole) (arg3 : Memref sig .tc .vmem S512x32 .f32) (harg3 : arg3.IsWhole) (arg4 : Memref sig .tc .vmem S1x32 .f32) (harg4 : arg4.IsWhole) (arg5 : Memref sig .tc .vmem S1x8192x32 .f32) (harg5 : arg5.IsWhole) (arg6 : Memref sig .tc .vmem S10x4096x32 .f32) (harg6 : arg6.IsWhole) (arg7 : Memref sig .tc .vmem S10x1x32 .f32) (harg7 : arg7.IsWhole) (arg8 : Memref sig .tc .vmem S2048x32 .f32) (harg8 : arg8.IsWhole) (arg9 : Memref sig .tc .vmem S1x1x2048 .i32) (harg9 : arg9.IsWhole) (arg10 : Memref sig .tc .smem S1x1 .f32) (harg10 : arg10.IsWhole) (arg11 : Memref sig .tc .vmem S2048x32 .f32) (harg11 : arg11.IsWhole) (arg12 : Memref sig .tc .vmem S2048x32 .f32) (harg12 : arg12.IsWhole) (arg13 : Memref sig .tc .vmem S1x8192 .f32) (harg13 : arg13.IsWhole) (arg14 : Memref sig .tc .vmem S8192x96 .f32) (harg14 : arg14.IsWhole) (hc0 : cond0_0 i) (hc1 : cond0_1 i)
    (x0 : Vec F S2048x512 .f32) (x1 : Vec F S4x4096 .f32) (x2 : Vec F S512x32 .f32) (x3 : Vec F S1x32 .f32) (x4 : Vec F S1x8192x32 .f32) (x5 : Vec F S10x4096x32 .f32) (x6 : Vec F S10x1x32 .f32) : Vec F S1x1 .f32 :=
  VO0_9.read (Elt F) (VO0_9.writes (Elt F) VO0_9.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6).2.2.1)

/-- Case A's pieces for scratch `arg11`, which the kernel carries between points, cover it: 1 piece of `S2048x32` tiling it (Lib/Ring.lean `Piece.tiledL`). -/
theorem scover0_A_0 (c : Dev nD) (i : grid0.Coords) (arg1 : Memref sig .tc .vmem S2048x512 .f32) (harg1 : arg1.IsWhole) (arg2 : Memref sig .tc .vmem S4x4096 .f32) (harg2 : arg2.IsWhole) (arg3 : Memref sig .tc .vmem S512x32 .f32) (harg3 : arg3.IsWhole) (arg4 : Memref sig .tc .vmem S1x32 .f32) (harg4 : arg4.IsWhole) (arg5 : Memref sig .tc .vmem S1x8192x32 .f32) (harg5 : arg5.IsWhole) (arg6 : Memref sig .tc .vmem S10x4096x32 .f32) (harg6 : arg6.IsWhole) (arg7 : Memref sig .tc .vmem S10x1x32 .f32) (harg7 : arg7.IsWhole) (arg8 : Memref sig .tc .vmem S2048x32 .f32) (harg8 : arg8.IsWhole) (arg9 : Memref sig .tc .vmem S1x1x2048 .i32) (harg9 : arg9.IsWhole) (arg10 : Memref sig .tc .smem S1x1 .f32) (harg10 : arg10.IsWhole) (arg11 : Memref sig .tc .vmem S2048x32 .f32) (harg11 : arg11.IsWhole) (arg12 : Memref sig .tc .vmem S2048x32 .f32) (harg12 : arg12.IsWhole) (arg13 : Memref sig .tc .vmem S1x8192 .f32) (harg13 : arg13.IsWhole) (arg14 : Memref sig .tc .vmem S8192x96 .f32) (harg14 : arg14.IsWhole) (hc0 : cond0_0 i) (hc1 : cond0_1 i)
    (x0 : Vec F S2048x512 .f32) (x1 : Vec F S4x4096 .f32) (x2 : Vec F S512x32 .f32) (x3 : Vec F S1x32 .f32) (x4 : Vec F S1x8192x32 .f32) (x5 : Vec F S10x4096x32 .f32) (x6 : Vec F S10x1x32 .f32) (y : S2048x32.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6).2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6).2.2.2.1 S2048x32.size (by sl_kernel_rfl) y

/-- What case A leaves in scratch `arg11`: its pieces read back over junk. -/
def sout0_A_0 (c : Dev nD) (i : grid0.Coords) (arg1 : Memref sig .tc .vmem S2048x512 .f32) (harg1 : arg1.IsWhole) (arg2 : Memref sig .tc .vmem S4x4096 .f32) (harg2 : arg2.IsWhole) (arg3 : Memref sig .tc .vmem S512x32 .f32) (harg3 : arg3.IsWhole) (arg4 : Memref sig .tc .vmem S1x32 .f32) (harg4 : arg4.IsWhole) (arg5 : Memref sig .tc .vmem S1x8192x32 .f32) (harg5 : arg5.IsWhole) (arg6 : Memref sig .tc .vmem S10x4096x32 .f32) (harg6 : arg6.IsWhole) (arg7 : Memref sig .tc .vmem S10x1x32 .f32) (harg7 : arg7.IsWhole) (arg8 : Memref sig .tc .vmem S2048x32 .f32) (harg8 : arg8.IsWhole) (arg9 : Memref sig .tc .vmem S1x1x2048 .i32) (harg9 : arg9.IsWhole) (arg10 : Memref sig .tc .smem S1x1 .f32) (harg10 : arg10.IsWhole) (arg11 : Memref sig .tc .vmem S2048x32 .f32) (harg11 : arg11.IsWhole) (arg12 : Memref sig .tc .vmem S2048x32 .f32) (harg12 : arg12.IsWhole) (arg13 : Memref sig .tc .vmem S1x8192 .f32) (harg13 : arg13.IsWhole) (arg14 : Memref sig .tc .vmem S8192x96 .f32) (harg14 : arg14.IsWhole) (hc0 : cond0_0 i) (hc1 : cond0_1 i)
    (x0 : Vec F S2048x512 .f32) (x1 : Vec F S4x4096 .f32) (x2 : Vec F S512x32 .f32) (x3 : Vec F S1x32 .f32) (x4 : Vec F S1x8192x32 .f32) (x5 : Vec F S10x4096x32 .f32) (x6 : Vec F S10x1x32 .f32) : Vec F S2048x32 .f32 :=
  VS0_0.read (Elt F) (VS0_0.writes (Elt F) VS0_0.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6).2.2.2.1)

/-- Case A's pieces for scratch `arg12`, which the kernel carries between points, cover it: one of them a store of the WHOLE buffer (Lib/Ring.lean `sl_whole_mem`). -/
theorem scover0_A_1 (c : Dev nD) (i : grid0.Coords) (arg1 : Memref sig .tc .vmem S2048x512 .f32) (harg1 : arg1.IsWhole) (arg2 : Memref sig .tc .vmem S4x4096 .f32) (harg2 : arg2.IsWhole) (arg3 : Memref sig .tc .vmem S512x32 .f32) (harg3 : arg3.IsWhole) (arg4 : Memref sig .tc .vmem S1x32 .f32) (harg4 : arg4.IsWhole) (arg5 : Memref sig .tc .vmem S1x8192x32 .f32) (harg5 : arg5.IsWhole) (arg6 : Memref sig .tc .vmem S10x4096x32 .f32) (harg6 : arg6.IsWhole) (arg7 : Memref sig .tc .vmem S10x1x32 .f32) (harg7 : arg7.IsWhole) (arg8 : Memref sig .tc .vmem S2048x32 .f32) (harg8 : arg8.IsWhole) (arg9 : Memref sig .tc .vmem S1x1x2048 .i32) (harg9 : arg9.IsWhole) (arg10 : Memref sig .tc .smem S1x1 .f32) (harg10 : arg10.IsWhole) (arg11 : Memref sig .tc .vmem S2048x32 .f32) (harg11 : arg11.IsWhole) (arg12 : Memref sig .tc .vmem S2048x32 .f32) (harg12 : arg12.IsWhole) (arg13 : Memref sig .tc .vmem S1x8192 .f32) (harg13 : arg13.IsWhole) (arg14 : Memref sig .tc .vmem S8192x96 .f32) (harg14 : arg14.IsWhole) (hc0 : cond0_0 i) (hc1 : cond0_1 i)
    (x0 : Vec F S2048x512 .f32) (x1 : Vec F S4x4096 .f32) (x2 : Vec F S512x32 .f32) (x3 : Vec F S1x32 .f32) (x4 : Vec F S1x8192x32 .f32) (x5 : Vec F S10x4096x32 .f32) (x6 : Vec F S10x1x32 .f32) (y : S2048x32.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6).2.2.2.2.1, y ∈ pc.1.set :=
  View.cover_of_wholeMem (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6).2.2.2.2.1 (by sl_whole_mem) y

/-- What case A leaves in scratch `arg12`: its pieces read back over junk. -/
def sout0_A_1 (c : Dev nD) (i : grid0.Coords) (arg1 : Memref sig .tc .vmem S2048x512 .f32) (harg1 : arg1.IsWhole) (arg2 : Memref sig .tc .vmem S4x4096 .f32) (harg2 : arg2.IsWhole) (arg3 : Memref sig .tc .vmem S512x32 .f32) (harg3 : arg3.IsWhole) (arg4 : Memref sig .tc .vmem S1x32 .f32) (harg4 : arg4.IsWhole) (arg5 : Memref sig .tc .vmem S1x8192x32 .f32) (harg5 : arg5.IsWhole) (arg6 : Memref sig .tc .vmem S10x4096x32 .f32) (harg6 : arg6.IsWhole) (arg7 : Memref sig .tc .vmem S10x1x32 .f32) (harg7 : arg7.IsWhole) (arg8 : Memref sig .tc .vmem S2048x32 .f32) (harg8 : arg8.IsWhole) (arg9 : Memref sig .tc .vmem S1x1x2048 .i32) (harg9 : arg9.IsWhole) (arg10 : Memref sig .tc .smem S1x1 .f32) (harg10 : arg10.IsWhole) (arg11 : Memref sig .tc .vmem S2048x32 .f32) (harg11 : arg11.IsWhole) (arg12 : Memref sig .tc .vmem S2048x32 .f32) (harg12 : arg12.IsWhole) (arg13 : Memref sig .tc .vmem S1x8192 .f32) (harg13 : arg13.IsWhole) (arg14 : Memref sig .tc .vmem S8192x96 .f32) (harg14 : arg14.IsWhole) (hc0 : cond0_0 i) (hc1 : cond0_1 i)
    (x0 : Vec F S2048x512 .f32) (x1 : Vec F S4x4096 .f32) (x2 : Vec F S512x32 .f32) (x3 : Vec F S1x32 .f32) (x4 : Vec F S1x8192x32 .f32) (x5 : Vec F S10x4096x32 .f32) (x6 : Vec F S10x1x32 .f32) : Vec F S2048x32 .f32 :=
  VS0_1.read (Elt F) (VS0_1.writes (Elt F) VS0_1.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6).2.2.2.2.1)

/-- Case B's pieces for output 7 tile its block (2 stores of `S1024x32`, checked by the kernel's evaluation: Lib/Ring.lean `Piece.tiledL`, linear in the pieces, through a loop's `@[irreducible]` trip theorem too), so they cover it. -/
theorem cover0_B_7 (c : Dev nD) (i : grid0.Coords) (arg1 : Memref sig .tc .vmem S2048x512 .f32) (harg1 : arg1.IsWhole) (arg2 : Memref sig .tc .vmem S4x4096 .f32) (harg2 : arg2.IsWhole) (arg3 : Memref sig .tc .vmem S512x32 .f32) (harg3 : arg3.IsWhole) (arg4 : Memref sig .tc .vmem S1x32 .f32) (harg4 : arg4.IsWhole) (arg5 : Memref sig .tc .vmem S1x8192x32 .f32) (harg5 : arg5.IsWhole) (arg6 : Memref sig .tc .vmem S10x4096x32 .f32) (harg6 : arg6.IsWhole) (arg7 : Memref sig .tc .vmem S10x1x32 .f32) (harg7 : arg7.IsWhole) (arg8 : Memref sig .tc .vmem S2048x32 .f32) (harg8 : arg8.IsWhole) (arg9 : Memref sig .tc .vmem S1x1x2048 .i32) (harg9 : arg9.IsWhole) (arg10 : Memref sig .tc .smem S1x1 .f32) (harg10 : arg10.IsWhole) (arg11 : Memref sig .tc .vmem S2048x32 .f32) (harg11 : arg11.IsWhole) (arg12 : Memref sig .tc .vmem S2048x32 .f32) (harg12 : arg12.IsWhole) (arg13 : Memref sig .tc .vmem S1x8192 .f32) (harg13 : arg13.IsWhole) (arg14 : Memref sig .tc .vmem S8192x96 .f32) (harg14 : arg14.IsWhole) (hc0 : ¬cond0_0 i) (hc1 : cond0_1 i)
    (x0 : Vec F S2048x512 .f32) (x1 : Vec F S4x4096 .f32) (x2 : Vec F S512x32 .f32) (x3 : Vec F S1x32 .f32) (x4 : Vec F S1x8192x32 .f32) (x5 : Vec F S10x4096x32 .f32) (x6 : Vec F S10x1x32 .f32) (xo7 : Vec F S2048x32 .f32) (xo9 : Vec F S1x1 .f32) (xs0 : Vec F S2048x32 .f32) (xs1 : Vec F S2048x32 .f32) (y : S2048x32.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xo7 xo9 xs0 xs1).1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xo7 xo9 xs0 xs1).1 S1024x32.size (by sl_kernel_rfl) y

/-- What case B leaves in output 7's staging buffer: its pieces read back over junk. -/
def out0_B_7 (c : Dev nD) (i : grid0.Coords) (arg1 : Memref sig .tc .vmem S2048x512 .f32) (harg1 : arg1.IsWhole) (arg2 : Memref sig .tc .vmem S4x4096 .f32) (harg2 : arg2.IsWhole) (arg3 : Memref sig .tc .vmem S512x32 .f32) (harg3 : arg3.IsWhole) (arg4 : Memref sig .tc .vmem S1x32 .f32) (harg4 : arg4.IsWhole) (arg5 : Memref sig .tc .vmem S1x8192x32 .f32) (harg5 : arg5.IsWhole) (arg6 : Memref sig .tc .vmem S10x4096x32 .f32) (harg6 : arg6.IsWhole) (arg7 : Memref sig .tc .vmem S10x1x32 .f32) (harg7 : arg7.IsWhole) (arg8 : Memref sig .tc .vmem S2048x32 .f32) (harg8 : arg8.IsWhole) (arg9 : Memref sig .tc .vmem S1x1x2048 .i32) (harg9 : arg9.IsWhole) (arg10 : Memref sig .tc .smem S1x1 .f32) (harg10 : arg10.IsWhole) (arg11 : Memref sig .tc .vmem S2048x32 .f32) (harg11 : arg11.IsWhole) (arg12 : Memref sig .tc .vmem S2048x32 .f32) (harg12 : arg12.IsWhole) (arg13 : Memref sig .tc .vmem S1x8192 .f32) (harg13 : arg13.IsWhole) (arg14 : Memref sig .tc .vmem S8192x96 .f32) (harg14 : arg14.IsWhole) (hc0 : ¬cond0_0 i) (hc1 : cond0_1 i)
    (x0 : Vec F S2048x512 .f32) (x1 : Vec F S4x4096 .f32) (x2 : Vec F S512x32 .f32) (x3 : Vec F S1x32 .f32) (x4 : Vec F S1x8192x32 .f32) (x5 : Vec F S10x4096x32 .f32) (x6 : Vec F S10x1x32 .f32) (xo7 : Vec F S2048x32 .f32) (xo9 : Vec F S1x1 .f32) (xs0 : Vec F S2048x32 .f32) (xs1 : Vec F S2048x32 .f32) : Vec F S2048x32 .f32 :=
  VO0_7.read (Elt F) (VO0_7.writes (Elt F) VO0_7.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xo7 xo9 xs0 xs1).1)

/-- Case B's pieces for output 8 tile its block (2 stores of `S1x1x1024`, checked by the kernel's evaluation: Lib/Ring.lean `Piece.tiledL`, linear in the pieces, through a loop's `@[irreducible]` trip theorem too), so they cover it. -/
theorem cover0_B_8 (c : Dev nD) (i : grid0.Coords) (arg1 : Memref sig .tc .vmem S2048x512 .f32) (harg1 : arg1.IsWhole) (arg2 : Memref sig .tc .vmem S4x4096 .f32) (harg2 : arg2.IsWhole) (arg3 : Memref sig .tc .vmem S512x32 .f32) (harg3 : arg3.IsWhole) (arg4 : Memref sig .tc .vmem S1x32 .f32) (harg4 : arg4.IsWhole) (arg5 : Memref sig .tc .vmem S1x8192x32 .f32) (harg5 : arg5.IsWhole) (arg6 : Memref sig .tc .vmem S10x4096x32 .f32) (harg6 : arg6.IsWhole) (arg7 : Memref sig .tc .vmem S10x1x32 .f32) (harg7 : arg7.IsWhole) (arg8 : Memref sig .tc .vmem S2048x32 .f32) (harg8 : arg8.IsWhole) (arg9 : Memref sig .tc .vmem S1x1x2048 .i32) (harg9 : arg9.IsWhole) (arg10 : Memref sig .tc .smem S1x1 .f32) (harg10 : arg10.IsWhole) (arg11 : Memref sig .tc .vmem S2048x32 .f32) (harg11 : arg11.IsWhole) (arg12 : Memref sig .tc .vmem S2048x32 .f32) (harg12 : arg12.IsWhole) (arg13 : Memref sig .tc .vmem S1x8192 .f32) (harg13 : arg13.IsWhole) (arg14 : Memref sig .tc .vmem S8192x96 .f32) (harg14 : arg14.IsWhole) (hc0 : ¬cond0_0 i) (hc1 : cond0_1 i)
    (x0 : Vec F S2048x512 .f32) (x1 : Vec F S4x4096 .f32) (x2 : Vec F S512x32 .f32) (x3 : Vec F S1x32 .f32) (x4 : Vec F S1x8192x32 .f32) (x5 : Vec F S10x4096x32 .f32) (x6 : Vec F S10x1x32 .f32) (xo7 : Vec F S2048x32 .f32) (xo9 : Vec F S1x1 .f32) (xs0 : Vec F S2048x32 .f32) (xs1 : Vec F S2048x32 .f32) (y : S1x1x2048.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xo7 xo9 xs0 xs1).2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xo7 xo9 xs0 xs1).2.1 S1x1x1024.size (by sl_kernel_rfl) y

/-- What case B leaves in output 8's staging buffer: its pieces read back over junk. -/
def out0_B_8 (c : Dev nD) (i : grid0.Coords) (arg1 : Memref sig .tc .vmem S2048x512 .f32) (harg1 : arg1.IsWhole) (arg2 : Memref sig .tc .vmem S4x4096 .f32) (harg2 : arg2.IsWhole) (arg3 : Memref sig .tc .vmem S512x32 .f32) (harg3 : arg3.IsWhole) (arg4 : Memref sig .tc .vmem S1x32 .f32) (harg4 : arg4.IsWhole) (arg5 : Memref sig .tc .vmem S1x8192x32 .f32) (harg5 : arg5.IsWhole) (arg6 : Memref sig .tc .vmem S10x4096x32 .f32) (harg6 : arg6.IsWhole) (arg7 : Memref sig .tc .vmem S10x1x32 .f32) (harg7 : arg7.IsWhole) (arg8 : Memref sig .tc .vmem S2048x32 .f32) (harg8 : arg8.IsWhole) (arg9 : Memref sig .tc .vmem S1x1x2048 .i32) (harg9 : arg9.IsWhole) (arg10 : Memref sig .tc .smem S1x1 .f32) (harg10 : arg10.IsWhole) (arg11 : Memref sig .tc .vmem S2048x32 .f32) (harg11 : arg11.IsWhole) (arg12 : Memref sig .tc .vmem S2048x32 .f32) (harg12 : arg12.IsWhole) (arg13 : Memref sig .tc .vmem S1x8192 .f32) (harg13 : arg13.IsWhole) (arg14 : Memref sig .tc .vmem S8192x96 .f32) (harg14 : arg14.IsWhole) (hc0 : ¬cond0_0 i) (hc1 : cond0_1 i)
    (x0 : Vec F S2048x512 .f32) (x1 : Vec F S4x4096 .f32) (x2 : Vec F S512x32 .f32) (x3 : Vec F S1x32 .f32) (x4 : Vec F S1x8192x32 .f32) (x5 : Vec F S10x4096x32 .f32) (x6 : Vec F S10x1x32 .f32) (xo7 : Vec F S2048x32 .f32) (xo9 : Vec F S1x1 .f32) (xs0 : Vec F S2048x32 .f32) (xs1 : Vec F S2048x32 .f32) : Vec F S1x1x2048 .i32 :=
  VO0_8.read (Elt F) (VO0_8.writes (Elt F) VO0_8.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xo7 xo9 xs0 xs1).2.1)

/-- Case B's pieces for output 9 tile its block (2 stores of `S1x1`, checked by the kernel's evaluation: Lib/Ring.lean `Piece.tiledL`, linear in the pieces, through a loop's `@[irreducible]` trip theorem too), so they cover it. -/
theorem cover0_B_9 (c : Dev nD) (i : grid0.Coords) (arg1 : Memref sig .tc .vmem S2048x512 .f32) (harg1 : arg1.IsWhole) (arg2 : Memref sig .tc .vmem S4x4096 .f32) (harg2 : arg2.IsWhole) (arg3 : Memref sig .tc .vmem S512x32 .f32) (harg3 : arg3.IsWhole) (arg4 : Memref sig .tc .vmem S1x32 .f32) (harg4 : arg4.IsWhole) (arg5 : Memref sig .tc .vmem S1x8192x32 .f32) (harg5 : arg5.IsWhole) (arg6 : Memref sig .tc .vmem S10x4096x32 .f32) (harg6 : arg6.IsWhole) (arg7 : Memref sig .tc .vmem S10x1x32 .f32) (harg7 : arg7.IsWhole) (arg8 : Memref sig .tc .vmem S2048x32 .f32) (harg8 : arg8.IsWhole) (arg9 : Memref sig .tc .vmem S1x1x2048 .i32) (harg9 : arg9.IsWhole) (arg10 : Memref sig .tc .smem S1x1 .f32) (harg10 : arg10.IsWhole) (arg11 : Memref sig .tc .vmem S2048x32 .f32) (harg11 : arg11.IsWhole) (arg12 : Memref sig .tc .vmem S2048x32 .f32) (harg12 : arg12.IsWhole) (arg13 : Memref sig .tc .vmem S1x8192 .f32) (harg13 : arg13.IsWhole) (arg14 : Memref sig .tc .vmem S8192x96 .f32) (harg14 : arg14.IsWhole) (hc0 : ¬cond0_0 i) (hc1 : cond0_1 i)
    (x0 : Vec F S2048x512 .f32) (x1 : Vec F S4x4096 .f32) (x2 : Vec F S512x32 .f32) (x3 : Vec F S1x32 .f32) (x4 : Vec F S1x8192x32 .f32) (x5 : Vec F S10x4096x32 .f32) (x6 : Vec F S10x1x32 .f32) (xo7 : Vec F S2048x32 .f32) (xo9 : Vec F S1x1 .f32) (xs0 : Vec F S2048x32 .f32) (xs1 : Vec F S2048x32 .f32) (y : S1x1.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xo7 xo9 xs0 xs1).2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xo7 xo9 xs0 xs1).2.2.1 S1x1.size (by sl_kernel_rfl) y

/-- What case B leaves in output 9's staging buffer: its pieces read back over junk. -/
def out0_B_9 (c : Dev nD) (i : grid0.Coords) (arg1 : Memref sig .tc .vmem S2048x512 .f32) (harg1 : arg1.IsWhole) (arg2 : Memref sig .tc .vmem S4x4096 .f32) (harg2 : arg2.IsWhole) (arg3 : Memref sig .tc .vmem S512x32 .f32) (harg3 : arg3.IsWhole) (arg4 : Memref sig .tc .vmem S1x32 .f32) (harg4 : arg4.IsWhole) (arg5 : Memref sig .tc .vmem S1x8192x32 .f32) (harg5 : arg5.IsWhole) (arg6 : Memref sig .tc .vmem S10x4096x32 .f32) (harg6 : arg6.IsWhole) (arg7 : Memref sig .tc .vmem S10x1x32 .f32) (harg7 : arg7.IsWhole) (arg8 : Memref sig .tc .vmem S2048x32 .f32) (harg8 : arg8.IsWhole) (arg9 : Memref sig .tc .vmem S1x1x2048 .i32) (harg9 : arg9.IsWhole) (arg10 : Memref sig .tc .smem S1x1 .f32) (harg10 : arg10.IsWhole) (arg11 : Memref sig .tc .vmem S2048x32 .f32) (harg11 : arg11.IsWhole) (arg12 : Memref sig .tc .vmem S2048x32 .f32) (harg12 : arg12.IsWhole) (arg13 : Memref sig .tc .vmem S1x8192 .f32) (harg13 : arg13.IsWhole) (arg14 : Memref sig .tc .vmem S8192x96 .f32) (harg14 : arg14.IsWhole) (hc0 : ¬cond0_0 i) (hc1 : cond0_1 i)
    (x0 : Vec F S2048x512 .f32) (x1 : Vec F S4x4096 .f32) (x2 : Vec F S512x32 .f32) (x3 : Vec F S1x32 .f32) (x4 : Vec F S1x8192x32 .f32) (x5 : Vec F S10x4096x32 .f32) (x6 : Vec F S10x1x32 .f32) (xo7 : Vec F S2048x32 .f32) (xo9 : Vec F S1x1 .f32) (xs0 : Vec F S2048x32 .f32) (xs1 : Vec F S2048x32 .f32) : Vec F S1x1 .f32 :=
  VO0_9.read (Elt F) (VO0_9.writes (Elt F) VO0_9.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xo7 xo9 xs0 xs1).2.2.1)

/-- Case B stores nothing into scratch `arg11`: it holds what the point before left. -/
def sout0_B_0 (c : Dev nD) (i : grid0.Coords) (arg1 : Memref sig .tc .vmem S2048x512 .f32) (harg1 : arg1.IsWhole) (arg2 : Memref sig .tc .vmem S4x4096 .f32) (harg2 : arg2.IsWhole) (arg3 : Memref sig .tc .vmem S512x32 .f32) (harg3 : arg3.IsWhole) (arg4 : Memref sig .tc .vmem S1x32 .f32) (harg4 : arg4.IsWhole) (arg5 : Memref sig .tc .vmem S1x8192x32 .f32) (harg5 : arg5.IsWhole) (arg6 : Memref sig .tc .vmem S10x4096x32 .f32) (harg6 : arg6.IsWhole) (arg7 : Memref sig .tc .vmem S10x1x32 .f32) (harg7 : arg7.IsWhole) (arg8 : Memref sig .tc .vmem S2048x32 .f32) (harg8 : arg8.IsWhole) (arg9 : Memref sig .tc .vmem S1x1x2048 .i32) (harg9 : arg9.IsWhole) (arg10 : Memref sig .tc .smem S1x1 .f32) (harg10 : arg10.IsWhole) (arg11 : Memref sig .tc .vmem S2048x32 .f32) (harg11 : arg11.IsWhole) (arg12 : Memref sig .tc .vmem S2048x32 .f32) (harg12 : arg12.IsWhole) (arg13 : Memref sig .tc .vmem S1x8192 .f32) (harg13 : arg13.IsWhole) (arg14 : Memref sig .tc .vmem S8192x96 .f32) (harg14 : arg14.IsWhole) (hc0 : ¬cond0_0 i) (hc1 : cond0_1 i)
    (x0 : Vec F S2048x512 .f32) (x1 : Vec F S4x4096 .f32) (x2 : Vec F S512x32 .f32) (x3 : Vec F S1x32 .f32) (x4 : Vec F S1x8192x32 .f32) (x5 : Vec F S10x4096x32 .f32) (x6 : Vec F S10x1x32 .f32) (xo7 : Vec F S2048x32 .f32) (xo9 : Vec F S1x1 .f32) (xs0 : Vec F S2048x32 .f32) (xs1 : Vec F S2048x32 .f32) : Vec F S2048x32 .f32 := xs0

/-- Case B's pieces for scratch `arg12`, which the kernel carries between points, cover it: one of them a store of the WHOLE buffer (Lib/Ring.lean `sl_whole_mem`). -/
theorem scover0_B_1 (c : Dev nD) (i : grid0.Coords) (arg1 : Memref sig .tc .vmem S2048x512 .f32) (harg1 : arg1.IsWhole) (arg2 : Memref sig .tc .vmem S4x4096 .f32) (harg2 : arg2.IsWhole) (arg3 : Memref sig .tc .vmem S512x32 .f32) (harg3 : arg3.IsWhole) (arg4 : Memref sig .tc .vmem S1x32 .f32) (harg4 : arg4.IsWhole) (arg5 : Memref sig .tc .vmem S1x8192x32 .f32) (harg5 : arg5.IsWhole) (arg6 : Memref sig .tc .vmem S10x4096x32 .f32) (harg6 : arg6.IsWhole) (arg7 : Memref sig .tc .vmem S10x1x32 .f32) (harg7 : arg7.IsWhole) (arg8 : Memref sig .tc .vmem S2048x32 .f32) (harg8 : arg8.IsWhole) (arg9 : Memref sig .tc .vmem S1x1x2048 .i32) (harg9 : arg9.IsWhole) (arg10 : Memref sig .tc .smem S1x1 .f32) (harg10 : arg10.IsWhole) (arg11 : Memref sig .tc .vmem S2048x32 .f32) (harg11 : arg11.IsWhole) (arg12 : Memref sig .tc .vmem S2048x32 .f32) (harg12 : arg12.IsWhole) (arg13 : Memref sig .tc .vmem S1x8192 .f32) (harg13 : arg13.IsWhole) (arg14 : Memref sig .tc .vmem S8192x96 .f32) (harg14 : arg14.IsWhole) (hc0 : ¬cond0_0 i) (hc1 : cond0_1 i)
    (x0 : Vec F S2048x512 .f32) (x1 : Vec F S4x4096 .f32) (x2 : Vec F S512x32 .f32) (x3 : Vec F S1x32 .f32) (x4 : Vec F S1x8192x32 .f32) (x5 : Vec F S10x4096x32 .f32) (x6 : Vec F S10x1x32 .f32) (xo7 : Vec F S2048x32 .f32) (xo9 : Vec F S1x1 .f32) (xs0 : Vec F S2048x32 .f32) (xs1 : Vec F S2048x32 .f32) (y : S2048x32.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xo7 xo9 xs0 xs1).2.2.2.2.1, y ∈ pc.1.set :=
  View.cover_of_wholeMem (kernelRun0_B c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xo7 xo9 xs0 xs1).2.2.2.2.1 (by sl_whole_mem) y

/-- What case B leaves in scratch `arg12`: its pieces read back over junk. -/
def sout0_B_1 (c : Dev nD) (i : grid0.Coords) (arg1 : Memref sig .tc .vmem S2048x512 .f32) (harg1 : arg1.IsWhole) (arg2 : Memref sig .tc .vmem S4x4096 .f32) (harg2 : arg2.IsWhole) (arg3 : Memref sig .tc .vmem S512x32 .f32) (harg3 : arg3.IsWhole) (arg4 : Memref sig .tc .vmem S1x32 .f32) (harg4 : arg4.IsWhole) (arg5 : Memref sig .tc .vmem S1x8192x32 .f32) (harg5 : arg5.IsWhole) (arg6 : Memref sig .tc .vmem S10x4096x32 .f32) (harg6 : arg6.IsWhole) (arg7 : Memref sig .tc .vmem S10x1x32 .f32) (harg7 : arg7.IsWhole) (arg8 : Memref sig .tc .vmem S2048x32 .f32) (harg8 : arg8.IsWhole) (arg9 : Memref sig .tc .vmem S1x1x2048 .i32) (harg9 : arg9.IsWhole) (arg10 : Memref sig .tc .smem S1x1 .f32) (harg10 : arg10.IsWhole) (arg11 : Memref sig .tc .vmem S2048x32 .f32) (harg11 : arg11.IsWhole) (arg12 : Memref sig .tc .vmem S2048x32 .f32) (harg12 : arg12.IsWhole) (arg13 : Memref sig .tc .vmem S1x8192 .f32) (harg13 : arg13.IsWhole) (arg14 : Memref sig .tc .vmem S8192x96 .f32) (harg14 : arg14.IsWhole) (hc0 : ¬cond0_0 i) (hc1 : cond0_1 i)
    (x0 : Vec F S2048x512 .f32) (x1 : Vec F S4x4096 .f32) (x2 : Vec F S512x32 .f32) (x3 : Vec F S1x32 .f32) (x4 : Vec F S1x8192x32 .f32) (x5 : Vec F S10x4096x32 .f32) (x6 : Vec F S10x1x32 .f32) (xo7 : Vec F S2048x32 .f32) (xo9 : Vec F S1x1 .f32) (xs0 : Vec F S2048x32 .f32) (xs1 : Vec F S2048x32 .f32) : Vec F S2048x32 .f32 :=
  VS0_1.read (Elt F) (VS0_1.writes (Elt F) VS0_1.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xo7 xo9 xs0 xs1).2.2.2.2.1)

/-- Case C's pieces for output 7 tile its block (2 stores of `S1024x32`, checked by the kernel's evaluation: Lib/Ring.lean `Piece.tiledL`, linear in the pieces, through a loop's `@[irreducible]` trip theorem too), so they cover it. -/
theorem cover0_C_7 (c : Dev nD) (i : grid0.Coords) (arg1 : Memref sig .tc .vmem S2048x512 .f32) (harg1 : arg1.IsWhole) (arg2 : Memref sig .tc .vmem S4x4096 .f32) (harg2 : arg2.IsWhole) (arg3 : Memref sig .tc .vmem S512x32 .f32) (harg3 : arg3.IsWhole) (arg4 : Memref sig .tc .vmem S1x32 .f32) (harg4 : arg4.IsWhole) (arg5 : Memref sig .tc .vmem S1x8192x32 .f32) (harg5 : arg5.IsWhole) (arg6 : Memref sig .tc .vmem S10x4096x32 .f32) (harg6 : arg6.IsWhole) (arg7 : Memref sig .tc .vmem S10x1x32 .f32) (harg7 : arg7.IsWhole) (arg8 : Memref sig .tc .vmem S2048x32 .f32) (harg8 : arg8.IsWhole) (arg9 : Memref sig .tc .vmem S1x1x2048 .i32) (harg9 : arg9.IsWhole) (arg10 : Memref sig .tc .smem S1x1 .f32) (harg10 : arg10.IsWhole) (arg11 : Memref sig .tc .vmem S2048x32 .f32) (harg11 : arg11.IsWhole) (arg12 : Memref sig .tc .vmem S2048x32 .f32) (harg12 : arg12.IsWhole) (arg13 : Memref sig .tc .vmem S1x8192 .f32) (harg13 : arg13.IsWhole) (arg14 : Memref sig .tc .vmem S8192x96 .f32) (harg14 : arg14.IsWhole) (hc0 : ¬cond0_0 i) (hc1 : ¬cond0_1 i)
    (x0 : Vec F S2048x512 .f32) (x1 : Vec F S4x4096 .f32) (x2 : Vec F S512x32 .f32) (x3 : Vec F S1x32 .f32) (x4 : Vec F S1x8192x32 .f32) (x5 : Vec F S10x4096x32 .f32) (x6 : Vec F S10x1x32 .f32) (xo7 : Vec F S2048x32 .f32) (xo9 : Vec F S1x1 .f32) (xs0 : Vec F S2048x32 .f32) (xs1 : Vec F S2048x32 .f32) (y : S2048x32.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xo7 xo9 xs0 xs1).1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xo7 xo9 xs0 xs1).1 S1024x32.size (by sl_kernel_rfl) y

/-- What case C leaves in output 7's staging buffer: its pieces read back over junk. -/
def out0_C_7 (c : Dev nD) (i : grid0.Coords) (arg1 : Memref sig .tc .vmem S2048x512 .f32) (harg1 : arg1.IsWhole) (arg2 : Memref sig .tc .vmem S4x4096 .f32) (harg2 : arg2.IsWhole) (arg3 : Memref sig .tc .vmem S512x32 .f32) (harg3 : arg3.IsWhole) (arg4 : Memref sig .tc .vmem S1x32 .f32) (harg4 : arg4.IsWhole) (arg5 : Memref sig .tc .vmem S1x8192x32 .f32) (harg5 : arg5.IsWhole) (arg6 : Memref sig .tc .vmem S10x4096x32 .f32) (harg6 : arg6.IsWhole) (arg7 : Memref sig .tc .vmem S10x1x32 .f32) (harg7 : arg7.IsWhole) (arg8 : Memref sig .tc .vmem S2048x32 .f32) (harg8 : arg8.IsWhole) (arg9 : Memref sig .tc .vmem S1x1x2048 .i32) (harg9 : arg9.IsWhole) (arg10 : Memref sig .tc .smem S1x1 .f32) (harg10 : arg10.IsWhole) (arg11 : Memref sig .tc .vmem S2048x32 .f32) (harg11 : arg11.IsWhole) (arg12 : Memref sig .tc .vmem S2048x32 .f32) (harg12 : arg12.IsWhole) (arg13 : Memref sig .tc .vmem S1x8192 .f32) (harg13 : arg13.IsWhole) (arg14 : Memref sig .tc .vmem S8192x96 .f32) (harg14 : arg14.IsWhole) (hc0 : ¬cond0_0 i) (hc1 : ¬cond0_1 i)
    (x0 : Vec F S2048x512 .f32) (x1 : Vec F S4x4096 .f32) (x2 : Vec F S512x32 .f32) (x3 : Vec F S1x32 .f32) (x4 : Vec F S1x8192x32 .f32) (x5 : Vec F S10x4096x32 .f32) (x6 : Vec F S10x1x32 .f32) (xo7 : Vec F S2048x32 .f32) (xo9 : Vec F S1x1 .f32) (xs0 : Vec F S2048x32 .f32) (xs1 : Vec F S2048x32 .f32) : Vec F S2048x32 .f32 :=
  VO0_7.read (Elt F) (VO0_7.writes (Elt F) VO0_7.junk (kernelRun0_C c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xo7 xo9 xs0 xs1).1)

/-- Case C's pieces for output 8 tile its block (2 stores of `S1x1x1024`, checked by the kernel's evaluation: Lib/Ring.lean `Piece.tiledL`, linear in the pieces, through a loop's `@[irreducible]` trip theorem too), so they cover it. -/
theorem cover0_C_8 (c : Dev nD) (i : grid0.Coords) (arg1 : Memref sig .tc .vmem S2048x512 .f32) (harg1 : arg1.IsWhole) (arg2 : Memref sig .tc .vmem S4x4096 .f32) (harg2 : arg2.IsWhole) (arg3 : Memref sig .tc .vmem S512x32 .f32) (harg3 : arg3.IsWhole) (arg4 : Memref sig .tc .vmem S1x32 .f32) (harg4 : arg4.IsWhole) (arg5 : Memref sig .tc .vmem S1x8192x32 .f32) (harg5 : arg5.IsWhole) (arg6 : Memref sig .tc .vmem S10x4096x32 .f32) (harg6 : arg6.IsWhole) (arg7 : Memref sig .tc .vmem S10x1x32 .f32) (harg7 : arg7.IsWhole) (arg8 : Memref sig .tc .vmem S2048x32 .f32) (harg8 : arg8.IsWhole) (arg9 : Memref sig .tc .vmem S1x1x2048 .i32) (harg9 : arg9.IsWhole) (arg10 : Memref sig .tc .smem S1x1 .f32) (harg10 : arg10.IsWhole) (arg11 : Memref sig .tc .vmem S2048x32 .f32) (harg11 : arg11.IsWhole) (arg12 : Memref sig .tc .vmem S2048x32 .f32) (harg12 : arg12.IsWhole) (arg13 : Memref sig .tc .vmem S1x8192 .f32) (harg13 : arg13.IsWhole) (arg14 : Memref sig .tc .vmem S8192x96 .f32) (harg14 : arg14.IsWhole) (hc0 : ¬cond0_0 i) (hc1 : ¬cond0_1 i)
    (x0 : Vec F S2048x512 .f32) (x1 : Vec F S4x4096 .f32) (x2 : Vec F S512x32 .f32) (x3 : Vec F S1x32 .f32) (x4 : Vec F S1x8192x32 .f32) (x5 : Vec F S10x4096x32 .f32) (x6 : Vec F S10x1x32 .f32) (xo7 : Vec F S2048x32 .f32) (xo9 : Vec F S1x1 .f32) (xs0 : Vec F S2048x32 .f32) (xs1 : Vec F S2048x32 .f32) (y : S1x1x2048.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xo7 xo9 xs0 xs1).2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xo7 xo9 xs0 xs1).2.1 S1x1x1024.size (by sl_kernel_rfl) y

/-- What case C leaves in output 8's staging buffer: its pieces read back over junk. -/
def out0_C_8 (c : Dev nD) (i : grid0.Coords) (arg1 : Memref sig .tc .vmem S2048x512 .f32) (harg1 : arg1.IsWhole) (arg2 : Memref sig .tc .vmem S4x4096 .f32) (harg2 : arg2.IsWhole) (arg3 : Memref sig .tc .vmem S512x32 .f32) (harg3 : arg3.IsWhole) (arg4 : Memref sig .tc .vmem S1x32 .f32) (harg4 : arg4.IsWhole) (arg5 : Memref sig .tc .vmem S1x8192x32 .f32) (harg5 : arg5.IsWhole) (arg6 : Memref sig .tc .vmem S10x4096x32 .f32) (harg6 : arg6.IsWhole) (arg7 : Memref sig .tc .vmem S10x1x32 .f32) (harg7 : arg7.IsWhole) (arg8 : Memref sig .tc .vmem S2048x32 .f32) (harg8 : arg8.IsWhole) (arg9 : Memref sig .tc .vmem S1x1x2048 .i32) (harg9 : arg9.IsWhole) (arg10 : Memref sig .tc .smem S1x1 .f32) (harg10 : arg10.IsWhole) (arg11 : Memref sig .tc .vmem S2048x32 .f32) (harg11 : arg11.IsWhole) (arg12 : Memref sig .tc .vmem S2048x32 .f32) (harg12 : arg12.IsWhole) (arg13 : Memref sig .tc .vmem S1x8192 .f32) (harg13 : arg13.IsWhole) (arg14 : Memref sig .tc .vmem S8192x96 .f32) (harg14 : arg14.IsWhole) (hc0 : ¬cond0_0 i) (hc1 : ¬cond0_1 i)
    (x0 : Vec F S2048x512 .f32) (x1 : Vec F S4x4096 .f32) (x2 : Vec F S512x32 .f32) (x3 : Vec F S1x32 .f32) (x4 : Vec F S1x8192x32 .f32) (x5 : Vec F S10x4096x32 .f32) (x6 : Vec F S10x1x32 .f32) (xo7 : Vec F S2048x32 .f32) (xo9 : Vec F S1x1 .f32) (xs0 : Vec F S2048x32 .f32) (xs1 : Vec F S2048x32 .f32) : Vec F S1x1x2048 .i32 :=
  VO0_8.read (Elt F) (VO0_8.writes (Elt F) VO0_8.junk (kernelRun0_C c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xo7 xo9 xs0 xs1).2.1)

/-- Case C's pieces for output 9 tile its block (2 stores of `S1x1`, checked by the kernel's evaluation: Lib/Ring.lean `Piece.tiledL`, linear in the pieces, through a loop's `@[irreducible]` trip theorem too), so they cover it. -/
theorem cover0_C_9 (c : Dev nD) (i : grid0.Coords) (arg1 : Memref sig .tc .vmem S2048x512 .f32) (harg1 : arg1.IsWhole) (arg2 : Memref sig .tc .vmem S4x4096 .f32) (harg2 : arg2.IsWhole) (arg3 : Memref sig .tc .vmem S512x32 .f32) (harg3 : arg3.IsWhole) (arg4 : Memref sig .tc .vmem S1x32 .f32) (harg4 : arg4.IsWhole) (arg5 : Memref sig .tc .vmem S1x8192x32 .f32) (harg5 : arg5.IsWhole) (arg6 : Memref sig .tc .vmem S10x4096x32 .f32) (harg6 : arg6.IsWhole) (arg7 : Memref sig .tc .vmem S10x1x32 .f32) (harg7 : arg7.IsWhole) (arg8 : Memref sig .tc .vmem S2048x32 .f32) (harg8 : arg8.IsWhole) (arg9 : Memref sig .tc .vmem S1x1x2048 .i32) (harg9 : arg9.IsWhole) (arg10 : Memref sig .tc .smem S1x1 .f32) (harg10 : arg10.IsWhole) (arg11 : Memref sig .tc .vmem S2048x32 .f32) (harg11 : arg11.IsWhole) (arg12 : Memref sig .tc .vmem S2048x32 .f32) (harg12 : arg12.IsWhole) (arg13 : Memref sig .tc .vmem S1x8192 .f32) (harg13 : arg13.IsWhole) (arg14 : Memref sig .tc .vmem S8192x96 .f32) (harg14 : arg14.IsWhole) (hc0 : ¬cond0_0 i) (hc1 : ¬cond0_1 i)
    (x0 : Vec F S2048x512 .f32) (x1 : Vec F S4x4096 .f32) (x2 : Vec F S512x32 .f32) (x3 : Vec F S1x32 .f32) (x4 : Vec F S1x8192x32 .f32) (x5 : Vec F S10x4096x32 .f32) (x6 : Vec F S10x1x32 .f32) (xo7 : Vec F S2048x32 .f32) (xo9 : Vec F S1x1 .f32) (xs0 : Vec F S2048x32 .f32) (xs1 : Vec F S2048x32 .f32) (y : S1x1.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xo7 xo9 xs0 xs1).2.2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xo7 xo9 xs0 xs1).2.2.1 S1x1.size (by sl_kernel_rfl) y

/-- What case C leaves in output 9's staging buffer: its pieces read back over junk. -/
def out0_C_9 (c : Dev nD) (i : grid0.Coords) (arg1 : Memref sig .tc .vmem S2048x512 .f32) (harg1 : arg1.IsWhole) (arg2 : Memref sig .tc .vmem S4x4096 .f32) (harg2 : arg2.IsWhole) (arg3 : Memref sig .tc .vmem S512x32 .f32) (harg3 : arg3.IsWhole) (arg4 : Memref sig .tc .vmem S1x32 .f32) (harg4 : arg4.IsWhole) (arg5 : Memref sig .tc .vmem S1x8192x32 .f32) (harg5 : arg5.IsWhole) (arg6 : Memref sig .tc .vmem S10x4096x32 .f32) (harg6 : arg6.IsWhole) (arg7 : Memref sig .tc .vmem S10x1x32 .f32) (harg7 : arg7.IsWhole) (arg8 : Memref sig .tc .vmem S2048x32 .f32) (harg8 : arg8.IsWhole) (arg9 : Memref sig .tc .vmem S1x1x2048 .i32) (harg9 : arg9.IsWhole) (arg10 : Memref sig .tc .smem S1x1 .f32) (harg10 : arg10.IsWhole) (arg11 : Memref sig .tc .vmem S2048x32 .f32) (harg11 : arg11.IsWhole) (arg12 : Memref sig .tc .vmem S2048x32 .f32) (harg12 : arg12.IsWhole) (arg13 : Memref sig .tc .vmem S1x8192 .f32) (harg13 : arg13.IsWhole) (arg14 : Memref sig .tc .vmem S8192x96 .f32) (harg14 : arg14.IsWhole) (hc0 : ¬cond0_0 i) (hc1 : ¬cond0_1 i)
    (x0 : Vec F S2048x512 .f32) (x1 : Vec F S4x4096 .f32) (x2 : Vec F S512x32 .f32) (x3 : Vec F S1x32 .f32) (x4 : Vec F S1x8192x32 .f32) (x5 : Vec F S10x4096x32 .f32) (x6 : Vec F S10x1x32 .f32) (xo7 : Vec F S2048x32 .f32) (xo9 : Vec F S1x1 .f32) (xs0 : Vec F S2048x32 .f32) (xs1 : Vec F S2048x32 .f32) : Vec F S1x1 .f32 :=
  VO0_9.read (Elt F) (VO0_9.writes (Elt F) VO0_9.junk (kernelRun0_C c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xo7 xo9 xs0 xs1).2.2.1)

/-- Case C stores nothing into scratch `arg11`: it holds what the point before left. -/
def sout0_C_0 (c : Dev nD) (i : grid0.Coords) (arg1 : Memref sig .tc .vmem S2048x512 .f32) (harg1 : arg1.IsWhole) (arg2 : Memref sig .tc .vmem S4x4096 .f32) (harg2 : arg2.IsWhole) (arg3 : Memref sig .tc .vmem S512x32 .f32) (harg3 : arg3.IsWhole) (arg4 : Memref sig .tc .vmem S1x32 .f32) (harg4 : arg4.IsWhole) (arg5 : Memref sig .tc .vmem S1x8192x32 .f32) (harg5 : arg5.IsWhole) (arg6 : Memref sig .tc .vmem S10x4096x32 .f32) (harg6 : arg6.IsWhole) (arg7 : Memref sig .tc .vmem S10x1x32 .f32) (harg7 : arg7.IsWhole) (arg8 : Memref sig .tc .vmem S2048x32 .f32) (harg8 : arg8.IsWhole) (arg9 : Memref sig .tc .vmem S1x1x2048 .i32) (harg9 : arg9.IsWhole) (arg10 : Memref sig .tc .smem S1x1 .f32) (harg10 : arg10.IsWhole) (arg11 : Memref sig .tc .vmem S2048x32 .f32) (harg11 : arg11.IsWhole) (arg12 : Memref sig .tc .vmem S2048x32 .f32) (harg12 : arg12.IsWhole) (arg13 : Memref sig .tc .vmem S1x8192 .f32) (harg13 : arg13.IsWhole) (arg14 : Memref sig .tc .vmem S8192x96 .f32) (harg14 : arg14.IsWhole) (hc0 : ¬cond0_0 i) (hc1 : ¬cond0_1 i)
    (x0 : Vec F S2048x512 .f32) (x1 : Vec F S4x4096 .f32) (x2 : Vec F S512x32 .f32) (x3 : Vec F S1x32 .f32) (x4 : Vec F S1x8192x32 .f32) (x5 : Vec F S10x4096x32 .f32) (x6 : Vec F S10x1x32 .f32) (xo7 : Vec F S2048x32 .f32) (xo9 : Vec F S1x1 .f32) (xs0 : Vec F S2048x32 .f32) (xs1 : Vec F S2048x32 .f32) : Vec F S2048x32 .f32 := xs0

/-- Case C's pieces for scratch `arg12`, which the kernel carries between points, cover it: 2 pieces of `S1024x32` tiling it (Lib/Ring.lean `Piece.tiledL`). -/
theorem scover0_C_1 (c : Dev nD) (i : grid0.Coords) (arg1 : Memref sig .tc .vmem S2048x512 .f32) (harg1 : arg1.IsWhole) (arg2 : Memref sig .tc .vmem S4x4096 .f32) (harg2 : arg2.IsWhole) (arg3 : Memref sig .tc .vmem S512x32 .f32) (harg3 : arg3.IsWhole) (arg4 : Memref sig .tc .vmem S1x32 .f32) (harg4 : arg4.IsWhole) (arg5 : Memref sig .tc .vmem S1x8192x32 .f32) (harg5 : arg5.IsWhole) (arg6 : Memref sig .tc .vmem S10x4096x32 .f32) (harg6 : arg6.IsWhole) (arg7 : Memref sig .tc .vmem S10x1x32 .f32) (harg7 : arg7.IsWhole) (arg8 : Memref sig .tc .vmem S2048x32 .f32) (harg8 : arg8.IsWhole) (arg9 : Memref sig .tc .vmem S1x1x2048 .i32) (harg9 : arg9.IsWhole) (arg10 : Memref sig .tc .smem S1x1 .f32) (harg10 : arg10.IsWhole) (arg11 : Memref sig .tc .vmem S2048x32 .f32) (harg11 : arg11.IsWhole) (arg12 : Memref sig .tc .vmem S2048x32 .f32) (harg12 : arg12.IsWhole) (arg13 : Memref sig .tc .vmem S1x8192 .f32) (harg13 : arg13.IsWhole) (arg14 : Memref sig .tc .vmem S8192x96 .f32) (harg14 : arg14.IsWhole) (hc0 : ¬cond0_0 i) (hc1 : ¬cond0_1 i)
    (x0 : Vec F S2048x512 .f32) (x1 : Vec F S4x4096 .f32) (x2 : Vec F S512x32 .f32) (x3 : Vec F S1x32 .f32) (x4 : Vec F S1x8192x32 .f32) (x5 : Vec F S10x4096x32 .f32) (x6 : Vec F S10x1x32 .f32) (xo7 : Vec F S2048x32 .f32) (xo9 : Vec F S1x1 .f32) (xs0 : Vec F S2048x32 .f32) (xs1 : Vec F S2048x32 .f32) (y : S2048x32.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xo7 xo9 xs0 xs1).2.2.2.2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xo7 xo9 xs0 xs1).2.2.2.2.1 S1024x32.size (by sl_kernel_rfl) y

/-- What case C leaves in scratch `arg12`: its pieces read back over junk. -/
def sout0_C_1 (c : Dev nD) (i : grid0.Coords) (arg1 : Memref sig .tc .vmem S2048x512 .f32) (harg1 : arg1.IsWhole) (arg2 : Memref sig .tc .vmem S4x4096 .f32) (harg2 : arg2.IsWhole) (arg3 : Memref sig .tc .vmem S512x32 .f32) (harg3 : arg3.IsWhole) (arg4 : Memref sig .tc .vmem S1x32 .f32) (harg4 : arg4.IsWhole) (arg5 : Memref sig .tc .vmem S1x8192x32 .f32) (harg5 : arg5.IsWhole) (arg6 : Memref sig .tc .vmem S10x4096x32 .f32) (harg6 : arg6.IsWhole) (arg7 : Memref sig .tc .vmem S10x1x32 .f32) (harg7 : arg7.IsWhole) (arg8 : Memref sig .tc .vmem S2048x32 .f32) (harg8 : arg8.IsWhole) (arg9 : Memref sig .tc .vmem S1x1x2048 .i32) (harg9 : arg9.IsWhole) (arg10 : Memref sig .tc .smem S1x1 .f32) (harg10 : arg10.IsWhole) (arg11 : Memref sig .tc .vmem S2048x32 .f32) (harg11 : arg11.IsWhole) (arg12 : Memref sig .tc .vmem S2048x32 .f32) (harg12 : arg12.IsWhole) (arg13 : Memref sig .tc .vmem S1x8192 .f32) (harg13 : arg13.IsWhole) (arg14 : Memref sig .tc .vmem S8192x96 .f32) (harg14 : arg14.IsWhole) (hc0 : ¬cond0_0 i) (hc1 : ¬cond0_1 i)
    (x0 : Vec F S2048x512 .f32) (x1 : Vec F S4x4096 .f32) (x2 : Vec F S512x32 .f32) (x3 : Vec F S1x32 .f32) (x4 : Vec F S1x8192x32 .f32) (x5 : Vec F S10x4096x32 .f32) (x6 : Vec F S10x1x32 .f32) (xo7 : Vec F S2048x32 .f32) (xo9 : Vec F S1x1 .f32) (xs0 : Vec F S2048x32 .f32) (xs1 : Vec F S2048x32 .f32) : Vec F S2048x32 .f32 :=
  VS0_1.read (Elt F) (VS0_1.writes (Elt F) VS0_1.junk (kernelRun0_C c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xo7 xo9 xs0 xs1).2.2.2.2.1)

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S2048x32 .f32 × Vec F S1x1x2048 .i32 × Vec F S1x1 .f32 × Vec F S2048x32 .f32 × Vec F S2048x32 .f32
  | 0, hn => (out0_A_7 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) ((hcond0_1 ⟨0, hn⟩).mpr (by (try dsimp only); omega)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩), out0_A_8 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) ((hcond0_1 ⟨0, hn⟩).mpr (by (try dsimp only); omega)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩), out0_A_9 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) ((hcond0_1 ⟨0, hn⟩).mpr (by (try dsimp only); omega)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) ((hcond0_1 ⟨0, hn⟩).mpr (by (try dsimp only); omega)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) ((hcond0_1 ⟨0, hn⟩).mpr (by (try dsimp only); omega)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩))
  | n + 1, hn =>
    if h0 : (n + 1) % 32 = 0 then
      if h1 : (n + 1) < 10 then
        (out0_A_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩), out0_A_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩), out0_A_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩))
      else
        False.elim (by have hN : n + 1 < 32 := lt_of_lt_of_eq hn (show cfg0.N = 32 from N_0); omega)
    else
      if h1 : (n + 1) < 10 then
        (out0_B_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).1 (outsAt0 c n (Nat.lt_of_succ_lt hn)).2.2.1 (outsAt0 c n (Nat.lt_of_succ_lt hn)).2.2.2.1 (outsAt0 c n (Nat.lt_of_succ_lt hn)).2.2.2.2, out0_B_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).1 (outsAt0 c n (Nat.lt_of_succ_lt hn)).2.2.1 (outsAt0 c n (Nat.lt_of_succ_lt hn)).2.2.2.1 (outsAt0 c n (Nat.lt_of_succ_lt hn)).2.2.2.2, out0_B_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).1 (outsAt0 c n (Nat.lt_of_succ_lt hn)).2.2.1 (outsAt0 c n (Nat.lt_of_succ_lt hn)).2.2.2.1 (outsAt0 c n (Nat.lt_of_succ_lt hn)).2.2.2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).1 (outsAt0 c n (Nat.lt_of_succ_lt hn)).2.2.1 (outsAt0 c n (Nat.lt_of_succ_lt hn)).2.2.2.1 (outsAt0 c n (Nat.lt_of_succ_lt hn)).2.2.2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).1 (outsAt0 c n (Nat.lt_of_succ_lt hn)).2.2.1 (outsAt0 c n (Nat.lt_of_succ_lt hn)).2.2.2.1 (outsAt0 c n (Nat.lt_of_succ_lt hn)).2.2.2.2)
      else
        (out0_C_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).1 (outsAt0 c n (Nat.lt_of_succ_lt hn)).2.2.1 (outsAt0 c n (Nat.lt_of_succ_lt hn)).2.2.2.1 (outsAt0 c n (Nat.lt_of_succ_lt hn)).2.2.2.2, out0_C_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).1 (outsAt0 c n (Nat.lt_of_succ_lt hn)).2.2.1 (outsAt0 c n (Nat.lt_of_succ_lt hn)).2.2.2.1 (outsAt0 c n (Nat.lt_of_succ_lt hn)).2.2.2.2, out0_C_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).1 (outsAt0 c n (Nat.lt_of_succ_lt hn)).2.2.1 (outsAt0 c n (Nat.lt_of_succ_lt hn)).2.2.2.1 (outsAt0 c n (Nat.lt_of_succ_lt hn)).2.2.2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).1 (outsAt0 c n (Nat.lt_of_succ_lt hn)).2.2.1 (outsAt0 c n (Nat.lt_of_succ_lt hn)).2.2.2.1 (outsAt0 c n (Nat.lt_of_succ_lt hn)).2.2.2.2, sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).1 (outsAt0 c n (Nat.lt_of_succ_lt hn)).2.2.1 (outsAt0 c n (Nat.lt_of_succ_lt hn)).2.2.2.1 (outsAt0 c n (Nat.lt_of_succ_lt hn)).2.2.2.2)

/-- `outsAt0` at a point of case A: that case's contents. -/
theorem outsAt0_A (c : Dev nD) (t : Fin cfg0.N) (h0 : t.val % 32 = 0) (h1 : t.val < 10) :
    outsAt0 m c t.val t.isLt = (out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) ((hcond0_0 t).mpr h0) ((hcond0_1 t).mpr h1) (iblk m c 0 t) (iblk m c 1 t) (iblk m c 2 t) (iblk m c 3 t) (iblk m c 4 t) (iblk m c 5 t) (iblk m c 6 t), out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) ((hcond0_0 t).mpr h0) ((hcond0_1 t).mpr h1) (iblk m c 0 t) (iblk m c 1 t) (iblk m c 2 t) (iblk m c 3 t) (iblk m c 4 t) (iblk m c 5 t) (iblk m c 6 t), out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) ((hcond0_0 t).mpr h0) ((hcond0_1 t).mpr h1) (iblk m c 0 t) (iblk m c 1 t) (iblk m c 2 t) (iblk m c 3 t) (iblk m c 4 t) (iblk m c 5 t) (iblk m c 6 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) ((hcond0_0 t).mpr h0) ((hcond0_1 t).mpr h1) (iblk m c 0 t) (iblk m c 1 t) (iblk m c 2 t) (iblk m c 3 t) (iblk m c 4 t) (iblk m c 5 t) (iblk m c 6 t), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) ((hcond0_0 t).mpr h0) ((hcond0_1 t).mpr h1) (iblk m c 0 t) (iblk m c 1 t) (iblk m c 2 t) (iblk m c 3 t) (iblk m c 4 t) (iblk m c 5 t) (iblk m c 6 t)) := by
  obtain ⟨n, hn⟩ := t
  cases n with
  | zero => exact rfl
  | succ n => exact (dif_pos h0).trans ((dif_pos h1).trans rfl)

/-- `outsAt0` at a point of case B: that case's contents, over what the point before left. -/
theorem outsAt0_B (c : Dev nD) (t : Fin cfg0.N) (h0 : ¬t.val % 32 = 0) (h1 : t.val < 10) :
    outsAt0 m c t.val t.isLt = (out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2, out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2, out0_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2, sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h0).trans ((dif_pos h1).trans rfl)

/-- `outsAt0` at a point of case C: that case's contents, over what the point before left. -/
theorem outsAt0_C (c : Dev nD) (t : Fin cfg0.N) (h0 : ¬t.val % 32 = 0) (h1 : ¬t.val < 10) :
    outsAt0 m c t.val t.isLt = (out0_C_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2, out0_C_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2, out0_C_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2, sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2) := by
  obtain ⟨n, hn⟩ := t
  cases n with
  | zero => exact (by exfalso; (try dsimp only at h0); exact absurd (Nat.zero_mod _) h0)
  | succ n => exact (dif_neg h0).trans ((dif_neg h1).trans rfl)

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2.2.1) ∗ owns (c : Thread nD τ) scM0_1 fullShare ((outsAt0 m c n hn).2.2.2.2) ∗ (∃ d, owns (c : Thread nD τ) scM0_2 fullShare d) ∗ (∃ d, owns (c : Thread nD τ) scM0_3 fullShare d)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).2.2.2.1) ∗ owns (c : Thread nD τ) scM0_1 fullShare ((outsAt0 m c n hn).2.2.2.2) ∗ (∃ d, owns (c : Thread nD τ) scM0_2 fullShare d) ∗ (∃ d, owns (c : Thread nD τ) scM0_3 fullShare d)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.2.2.1) ∗ owns (c : Thread nD τ) scM0_1 fullShare ((outsAt0 m c (n - 1) (by omega)).2.2.2.2) ∗ (∃ d, owns (c : Thread nD τ) scM0_2 fullShare d) ∗ (∃ d, owns (c : Thread nD τ) scM0_3 fullShare d)) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => (outsAt0 m c t.val t.isLt).1
    | ⟨8, _⟩ => (outsAt0 m c t.val t.isLt).2.1
    | ⟨9, _⟩ => (outsAt0 m c t.val t.isLt).2.2.1
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = (outsAt0 m c t.val t.isLt).1 := by dsimp only [dats]
theorem after0_8 (c : Dev nD) (t : Fin cfg0.N) : (dats m 0 c).after 8 t = (outsAt0 m c t.val t.isLt).2.1 := by dsimp only [dats]
theorem after0_9 (c : Dev nD) (t : Fin cfg0.N) : (dats m 0 c).after 9 t = (outsAt0 m c t.val t.isLt).2.2.1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
/-- At a point of case B output 7's current staging buffer holds what the body left at the point before: the point is
    not the first, the buffer was not written back between (`flush0_7`), the window is live and uncut (Lib/Pipeline/Frame.lean
    `Dat.before_out_kept`). -/
theorem before0_7_B (c : Dev nD) (t : Fin cfg0.N) (h0 : ¬t.val % 32 = 0) (h1 : t.val < 10) (d) :
    (dats m 0 c).before 7 t d = (outsAt0 m c (t.val - 1) (Nat.lt_of_le_of_lt (Nat.sub_le _ _) t.isLt)).1 := by
  have hN : t.val < 32 := lt_of_lt_of_eq t.isLt (show cfg0.N = 32 from N_0)
  rw [Dat.before_out_kept _ 7 rfl t (by omega) (Bool.eq_false_iff.mpr fun h => by have := (flush0_7 _).mp h; dsimp only at this; omega)
    (fun _ => rfl) (fun _ _ => rfl)]
  dsimp only [dats]
/-- At a point of case B output 9's current staging buffer holds what the body left at the point before: the point is
    not the first, the buffer was not written back between (`flush0_9`), the window is live and uncut (Lib/Pipeline/Frame.lean
    `Dat.before_out_kept`). -/
theorem before0_9_B (c : Dev nD) (t : Fin cfg0.N) (h0 : ¬t.val % 32 = 0) (h1 : t.val < 10) (d) :
    (dats m 0 c).before 9 t d = (outsAt0 m c (t.val - 1) (Nat.lt_of_le_of_lt (Nat.sub_le _ _) t.isLt)).2.2.1 := by
  have hN : t.val < 32 := lt_of_lt_of_eq t.isLt (show cfg0.N = 32 from N_0)
  rw [Dat.before_out_kept _ 9 rfl t (by omega) (Bool.eq_false_iff.mpr fun h => by have := (flush0_9 _).mp h; dsimp only at this; omega)
    (fun _ => rfl) (fun _ _ => rfl)]
  dsimp only [dats]
/-- At a point of case C output 7's current staging buffer holds what the body left at the point before: the point is
    not the first, the buffer was not written back between (`flush0_7`), the window is live and uncut (Lib/Pipeline/Frame.lean
    `Dat.before_out_kept`). -/
theorem before0_7_C (c : Dev nD) (t : Fin cfg0.N) (h0 : ¬t.val % 32 = 0) (h1 : ¬t.val < 10) (d) :
    (dats m 0 c).before 7 t d = (outsAt0 m c (t.val - 1) (Nat.lt_of_le_of_lt (Nat.sub_le _ _) t.isLt)).1 := by
  have hN : t.val < 32 := lt_of_lt_of_eq t.isLt (show cfg0.N = 32 from N_0)
  rw [Dat.before_out_kept _ 7 rfl t (by omega) (Bool.eq_false_iff.mpr fun h => by have := (flush0_7 _).mp h; dsimp only at this; omega)
    (fun _ => rfl) (fun _ _ => rfl)]
  dsimp only [dats]
/-- At a point of case C output 9's current staging buffer holds what the body left at the point before: the point is
    not the first, the buffer was not written back between (`flush0_9`), the window is live and uncut (Lib/Pipeline/Frame.lean
    `Dat.before_out_kept`). -/
theorem before0_9_C (c : Dev nD) (t : Fin cfg0.N) (h0 : ¬t.val % 32 = 0) (h1 : ¬t.val < 10) (d) :
    (dats m 0 c).before 9 t d = (outsAt0 m c (t.val - 1) (Nat.lt_of_le_of_lt (Nat.sub_le _ _) t.isLt)).2.2.1 := by
  have hN : t.val < 32 := lt_of_lt_of_eq t.isLt (show cfg0.N = 32 from N_0)
  rw [Dat.before_out_kept _ 9 rfl t (by omega) (Bool.eq_false_iff.mpr fun h => by have := (flush0_9 _).mp h; dsimp only at this; omega)
    (fun _ => rfl) (fun _ _ => rfl)]
  dsimp only [dats]

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t))

set_option maxHeartbeats 14400000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).owesAt () t.succ = (dats m 0 c).owesAt () t.castSucc from rfl,
    after0_0, after0_1, after0_2, after0_3, after0_4, after0_5, after0_6, after0_7, after0_8, after0_9]
  rw [show (dats m 0 c).Φ t.succ = PhiS m c (t.val + 1) t.isLt from rfl, PhiS_succ]
  have hN : t.val < 32 := lt_of_lt_of_eq t.isLt (show cfg0.N = 32 from N_0)
  by_cases h0 : t.val % 32 = 0
  · by_cases h1 : t.val < 10
    · by_cases hz : t.val = 0
      · rw [PhiS_castSucc m c t, PhiS_zero m c _ _ hz, PhiA0_eq]
        rw [outsAt0_A m c t h0 h1]
        unfold out0_A_7 out0_A_8 out0_A_9 sout0_A_0 sout0_A_1; (try dsimp only)
        iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
        iapply ((kernelRun0_A c (grid0.coords t) _ _ _ _ _ _ _ _ _ _ _ _ _ _ _ _ _ _ _ _ _ _ _ _ _ _ _ _ ((hcond0_0 t).mpr h0) ((hcond0_1 t).mpr h1) (iblk m c 0 t) (iblk m c 1 t) (iblk m c 2 t) (iblk m c 3 t) (iblk m c 4 t) (iblk m c 5 t) (iblk m c 6 t)).2.2.2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexists _; iexact H7
        isplitl [H8]; · iexists _; iexact H8
        isplitl [H9]; · iexists _; iexact H9
        isplitl [HS0]; · iexact HS0
        isplitl [HS1]; · iexact HS1
        isplitl [HS2]; · iexact HS2
        isplitl [HS3]; · iexact HS3
        iintro ⟨H0, H1, H2, H3, H4, H5, H6, ⟨%e7, H7⟩, ⟨%e8, H8⟩, ⟨%e9, H9⟩, ⟨%es0, HS0⟩, ⟨%es1, HS1⟩, HS2, HS3⟩
        isplitl [HS0 HS1 HS2 HS3 Hg]
        · isplitl [HS0 HS1 HS2 HS3]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover0_A_1 c _ _ _ _ _ _ _ _ _ _ _ _ _ _ _ _ _ _ _ _ _ _ _ _ _ _ _ _ _ _ _ _ _ _ _ _ _ _)
            isplitl [HS2]
            · iexact HS2
            iexact HS3
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]
        · unfold owns; iexists _; isplitr
          swap; · iexact H7
          ipureintro; exact View.read_writes_of_cover _ _ _ _ _ (cover0_A_7 c _ _ _ _ _ _ _ _ _ _ _ _ _ _ _ _ _ _ _ _ _ _ _ _ _ _ _ _ _ _ _ _ _ _ _ _ _ _)
        isplitl [H8]
        · unfold owns; iexists _; isplitr
          swap; · iexact H8
          ipureintro; exact View.read_writes_of_cover _ _ _ _ _ (cover0_A_8 c _ _ _ _ _ _ _ _ _ _ _ _ _ _ _ _ _ _ _ _ _ _ _ _ _ _ _ _ _ _ _ _ _ _ _ _ _ _)
        unfold owns; iexists _; isplitr
        swap; · iexact H9
        ipureintro; exact View.read_writes_of_cover _ _ _ _ _ (cover0_A_9 c _ _ _ _ _ _ _ _ _ _ _ _ _ _ _ _ _ _ _ _ _ _ _ _ _ _ _ _ _ _ _ _ _ _ _ _ _ _)
      · exfalso; have hN : t.val < 32 := lt_of_lt_of_eq t.isLt (show cfg0.N = 32 from N_0); omega
    · exfalso; omega
  · by_cases h1 : t.val < 10
    · by_cases hz : t.val = 0
      · exfalso; have hN : t.val < 32 := lt_of_lt_of_eq t.isLt (show cfg0.N = 32 from N_0); omega
      · rw [PhiS_castSucc m c t, PhiS_pos m c _ _ hz]
        rw [outsAt0_B m c t h0 h1]
        simp only [before0_7_B m c t h0 h1, before0_9_B m c t h0 h1]
        unfold out0_B_7 out0_B_8 out0_B_9 sout0_B_0 sout0_B_1; (try dsimp only)
        iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
        iapply ((kernelRun0_B c (grid0.coords t) _ _ _ _ _ _ _ _ _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) (iblk m c 5 t) (iblk m c 6 t) _ _ _ _).2.2.2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexists _; iexact H8
        isplitl [H9]; · iexact H9
        isplitl [HS0]; · iexact HS0
        isplitl [HS1]; · iexact HS1
        isplitl [HS2]; · iexact HS2
        isplitl [HS3]; · iexact HS3
        iintro ⟨H0, H1, H2, H3, H4, H5, H6, ⟨%e7, H7⟩, ⟨%e8, H8⟩, ⟨%e9, H9⟩, HS0, ⟨%es1, HS1⟩, HS2, HS3⟩
        isplitl [HS0 HS1 HS2 HS3 Hg]
        · isplitl [HS0 HS1 HS2 HS3]
          · isplitl [HS0]
            · iexact HS0
            isplitl [HS1]
            · unfold owns; iexists _; isplitr
              swap; · iexact HS1
              ipureintro; exact View.read_writes_of_cover _ _ _ _ _ (scover0_B_1 c _ _ _ _ _ _ _ _ _ _ _ _ _ _ _ _ _ _ _ _ _ _ _ _ _ _ _ _ _ _ _ _ _ _ _ _ _ _ _ _ _ _)
            isplitl [HS2]
            · iexact HS2
            iexact HS3
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]
        · unfold owns; iexists _; isplitr
          swap; · iexact H7
          ipureintro; exact View.read_writes_of_cover _ _ _ _ _ (cover0_B_7 c _ _ _ _ _ _ _ _ _ _ _ _ _ _ _ _ _ _ _ _ _ _ _ _ _ _ _ _ _ _ _ _ _ _ _ _ _ _ _ _ _ _)
        isplitl [H8]
        · unfold owns; iexists _; isplitr
          swap; · iexact H8
          ipureintro; exact View.read_writes_of_cover _ _ _ _ _ (cover0_B_8 c _ _ _ _ _ _ _ _ _ _ _ _ _ _ _ _ _ _ _ _ _ _ _ _ _ _ _ _ _ _ _ _ _ _ _ _ _ _ _ _ _ _)
        unfold owns; iexists _; isplitr
        swap; · iexact H9
        ipureintro; exact View.read_writes_of_cover _ _ _ _ _ (cover0_B_9 c _ _ _ _ _ _ _ _ _ _ _ _ _ _ _ _ _ _ _ _ _ _ _ _ _ _ _ _ _ _ _ _ _ _ _ _ _ _ _ _ _ _)
    · by_cases hz : t.val = 0
      · exfalso; have hN : t.val < 32 := lt_of_lt_of_eq t.isLt (show cfg0.N = 32 from N_0); omega
      · rw [PhiS_castSucc m c t, PhiS_pos m c _ _ hz]
        rw [outsAt0_C m c t h0 h1]
        simp only [before0_7_C m c t h0 h1, before0_9_C m c t h0 h1]
        unfold out0_C_7 out0_C_8 out0_C_9 sout0_C_0 sout0_C_1; (try dsimp only)
        iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
        iapply ((kernelRun0_C c (grid0.coords t) _ _ _ _ _ _ _ _ _ _ _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) _ _ _ _).2.2.2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexists _; iexact H8
        isplitl [H9]; · iexact H9
        isplitl [HS0]; · iexact HS0
        isplitl [HS1]; · iexact HS1
        isplitl [HS2]; · iexact HS2
        isplitl [HS3]; · iexact HS3
        iintro ⟨H0, H1, H2, H3, H4, H5, H6, ⟨%e7, H7⟩, ⟨%e8, H8⟩, ⟨%e9, H9⟩, HS0, ⟨%es1, HS1⟩, HS2, HS3⟩
        isplitl [HS0 HS1 HS2 HS3 Hg]
        · isplitl [HS0 HS1 HS2 HS3]
          · isplitl [HS0]
            · iexact HS0
            isplitl [HS1]
            · unfold owns; iexists _; isplitr
              swap; · iexact HS1
              ipureintro; exact View.read_writes_of_cover _ _ _ _ _ (scover0_C_1 c _ _ _ _ _ _ _ _ _ _ _ _ _ _ _ _ _ _ _ _ _ _ _ _ _ _ _ _ _ _ _ _ _ _ _ _ _ _ _ _ _ _)
            isplitl [HS2]
            · iexact HS2
            iexact HS3
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]
        · unfold owns; iexists _; isplitr
          swap; · iexact H7
          ipureintro; exact View.read_writes_of_cover _ _ _ _ _ (cover0_C_7 c _ _ _ _ _ _ _ _ _ _ _ _ _ _ _ _ _ _ _ _ _ _ _ _ _ _ _ _ _ _ _ _ _ _ _ _ _ _ _ _ _ _)
        isplitl [H8]
        · unfold owns; iexists _; isplitr
          swap; · iexact H8
          ipureintro; exact View.read_writes_of_cover _ _ _ _ _ (cover0_C_8 c _ _ _ _ _ _ _ _ _ _ _ _ _ _ _ _ _ _ _ _ _ _ _ _ _ _ _ _ _ _ _ _ _ _ _ _ _ _ _ _ _ _)
        unfold owns; iexists _; isplitr
        swap; · iexact H9
        ipureintro; exact View.read_writes_of_cover _ _ _ _ _ (cover0_C_9 c _ _ _ _ _ _ _ _ _ _ _ _ _ _ _ _ _ _ _ _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2, HS3⟩, Hg⟩
  isplitl [HS0 HS1 HS2 HS3]
  · isplitl [HS0]
    · iexists _; iexact HS0
    isplitl [HS1]
    · iexists _; iexact HS1
    isplitl [HS2]
    · iexact HS2
    iexact HS3
  iexact Hg

/-- The same after the last point. -/
theorem hout (c : Dev nD) : (dats m 0 c).Φ (Fin.last cfg0.N) ⊢ Pipeline.ΦA spec0 c :=
  Phi_out m c _ (by rw [Fin.val_last]; have : cfg0.N = 32 := N_0; omega)

/-! ## The run and the frame -/

-- `θ_run_frame_around_track`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the lines after the region leave it (Lib/Pipeline/Frame.lean `FramePost`). -/
theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

/-- THE FRAME: `Cert.quiescent_KernelIdeal`'s statement (Defs.lean) at any `F` — Proof.lean cites it at `Bits`:
    `theorem Cert.Proof.claim : Cert.Claim := ⟨Cert.KernelIdeal.Gen.facts, fun m ρ _ => Cert.KernelIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ) ((θ_run defs _ _).mono (fun _ h => h.2) (run_main_quiescent m ρ))

end Cert.KernelIdeal.Gen

end
-- ==== Proof.KernelFrame.lean ====
/-
The frame of the program as printed. Idealization rewrote nothing in it, so the printed program and its idealized
reading are one text over any arithmetic, and the frame shown for the one holds of the other.
-/
module

public import proofs.«01_k».proof.Proof.Gen.Kernel
public import proofs.«01_k».proof.Proof.KernelIdeal.Frame
public import proofs.«01_k».proof.Defs

@[expose] public section

noncomputable section

namespace Cert.Proof

open Cert Idealize.ShloMosaic Idealize.SL.Sem

/-- The printed program runs, leaves its arguments unchanged and ends with its semaphores at zero. -/
def FramesKernel : Prop :=
  ∀ (m : (ℓ : Loc Kernel.nD Kernel.τ Kernel.sig) → Buf (Elt Bits) ℓ) (g : Dev Kernel.nD → PrngReg),
    θ_run (Kernel.defs (F := Bits)) (onTc (τ := Kernel.τ) (Kernel.main (F := Bits))) ⟨m, fun _ => 0, g⟩ (fun r => (∀ c : Dev Kernel.nD,
        r.2.mem ((c.tc : Thread Kernel.nD Kernel.τ).loc Kernel.main_arg0) = m ((c.tc : Thread Kernel.nD Kernel.τ).loc Kernel.main_arg0) ∧
        r.2.mem ((c.tc : Thread Kernel.nD Kernel.τ).loc Kernel.main_arg1) = m ((c.tc : Thread Kernel.nD Kernel.τ).loc Kernel.main_arg1) ∧
        r.2.mem ((c.tc : Thread Kernel.nD Kernel.τ).loc Kernel.main_arg2) = m ((c.tc : Thread Kernel.nD Kernel.τ).loc Kernel.main_arg2) ∧
        r.2.mem ((c.tc : Thread Kernel.nD Kernel.τ).loc Kernel.main_arg3) = m ((c.tc : Thread Kernel.nD Kernel.τ).loc Kernel.main_arg3) ∧
        r.2.mem ((c.tc : Thread Kernel.nD Kernel.τ).loc Kernel.main_arg4) = m ((c.tc : Thread Kernel.nD Kernel.τ).loc Kernel.main_arg4) ∧
        r.2.mem ((c.tc : Thread Kernel.nD Kernel.τ).loc Kernel.main_arg5) = m ((c.tc : Thread Kernel.nD Kernel.τ).loc Kernel.main_arg5) ∧
        r.2.mem ((c.tc : Thread Kernel.nD Kernel.τ).loc Kernel.main_arg6) = m ((c.tc : Thread Kernel.nD Kernel.τ).loc Kernel.main_arg6))
      ∧ r.2.sem = fun _ => 0)

/-- The idealized program's text, read over machine words, does the same. -/
def FramesKernelIdeal : Prop :=
  ∀ (m : (ℓ : Loc KernelIdeal.nD KernelIdeal.τ KernelIdeal.sig) → Buf (Elt Bits) ℓ) (g : Dev KernelIdeal.nD → PrngReg),
    θ_run (KernelIdeal.defs (F := Bits)) (onTc (τ := KernelIdeal.τ) (KernelIdeal.main (F := Bits))) ⟨m, fun _ => 0, g⟩ (fun r => (∀ c : Dev KernelIdeal.nD,
        r.2.mem ((c.tc : Thread KernelIdeal.nD KernelIdeal.τ).loc KernelIdeal.main_arg0) = m ((c.tc : Thread KernelIdeal.nD KernelIdeal.τ).loc KernelIdeal.main_arg0) ∧
        r.2.mem ((c.tc : Thread KernelIdeal.nD KernelIdeal.τ).loc KernelIdeal.main_arg1) = m ((c.tc : Thread KernelIdeal.nD KernelIdeal.τ).loc KernelIdeal.main_arg1) ∧
        r.2.mem ((c.tc : Thread KernelIdeal.nD KernelIdeal.τ).loc KernelIdeal.main_arg2) = m ((c.tc : Thread KernelIdeal.nD KernelIdeal.τ).loc KernelIdeal.main_arg2) ∧
        r.2.mem ((c.tc : Thread KernelIdeal.nD KernelIdeal.τ).loc KernelIdeal.main_arg3) = m ((c.tc : Thread KernelIdeal.nD KernelIdeal.τ).loc KernelIdeal.main_arg3) ∧
        r.2.mem ((c.tc : Thread KernelIdeal.nD KernelIdeal.τ).loc KernelIdeal.main_arg4) = m ((c.tc : Thread KernelIdeal.nD KernelIdeal.τ).loc KernelIdeal.main_arg4) ∧
        r.2.mem ((c.tc : Thread KernelIdeal.nD KernelIdeal.τ).loc KernelIdeal.main_arg5) = m ((c.tc : Thread KernelIdeal.nD KernelIdeal.τ).loc KernelIdeal.main_arg5) ∧
        r.2.mem ((c.tc : Thread KernelIdeal.nD KernelIdeal.τ).loc KernelIdeal.main_arg6) = m ((c.tc : Thread KernelIdeal.nD KernelIdeal.τ).loc KernelIdeal.main_arg6))
      ∧ r.2.sem = fun _ => 0)

/-- The two statements are one: the two programs' definitions agree word for word. -/
theorem frames_eq : FramesKernelIdeal = FramesKernel := by
  unfold FramesKernelIdeal FramesKernel
  sl_kernel_rfl

/-- The printed program frames its arguments. -/
theorem framesKernel : FramesKernel :=
  frames_eq ▸ fun m g => Cert.KernelIdeal.Gen.frame m g

end Cert.Proof
-- ==== Proof.KernelIdeal.Trip.lean ====
/-
The counted loops of one grid step as plain recursions over the codebook's four chunks: the running minimum of the
squared distances with its index, and the gather of the chosen rows from the three-part table.
-/
module

public import proofs.«01_k».proof.Proof.KernelIdeal.Frame

@[expose] public section

set_option maxRecDepth 16384

noncomputable section

namespace Cert.KernelIdeal.Trip

open Cert.KernelIdeal Cert.KernelIdeal.Gen Cert.KernelIdeal.Prep
open Idealize.ShloMosaic Idealize.ShloMosaic.ValueIdx Idealize.ShloMosaic.TcCoe Idealize.ShloMosaic.Tactic
open Idealize.SL Idealize.SL.Sem

variable {F : FTy → Type} [FloatOps F]

/-- Trip number `n` of a four-trip loop. -/
def at1 (n : Fin 4) : Fin k0_t1_loop.trips := ⟨n.val, by rw [trips_eq]; exact n.isLt⟩

theorem trips2 : k0_t2_loop.trips = 4 := by decide +kernel
theorem trips3 : k0_t3_loop.trips = 4 := by decide +kernel
theorem trips4 : k0_t4_loop.trips = 4 := by decide +kernel

/-- One chunk of the scan: the running minimum and its index after the rows `r` have met chunk `n` of the codebook. -/
def scanStep (cb : Vec F S1x8192x32 .f32) (r : Vec F S1024x32 .f32) (n : Fin 4) (p : FVec F S1024x1 .f32 × IVec S1024x1 32) :
    FVec F S1024x1 .f32 × IVec S1024x1 32 :=
  (k0_pay19 r p.1 (chunk cb (at1 n)) (k0_pay11 (chunk cb (at1 n))),
   k0_pay20 r ⟨n.val, by rw [trips2]; exact n.isLt⟩ p.1 p.2 (chunk cb (at1 n)) (k0_pay11 (chunk cb (at1 n))))

/-- The scan before chunk `n`. -/
def scanAt (cb : Vec F S1x8192x32 .f32) (r : Vec F S1024x32 .f32) : ℕ → FVec F S1024x1 .f32 × IVec S1024x1 32
  | 0 => (k0_pay13, k0_pay14)
  | n + 1 => if h : n < 4 then scanStep cb r ⟨n, h⟩ (scanAt cb r n) else scanAt cb r n

/-- One chunk of the gather: what chunk `n` of the table adds for the indices `ix`. -/
def gatherStep (cb : Vec F S1x8192x32 .f32) (ix : IVec S1024x1 32) (n : Fin 4) (p : FVec F S1024x96 .f32) : FVec F S1024x96 .f32 :=
  k0_pay32 ix ⟨n.val, by rw [trips4]; exact n.isLt⟩ p (k0_pay12 (chunk cb (at1 n)))

/-- The gather before chunk `n`. -/
def gatherAt (cb : Vec F S1x8192x32 .f32) (ix : IVec S1024x1 32) : ℕ → FVec F S1024x96 .f32
  | 0 => k0_pay15
  | n + 1 => if h : n < 4 then gatherStep cb ix ⟨n, h⟩ (gatherAt cb ix n) else gatherAt cb ix n

/-- A read of a whole buffer of norms through chunk `n`'s rectangle is that chunk's norms. -/
theorem readAt_norms (a : Memref sig .tc .vmem S1x8192 .f32) (h : a.IsWhole) (cb : Vec F S1x8192x32 .f32) (n : Fin 4)
    {off : Fin 2 → ℕ} (inb : ∀ x, off x + S1x2048.size x ≤ S1x8192.size x) (heq : off = ![0, 2048 * n.val]) :
    a.view.readAt (Elt F) (Rect.unit (s := S1x8192) off S1x2048.size inb).toLoadRect (h.unread (b2Of cb))
      = k0_pay11 (chunk cb (at1 n)) := by
  subst heq
  funext z
  rw [View.readAt_apply]
  refine (congrFun (h.read_unread (b2Of cb)) _).trans ?_
  have hz1 : (z 1).val < 2048 := (z 1).isLt
  have hz0 : (z 0).val < 1 := (z 0).isLt
  have e : ((Rect.unit (s := S1x8192) ![0, 2048 * n.val] S1x2048.size inb).toLoadRect.idx z 1).val = 2048 * n.val + (z 1).val := by
    show 2048 * n.val + 1 * (z 1).val = _
    omega
  unfold b2Of
  congr 2
  · have ek : tripOf ((Rect.unit (s := S1x8192) ![0, 2048 * n.val] S1x2048.size inb).toLoadRect.idx z 1) = at1 n :=
      Fin.ext (by show _ / 2048 = n.val; rw [e]; omega)
    rw [ek]
  · funext x
    refine Fin.cases ?_ (fun x => ?_) x
    · exact Fin.ext (by show 0 = (z 0).val; omega)
    · refine Fin.cases ?_ (fun x => x.elim0) x
      exact Fin.ext (by show _ % 2048 = (z 1).val; rw [e]; omega)

/-- A read of a whole table through chunk `n`'s rectangle is that chunk's part of the table. -/
theorem readAt_table (a : Memref sig .tc .vmem S8192x96 .f32) (h : a.IsWhole) (cb : Vec F S1x8192x32 .f32) (n : Fin 4)
    {off : Fin 2 → ℕ} (inb : ∀ x, off x + S2048x96.size x ≤ S8192x96.size x) (heq : off = ![2048 * n.val, 0]) :
    a.view.readAt (Elt F) (Rect.unit (s := S8192x96) off S2048x96.size inb).toLoadRect (h.unread (tblOf cb))
      = k0_pay12 (chunk cb (at1 n)) := by
  subst heq
  funext z
  rw [View.readAt_apply]
  refine (congrFun (h.read_unread (tblOf cb)) _).trans ?_
  have hz0 : (z 0).val < 2048 := (z 0).isLt
  have e : ((Rect.unit (s := S8192x96) ![2048 * n.val, 0] S2048x96.size inb).toLoadRect.idx z 0).val = 2048 * n.val + (z 0).val := by
    show 2048 * n.val + 1 * (z 0).val = _
    omega
  unfold tblOf
  congr 2
  · have ek : tripOf ((Rect.unit (s := S8192x96) ![2048 * n.val, 0] S2048x96.size inb).toLoadRect.idx z 0) = at1 n :=
      Fin.ext (by show _ / 2048 = n.val; rw [e]; omega)
    rw [ek]
  · funext x
    refine Fin.cases ?_ (fun x => ?_) x
    · exact Fin.ext (by show _ % 2048 = (z 0).val; rw [e]; omega)
    · refine Fin.cases ?_ (fun x => x.elim0) x
      exact Fin.ext (by show 0 + 1 * (z 1).val = (z 1).val; omega)

/-- A read of a whole codebook through chunk `n`'s rectangle is that chunk. -/
theorem readAt_codes (a : Memref sig .tc .vmem S1x8192x32 .f32) (h : a.IsWhole) (cb : Vec F S1x8192x32 .f32) (n : Fin 4)
    {off : Fin 3 → ℕ} (inb : ∀ x, off x + S1x2048x32.size x ≤ S1x8192x32.size x) (heq : off = ![0, 2048 * n.val, 0]) :
    a.view.readAt (Elt F) (Rect.unit (s := S1x8192x32) off S1x2048x32.size inb).toLoadRect (h.unread cb)
      = chunk cb (at1 n) := by
  have h3 : off = k0_off3 (at1 n) := by rw [heq, k0_off3_eq]; rfl
  subst h3
  rw [readAt_chunk, h.read_unread]

variable (𝒱 : Variants) (c : Dev nD) (bd : Option 𝒱.V) (i : grid0.Coords)
  (arg1 : Memref sig .tc .vmem S2048x512 .f32) (harg1 : arg1.IsWhole) (arg2 : Memref sig .tc .vmem S4x4096 .f32) (harg2 : arg2.IsWhole)
  (arg3 : Memref sig .tc .vmem S512x32 .f32) (harg3 : arg3.IsWhole) (arg4 : Memref sig .tc .vmem S1x32 .f32) (harg4 : arg4.IsWhole)
  (arg5 : Memref sig .tc .vmem S1x8192x32 .f32) (harg5 : arg5.IsWhole) (arg6 : Memref sig .tc .vmem S10x4096x32 .f32) (harg6 : arg6.IsWhole)
  (arg7 : Memref sig .tc .vmem S10x1x32 .f32) (harg7 : arg7.IsWhole) (arg8 : Memref sig .tc .vmem S2048x32 .f32) (harg8 : arg8.IsWhole)
  (arg9 : Memref sig .tc .vmem S1x1x2048 .i32) (harg9 : arg9.IsWhole) (arg10 : Memref sig .tc .smem S1x1 .f32) (harg10 : arg10.IsWhole)
  (arg11 : Memref sig .tc .vmem S2048x32 .f32) (harg11 : arg11.IsWhole) (arg12 : Memref sig .tc .vmem S2048x32 .f32) (harg12 : arg12.IsWhole)
  (arg13 : Memref sig .tc .vmem S1x8192 .f32) (harg13 : arg13.IsWhole) (arg14 : Memref sig .tc .vmem S8192x96 .f32) (harg14 : arg14.IsWhole)
  (cb : Vec F S1x8192x32 .f32)

/-- The first loop's carried value before trip `n` is the scan. -/
theorem st2_eq (r : Vec F S1024x32 .f32) (n : ℕ) (hn : n ≤ 4) :
    st_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 r (harg5.unread cb) (harg13.unread (b2Of cb)) (k0_pay13, k0_pay14) n = scanAt cb r n := by
  induction n with
  | zero => rfl
  | succ n ih =>
    have hlt : n < 4 := hn
    have hs := st_k0_t2_succ (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 r (harg5.unread cb) (harg13.unread (b2Of cb)) (k0_pay13, k0_pay14)
      ⟨n, by rw [trips2]; exact hlt⟩
    refine hs.trans ?_
    show tripR_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 r (harg5.unread cb) (harg13.unread (b2Of cb)) ⟨n, _⟩ (st_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 r (harg5.unread cb) (harg13.unread (b2Of cb)) (k0_pay13, k0_pay14) n) = _
    rw [ih (by omega)]
    have e1 := readAt_codes arg5 harg5 cb ⟨n, hlt⟩ (k0_off6_inb ⟨n, by rw [trips2]; exact hlt⟩) (k0_off6_eq _)
    have e2 := readAt_norms arg13 harg13 cb ⟨n, hlt⟩ (k0_off7_inb ⟨n, by rw [trips2]; exact hlt⟩) (k0_off7_eq _)
    simp only [scanAt, dif_pos hlt, scanStep]
    rw [← e2, ← e1]
    unfold tripR_k0_t2 trip_k0_t2
    rfl

/-- The third loop's carried value before trip `n` is the gather. -/
theorem st4_eq (v10 : Vec F S1024x32 .f32) (j ix : IVec S1024x1 32) (v28 : FVec F S1024x32 .f32) (n : ℕ) (hn : n ≤ 4) :
    st_k0_t4 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 k0_pay15 v10 j ix v28 (harg14.unread (tblOf cb)) k0_pay15 n = gatherAt cb ix n := by
  induction n with
  | zero => rfl
  | succ n ih =>
    have hlt : n < 4 := hn
    have hs := st_k0_t4_succ (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 k0_pay15 v10 j ix v28 (harg14.unread (tblOf cb)) k0_pay15
      ⟨n, by rw [trips4]; exact hlt⟩
    refine hs.trans ?_
    show tripR_k0_t4 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 k0_pay15 v10 j ix v28 (harg14.unread (tblOf cb)) ⟨n, _⟩ (st_k0_t4 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 k0_pay15 v10 j ix v28 (harg14.unread (tblOf cb)) k0_pay15 n) = _
    rw [ih (by omega)]
    have e2 := readAt_table arg14 harg14 cb ⟨n, hlt⟩ (k0_off11_inb ⟨n, by rw [trips4]; exact hlt⟩) (k0_off11_eq _)
    simp only [gatherAt, dif_pos hlt, gatherStep]
    rw [← e2]
    unfold tripR_k0_t4 trip_k0_t4
    rfl

/-- The second loop's carried value before trip `n` is the scan of the second tile and the gather of the first. -/
theorem st3_eq (ix : IVec S1024x1 32) (r : Vec F S1024x32 .f32) (n : ℕ) (hn : n ≤ 4) :
    st_k0_t3 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 ix r (harg5.unread cb) (harg13.unread (b2Of cb)) (harg14.unread (tblOf cb)) (k0_pay13, k0_pay14, k0_pay15) n
      = ((scanAt cb r n).1, (scanAt cb r n).2, gatherAt cb ix n) := by
  induction n with
  | zero => rfl
  | succ n ih =>
    have hlt : n < 4 := hn
    have hs := st_k0_t3_succ (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 ix r (harg5.unread cb) (harg13.unread (b2Of cb)) (harg14.unread (tblOf cb)) (k0_pay13, k0_pay14, k0_pay15)
      ⟨n, by rw [trips3]; exact hlt⟩
    refine hs.trans ?_
    show tripR_k0_t3 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 ix r (harg5.unread cb) (harg13.unread (b2Of cb)) (harg14.unread (tblOf cb)) ⟨n, _⟩ (st_k0_t3 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 ix r (harg5.unread cb) (harg13.unread (b2Of cb)) (harg14.unread (tblOf cb)) (k0_pay13, k0_pay14, k0_pay15) n) = _
    rw [ih (by omega)]
    have e1 := readAt_codes arg5 harg5 cb ⟨n, hlt⟩ (k0_off8_inb ⟨n, by rw [trips3]; exact hlt⟩) (k0_off8_eq _)
    have e2 := readAt_norms arg13 harg13 cb ⟨n, hlt⟩ (k0_off9_inb ⟨n, by rw [trips3]; exact hlt⟩) (k0_off9_eq _)
    have e3 := readAt_table arg14 harg14 cb ⟨n, hlt⟩ (k0_off10_inb ⟨n, by rw [trips3]; exact hlt⟩) (k0_off10_eq _)
    simp only [scanAt, gatherAt, dif_pos hlt, scanStep, gatherStep]
    rw [← e3, ← e2, ← e1]
    unfold tripR_k0_t3 trip_k0_t3
    rfl

end Cert.KernelIdeal.Trip
-- ==== Proof.KernelIdeal.Step.lean ====
/-
One grid step of the kernel as a function of what it reads: the residual rows after the bias, the rows the scan picks
from the step's codebook, and what they make of the quantised sum, the residual, the loss and the indices.
-/
module

public import proofs.«01_k».proof.Proof.KernelIdeal.Trip
public import Idealize.ShloMosaic.Lib.Pipeline.Value
public import Idealize.ShloMosaic.Lib.Pointwise

@[expose] public section

set_option maxRecDepth 16384

noncomputable section

namespace Cert.KernelIdeal.Step

open Cert.KernelIdeal Cert.KernelIdeal.Gen Cert.KernelIdeal.Prep Cert.KernelIdeal.Trip
open Idealize.ShloMosaic Idealize.ShloMosaic.TcCoe Idealize.ShloMosaic.Tactic
open Idealize.SL Idealize.SL.Sem

variable {F : FTy → Type} [FloatOps F]

/-- The rows `1024 t …` of a block of 2048 rows. -/
def tile (t : Fin 2) (X : Vec F S2048x32 .f32) : Vec F S1024x32 .f32 := fun z =>
  X (ix2 (n0 := 2048) (n1 := 32) ⟨1024 * t.val + (z 0).val, by have := t.isLt; have : (z 0).val < 1024 := (z 0).isLt; omega⟩ (z 1))

/-- The slice `j` of a stack of weight matrices. -/
def wrow (j : Fin 10) (X : Vec F S10x4096x32 .f32) : Vec F S1x4096x32 .f32 := fun z =>
  X (ix3 (n0 := 10) (n1 := 4096) (n2 := 32) j (z 1) (z 2))

/-- The slice `j` of a stack of bias rows. -/
def brow (j : Fin 10) (X : Vec F S10x1x32 .f32) : Vec F S1x1x32 .f32 := fun z =>
  X (ix3 (n0 := 10) (n1 := 1) (n2 := 32) j (z 1) (z 2))

/-- The slice a grid step takes: its own number, or the last where there is none. -/
def jOf (i : grid0.Coords) : Fin 10 := ⟨min (i 0).val 9, by omega⟩

/-- The residual with the step's bias added. -/
def biased (j : Fin 10) (x1 : Vec F S4x4096 .f32) (x5 : Vec F S10x4096x32 .f32) (x6 : Vec F S10x1x32 .f32) (r : Vec F S2048x32 .f32) :
    Vec F S2048x32 .f32 :=
  k0_pay9 r (k0_pay4 x1 (wrow j x5) (brow j x6))

/-- The codebook rows picked for a tile of residual rows. -/
def picked (cb : Vec F S1x8192x32 .f32) (r : Vec F S1024x32 .f32) : FVec F S1024x32 .f32 :=
  k0_pay27 (gatherAt cb (scanAt cb r 4).2 4)

/-- The codebook rows picked for all residual rows. -/
def pickedAll (cb : Vec F S1x8192x32 .f32) (r : Vec F S2048x32 .f32) : FVec F S2048x32 .f32 := fun y =>
  picked cb (tile ⟨(y 0).val / 1024, by have : (y 0).val < 2048 := (y 0).isLt; omega⟩ r)
    (ix2 (n0 := 1024) (n1 := 32) ⟨(y 0).val % 1024, Nat.mod_lt _ (by decide)⟩ (y 1))

/-- The indices picked for all residual rows. -/
def indexAll (cb : Vec F S1x8192x32 .f32) (r : Vec F S2048x32 .f32) : Vec F S1x1x2048 .i32 := fun y =>
  (scanAt cb (tile ⟨(y 2).val / 1024, by have : (y 2).val < 2048 := (y 2).isLt; omega⟩ r) 4).2
    (ix2 (n0 := 1024) (n1 := 1) ⟨(y 2).val % 1024, Nat.mod_lt _ (by decide)⟩ 0)

/-- The running loss after both tiles. -/
def lossAll (cb : Vec F S1x8192x32 .f32) (r x : Vec F S2048x32 .f32) (l : F .f32) : F .f32 :=
  k0_pay2 (picked cb (tile 1 r)) (tile 1 x) (k0_pay30 (picked cb (tile 0 r)) (tile 0 x) l)

/-- Both tiles' pieces, stored last first, leave one function of the row where each piece is its tile of it. -/
theorem read_tiles {e : EltTy} {κ : Kind} {sp : Space} (v : View sig κ sp S2048x32 e) (f : v.ty.Contents (Elt F))
    (inb : ∀ a, (![1024, 0] : Fin 2 → ℕ) a + (![1024, 32] : Fin 2 → ℕ) a ≤ S2048x32.size a)
    (inb' : ∀ a, (![0, 0] : Fin 2 → ℕ) a + (![1024, 32] : Fin 2 → ℕ) a ≤ S2048x32.size a)
    (a b : S1024x32.Idx → Elt F e) (L : List (View.Piece (Elt F) S2048x32 e)) (G : S2048x32.Idx → Elt F e)
    (ha : ∀ (p : Fin 1024) (q : Fin 32), a (ix2 p q) = G (ix2 (n0 := 2048) (n1 := 32) ⟨1024 + p.val, by omega⟩ q))
    (hb : ∀ (p : Fin 1024) (q : Fin 32), b (ix2 p q) = G (ix2 (n0 := 2048) (n1 := 32) ⟨p.val, by omega⟩ q)) :
    v.read (Elt F) (v.writes (Elt F) f ((⟨Rect.unit (s := S2048x32) ![1024, 0] ![1024, 32] inb, a⟩ : View.Piece (Elt F) S2048x32 e)
      :: (⟨Rect.unit (s := S2048x32) ![0, 0] ![1024, 32] inb', b⟩ : View.Piece (Elt F) S2048x32 e) :: L)) = G := by
  funext y
  have hy : (y 0).val < 2048 := (y 0).isLt
  by_cases h : 1024 ≤ (y 0).val
  · rw [View.read_writes_cons_unit_of_mem v f (s := S2048x32) inb a _ y
      (ix2 (n0 := 1024) (n1 := 32) ⟨(y 0).val - 1024, by omega⟩ (y 1)) rfl
      (Fin.forall_fin_two.mpr ⟨by show (y 0).val = 1024 + ((y 0).val - 1024); omega, by show (y 1).val = 0 + (y 1).val; omega⟩)]
    refine (ha _ _).trans (congrArg G (funext fun x => ?_))
    refine Fin.cases ?_ (fun x => ?_) x
    · exact Fin.ext (by show 1024 + ((y 0).val - 1024) = (y 0).val; omega)
    · refine Fin.cases ?_ (fun x => x.elim0) x
      rfl
  · rw [View.read_writes_cons_unit_of_not_mem v f (s := S2048x32) inb a _ y rfl 0 (Or.inl (by show (y 0).val < 1024; omega)),
      View.read_writes_cons_unit_of_mem v f (s := S2048x32) inb' b _ y
      (ix2 (n0 := 1024) (n1 := 32) ⟨(y 0).val, by omega⟩ (y 1)) rfl
      (Fin.forall_fin_two.mpr ⟨by show (y 0).val = 0 + (y 0).val; omega, by show (y 1).val = 0 + (y 1).val; omega⟩)]
    refine (hb _ _).trans (congrArg G (funext fun x => ?_))
    refine Fin.cases ?_ (fun x => ?_) x
    · rfl
    · refine Fin.cases ?_ (fun x => x.elim0) x
      rfl

/-- The same of the row of indices. -/
theorem read_tiles_index {e : EltTy} {κ : Kind} {sp : Space} (v : View sig κ sp S1x1x2048 e) (f : v.ty.Contents (Elt F))
    (inb : ∀ a, (![0, 0, 1024] : Fin 3 → ℕ) a + (![1, 1, 1024] : Fin 3 → ℕ) a ≤ S1x1x2048.size a)
    (inb' : ∀ a, (![0, 0, 0] : Fin 3 → ℕ) a + (![1, 1, 1024] : Fin 3 → ℕ) a ≤ S1x1x2048.size a)
    (a b : S1x1x1024.Idx → Elt F e) (L : List (View.Piece (Elt F) S1x1x2048 e)) (G : S1x1x2048.Idx → Elt F e)
    (ha : ∀ (p : Fin 1024), a (ix3 0 0 p) = G (ix3 (n0 := 1) (n1 := 1) (n2 := 2048) 0 0 ⟨1024 + p.val, by omega⟩))
    (hb : ∀ (p : Fin 1024), b (ix3 0 0 p) = G (ix3 (n0 := 1) (n1 := 1) (n2 := 2048) 0 0 ⟨p.val, by omega⟩)) :
    v.read (Elt F) (v.writes (Elt F) f ((⟨Rect.unit (s := S1x1x2048) ![0, 0, 1024] ![1, 1, 1024] inb, a⟩ : View.Piece (Elt F) S1x1x2048 e)
      :: (⟨Rect.unit (s := S1x1x2048) ![0, 0, 0] ![1, 1, 1024] inb', b⟩ : View.Piece (Elt F) S1x1x2048 e) :: L)) = G := by
  funext y
  have h0 : (y 0).val < 1 := (y 0).isLt
  have h1 : (y 1).val < 1 := (y 1).isLt
  have hy : (y 2).val < 2048 := (y 2).isLt
  by_cases h : 1024 ≤ (y 2).val
  · rw [View.read_writes_cons_unit_of_mem v f (s := S1x1x2048) inb a _ y
      (ix3 (n0 := 1) (n1 := 1) (n2 := 1024) 0 0 ⟨(y 2).val - 1024, by omega⟩) rfl
      (fun x => by
        fin_cases x
        · show (y 0).val = 0 + 0; omega
        · show (y 1).val = 0 + 0; omega
        · show (y 2).val = 1024 + ((y 2).val - 1024); omega)]
    refine (ha _).trans (congrArg G (funext fun x => Fin.ext ?_))
    fin_cases x
    · show 0 = (y 0).val; omega
    · show 0 = (y 1).val; omega
    · show 1024 + ((y 2).val - 1024) = (y 2).val; omega
  · rw [View.read_writes_cons_unit_of_not_mem v f (s := S1x1x2048) inb a _ y rfl 2 (Or.inl (by show (y 2).val < 1024; omega)),
      View.read_writes_cons_unit_of_mem v f (s := S1x1x2048) inb' b _ y
      (ix3 (n0 := 1) (n1 := 1) (n2 := 1024) 0 0 ⟨(y 2).val, by omega⟩) rfl
      (fun x => by
        fin_cases x
        · show (y 0).val = 0 + 0; omega
        · show (y 1).val = 0 + 0; omega
        · show (y 2).val = 0 + (y 2).val; omega)]
    refine (hb _).trans (congrArg G (funext fun x => Fin.ext ?_))
    fin_cases x
    · show 0 = (y 0).val; omega
    · show 0 = (y 1).val; omega
    · rfl

/-- The last of the stores of one scalar is what the scalar holds. -/
theorem read_scalar {e : EltTy} {κ : Kind} {sp : Space} (v : View sig κ sp S1x1 e) (f : v.ty.Contents (Elt F))
    (inb : ∀ a, (![0, 0] : Fin 2 → ℕ) a + (![1, 1] : Fin 2 → ℕ) a ≤ S1x1.size a) (a : Elt F e) (L : List (View.Piece (Elt F) S1x1 e)) :
    v.read (Elt F) (v.writes (Elt F) f ((⟨Rect.unit (s := S1x1) ![0, 0] ![1, 1] inb, fun _ => a⟩ : View.Piece (Elt F) S1x1 e) :: L))
      = fun _ => a := by
  funext y
  exact View.read_writes_cons_unit_of_mem v f (s := S1x1) inb (fun _ => a) _ y y rfl
    (Fin.forall_fin_two.mpr ⟨by show (y 0).val = 0 + (y 0).val; omega, by show (y 1).val = 0 + (y 1).val; omega⟩)

theorem idx_tile0 {inb : ∀ a, (![0, 0] : Fin 2 → ℕ) a + (![1024, 32] : Fin 2 → ℕ) a ≤ S2048x32.size a} (X : Vec F S2048x32 .f32) :
    View.ld X (Rect.unit (s := S2048x32) ![0, 0] ![1024, 32] inb) = tile 0 X := by
  funext z
  refine congrArg X (funext fun x => Fin.ext ?_)
  fin_cases x
  · show 0 + 1 * (z 0).val = 1024 * 0 + (z 0).val; omega
  · show 0 + 1 * (z 1).val = (z 1).val; omega

theorem idx_tile1 {inb : ∀ a, (![1024, 0] : Fin 2 → ℕ) a + (![1024, 32] : Fin 2 → ℕ) a ≤ S2048x32.size a} (X : Vec F S2048x32 .f32) :
    View.ld X (Rect.unit (s := S2048x32) ![1024, 0] ![1024, 32] inb) = tile 1 X := by
  funext z
  refine congrArg X (funext fun x => Fin.ext ?_)
  fin_cases x
  · show 1024 + 1 * (z 0).val = 1024 * 1 + (z 0).val; omega
  · show 0 + 1 * (z 1).val = (z 1).val; omega

/-- A load of one tile of a buffer holding `X` is that tile of `X`. -/
theorem load_tile0 (a : Memref sig .tc .vmem S2048x32 .f32) (h : a.IsWhole) (X : Vec F S2048x32 .f32)
    (inb : ∀ x, (![0, 0] : Fin 2 → ℕ) x + (![1024, 32] : Fin 2 → ℕ) x ≤ S2048x32.size x) :
    a.view.readAt (Elt F) (Rect.unit (s := S2048x32) ![0, 0] ![1024, 32] inb).toLoadRect (h.unread X) = tile 0 X := by
  rw [View.readAt_eq_ld, h.read_unread, idx_tile0]

theorem load_tile1 (a : Memref sig .tc .vmem S2048x32 .f32) (h : a.IsWhole) (X : Vec F S2048x32 .f32)
    (inb : ∀ x, (![1024, 0] : Fin 2 → ℕ) x + (![1024, 32] : Fin 2 → ℕ) x ≤ S2048x32.size x) :
    a.view.readAt (Elt F) (Rect.unit (s := S2048x32) ![1024, 0] ![1024, 32] inb).toLoadRect (h.unread X) = tile 1 X := by
  rw [View.readAt_eq_ld, h.read_unread, idx_tile1]

theorem zero2 : (![0, 0] : Fin 2 → ℕ) = fun _ => 0 := funext fun a => by fin_cases a <;> rfl

/-- A load of one tile after a store of the whole is that tile of what was stored. -/
theorem stored_tile0 (v : View sig .tc .vmem S2048x32 .f32) (X : Vec F S2048x32 .f32) (L : List (View.Piece (Elt F) S2048x32 .f32))
    (inb : ∀ x, (![0, 0] : Fin 2 → ℕ) x + (![1024, 32] : Fin 2 → ℕ) x ≤ S2048x32.size x) (inb' : ∀ x, (![0, 0] : Fin 2 → ℕ) x + (![2048, 32] : Fin 2 → ℕ) x ≤ S2048x32.size x) :
    v.readCov ((⟨Rect.unit (s := S2048x32) ![0, 0] ![2048, 32] inb', X⟩ : View.Piece (Elt F) S2048x32 .f32) :: L)
      (Rect.unit (s := S2048x32) ![0, 0] ![1024, 32] inb).toLoadRect = tile 0 X := by
  rw [View.readCov_eq_canon', View.canon_cons_unit_zero (S := S2048x32) zero2]
  exact idx_tile0 (inb := inb) X

theorem stored_tile1 (v : View sig .tc .vmem S2048x32 .f32) (X : Vec F S2048x32 .f32) (L : List (View.Piece (Elt F) S2048x32 .f32))
    (inb : ∀ x, (![1024, 0] : Fin 2 → ℕ) x + (![1024, 32] : Fin 2 → ℕ) x ≤ S2048x32.size x) (inb' : ∀ x, (![0, 0] : Fin 2 → ℕ) x + (![2048, 32] : Fin 2 → ℕ) x ≤ S2048x32.size x) :
    v.readCov ((⟨Rect.unit (s := S2048x32) ![0, 0] ![2048, 32] inb', X⟩ : View.Piece (Elt F) S2048x32 .f32) :: L)
      (Rect.unit (s := S2048x32) ![1024, 0] ![1024, 32] inb).toLoadRect = tile 1 X := by
  rw [View.readCov_eq_canon', View.canon_cons_unit_zero (S := S2048x32) zero2]
  exact idx_tile1 (inb := inb) X

/-- A load of a whole buffer is what it holds. -/
theorem load_whole {κ : Kind} {sp : Space} {S : Shape} {e : EltTy} (a : Memref sig κ sp S e) (h : a.IsWhole) (X : Vec F S e) {off : Fin S.rank → ℕ}
    (hoff : off = fun _ => 0) (inb : ∀ x, off x + S.size x ≤ S.size x) :
    a.view.readAt (Elt F) (Rect.unit (s := S) off S.size inb).toLoadRect (h.unread X) = X := by
  rw [View.readAt_eq_ld, h.read_unread]
  exact View.ld_unit_zero hoff inb X

theorem load_S2048x512 (a : Memref sig .tc .vmem S2048x512 .f32) (h : a.IsWhole) (X : Vec F S2048x512 .f32) (inb : ∀ x, (![0, 0] : Fin 2 → ℕ) x + (![2048, 512] : Fin 2 → ℕ) x ≤ S2048x512.size x) :
    a.view.readAt (Elt F) (Rect.unit (s := S2048x512) ![0, 0] ![2048, 512] inb).toLoadRect (h.unread X) = X :=
  load_whole a h X zero2 inb

theorem load_S4x4096 (a : Memref sig .tc .vmem S4x4096 .f32) (h : a.IsWhole) (X : Vec F S4x4096 .f32) (inb : ∀ x, (![0, 0] : Fin 2 → ℕ) x + (![4, 4096] : Fin 2 → ℕ) x ≤ S4x4096.size x) :
    a.view.readAt (Elt F) (Rect.unit (s := S4x4096) ![0, 0] ![4, 4096] inb).toLoadRect (h.unread X) = X :=
  load_whole a h X zero2 inb

theorem load_S512x32 (a : Memref sig .tc .vmem S512x32 .f32) (h : a.IsWhole) (X : Vec F S512x32 .f32) (inb : ∀ x, (![0, 0] : Fin 2 → ℕ) x + (![512, 32] : Fin 2 → ℕ) x ≤ S512x32.size x) :
    a.view.readAt (Elt F) (Rect.unit (s := S512x32) ![0, 0] ![512, 32] inb).toLoadRect (h.unread X) = X :=
  load_whole a h X zero2 inb

theorem load_S1x32 (a : Memref sig .tc .vmem S1x32 .f32) (h : a.IsWhole) (X : Vec F S1x32 .f32) (inb : ∀ x, (![0, 0] : Fin 2 → ℕ) x + (![1, 32] : Fin 2 → ℕ) x ≤ S1x32.size x) :
    a.view.readAt (Elt F) (Rect.unit (s := S1x32) ![0, 0] ![1, 32] inb).toLoadRect (h.unread X) = X :=
  load_whole a h X zero2 inb

theorem load_S2048x32 (a : Memref sig .tc .vmem S2048x32 .f32) (h : a.IsWhole) (X : Vec F S2048x32 .f32) (inb : ∀ x, (![0, 0] : Fin 2 → ℕ) x + (![2048, 32] : Fin 2 → ℕ) x ≤ S2048x32.size x) :
    a.view.readAt (Elt F) (Rect.unit (s := S2048x32) ![0, 0] ![2048, 32] inb).toLoadRect (h.unread X) = X :=
  load_whole a h X zero2 inb

theorem load_S1x1 (a : Memref sig .tc .smem S1x1 .f32) (h : a.IsWhole) (X : Vec F S1x1 .f32) (inb : ∀ x, (![0, 0] : Fin 2 → ℕ) x + (![1, 1] : Fin 2 → ℕ) x ≤ S1x1.size x) :
    a.view.readAt (Elt F) (Rect.unit (s := S1x1) ![0, 0] ![1, 1] inb).toLoadRect (h.unread X) = X :=
  load_whole a h X zero2 inb

/-- A load of a whole buffer after a store of the whole is what was stored. -/
theorem stored_whole (v : View sig .tc .vmem S2048x32 .f32) (X : Vec F S2048x32 .f32) (L : List (View.Piece (Elt F) S2048x32 .f32))
    (inb : ∀ x, (![0, 0] : Fin 2 → ℕ) x + (![2048, 32] : Fin 2 → ℕ) x ≤ S2048x32.size x)
    (inb' : ∀ x, (![0, 0] : Fin 2 → ℕ) x + (![2048, 32] : Fin 2 → ℕ) x ≤ S2048x32.size x) :
    v.readCov ((⟨Rect.unit (s := S2048x32) ![0, 0] ![2048, 32] inb', X⟩ : View.Piece (Elt F) S2048x32 .f32) :: L)
      (Rect.unit (s := S2048x32) ![0, 0] ![2048, 32] inb).toLoadRect = X := by
  rw [View.readCov_eq_canon', View.canon_cons_unit_zero (S := S2048x32) zero2]
  exact View.ld_unit_zero (S := S2048x32) zero2 inb X

/-- The residual with the step's bias added, folded. -/
theorem biased_fold (j : Fin 10) (x1 : Vec F S4x4096 .f32) (x5 : Vec F S10x4096x32 .f32) (x6 : Vec F S10x1x32 .f32) (r : Vec F S2048x32 .f32) :
    k0_pay9 r (k0_pay4 x1 (wrow j x5) (brow j x6)) = biased j x1 x5 x6 r := rfl

/-- A load of the second tile after stores of the whole and of the first tile reads the whole's. -/
theorem stored_tile1_under (v : View sig .tc .vmem S2048x32 .f32) (X : Vec F S2048x32 .f32) (A : S1024x32.Idx → F .f32)
    (inb : ∀ x, (![1024, 0] : Fin 2 → ℕ) x + (![1024, 32] : Fin 2 → ℕ) x ≤ S2048x32.size x)
    (inb0 : ∀ x, (![0, 0] : Fin 2 → ℕ) x + (![1024, 32] : Fin 2 → ℕ) x ≤ S2048x32.size x)
    (inb' : ∀ x, (![0, 0] : Fin 2 → ℕ) x + (![2048, 32] : Fin 2 → ℕ) x ≤ S2048x32.size x) :
    v.readCov ((⟨Rect.unit (s := S2048x32) ![0, 0] ![1024, 32] inb0, A⟩ : View.Piece (Elt F) S2048x32 .f32)
        :: [(⟨Rect.unit (s := S2048x32) ![0, 0] ![2048, 32] inb', X⟩ : View.Piece (Elt F) S2048x32 .f32)])
      (Rect.unit (s := S2048x32) ![1024, 0] ![1024, 32] inb).toLoadRect = tile 1 X := by
  have key : ∀ y : S2048x32.Idx, 1024 ≤ (y 0).val →
      View.canon ((⟨Rect.unit (s := S2048x32) ![0, 0] ![1024, 32] inb0, A⟩ : View.Piece (Elt F) S2048x32 .f32)
        :: [(⟨Rect.unit (s := S2048x32) ![0, 0] ![2048, 32] inb', X⟩ : View.Piece (Elt F) S2048x32 .f32)]) y = X y := by
    intro y hy
    rw [← View.read_writes_junk_eq_canon v, View.read_writes_cons_unit_of_not_mem (Val := Elt F) (e := .f32) v v.junk (s := S2048x32) inb0 A _ y rfl 0
      (Or.inr (by show 0 + 1024 ≤ (y 0).val; omega)), View.read_writes_junk_eq_canon, View.canon_cons_unit_zero (S := S2048x32) zero2]
  rw [View.readCov_eq_canon']
  funext z
  rw [← congrFun (idx_tile1 (inb := inb) X) z]
  exact key _ (by show 1024 ≤ 1024 + 1 * (z 0).val; omega)

/-- A load of the weights' slice for the step. -/
theorem load_wrow (i : grid0.Coords) (a : Memref sig .tc .vmem S10x4096x32 .f32) (h : a.IsWhole) (X : Vec F S10x4096x32 .f32)
    (inb : ∀ x, k0_off1 i x
      + (![1, 4096, 32] : Fin 3 → ℕ) x ≤ S10x4096x32.size x) :
    a.view.readAt (Elt F) (Rect.unit (s := S10x4096x32) (k0_off1 i)
      ![1, 4096, 32] inb).toLoadRect (h.unread X) = wrow (jOf i) X := by
  rw [View.readAt_eq_ld, h.read_unread]
  funext z
  have h0 : (z 0).val < 1 := (z 0).isLt
  refine congrArg X (funext fun x => Fin.ext ?_)
  refine (congrArg (· + 1 * (z x).val) (congrFun (k0_off1_eq i) x)).trans ?_
  fin_cases x
  · show min (i 0).val 9 + 1 * (z 0).val = min (i 0).val 9; omega
  · show 0 + 1 * (z 1).val = (z 1).val; omega
  · show 0 + 1 * (z 2).val = (z 2).val; omega

/-- A load of the bias rows' slice for the step. -/
theorem load_brow (i : grid0.Coords) (a : Memref sig .tc .vmem S10x1x32 .f32) (h : a.IsWhole) (X : Vec F S10x1x32 .f32)
    (inb : ∀ x, k0_off2 i x
      + (![1, 1, 32] : Fin 3 → ℕ) x ≤ S10x1x32.size x) :
    a.view.readAt (Elt F) (Rect.unit (s := S10x1x32) (k0_off2 i)
      ![1, 1, 32] inb).toLoadRect (h.unread X) = brow (jOf i) X := by
  rw [View.readAt_eq_ld, h.read_unread]
  funext z
  have h0 : (z 0).val < 1 := (z 0).isLt
  refine congrArg X (funext fun x => Fin.ext ?_)
  refine (congrArg (· + 1 * (z x).val) (congrFun (k0_off2_eq i) x)).trans ?_
  fin_cases x
  · show min (i 0).val 9 + 1 * (z 0).val = min (i 0).val 9; omega
  · show 0 + 1 * (z 1).val = (z 1).val; omega
  · show 0 + 1 * (z 2).val = (z 2).val; omega

theorem pickedAll_tile0 (cb : Vec F S1x8192x32 .f32) (r : Vec F S2048x32 .f32) (p : Fin 1024) (q : Fin 32) :
    pickedAll cb r (ix2 (n0 := 2048) (n1 := 32) ⟨p.val, by omega⟩ q) = picked cb (tile 0 r) (ix2 p q) := by
  have e : (⟨p.val / 1024, by omega⟩ : Fin 2) = 0 := Fin.ext (by show p.val / 1024 = 0; omega)
  have e' : (⟨p.val % 1024, Nat.mod_lt _ (by decide)⟩ : Fin 1024) = p := Fin.ext (by show p.val % 1024 = p.val; omega)
  show picked cb (tile ⟨p.val / 1024, _⟩ r) (ix2 ⟨p.val % 1024, _⟩ q) = _
  rw [e, e']

theorem pickedAll_tile1 (cb : Vec F S1x8192x32 .f32) (r : Vec F S2048x32 .f32) (p : Fin 1024) (q : Fin 32) :
    pickedAll cb r (ix2 (n0 := 2048) (n1 := 32) ⟨1024 + p.val, by omega⟩ q) = picked cb (tile 1 r) (ix2 p q) := by
  have e : (⟨(1024 + p.val) / 1024, by omega⟩ : Fin 2) = 1 := Fin.ext (by show (1024 + p.val) / 1024 = 1; omega)
  have e' : (⟨(1024 + p.val) % 1024, Nat.mod_lt _ (by decide)⟩ : Fin 1024) = p := Fin.ext (by show (1024 + p.val) % 1024 = p.val; omega)
  show picked cb (tile ⟨(1024 + p.val) / 1024, _⟩ r) (ix2 ⟨(1024 + p.val) % 1024, _⟩ q) = _
  rw [e, e']

/-- The quantised sum's pieces, whatever the rest of the buffer. -/
theorem read_quant {κ : Kind} {sp : Space} (v : View sig κ sp S2048x32 .f32) (f : v.ty.Contents (Elt F)) (inb inb') (cb : Vec F S1x8192x32 .f32)
    (r q : Vec F S2048x32 .f32) (L : List (View.Piece (Elt F) S2048x32 .f32)) :
    v.read (Elt F) (v.writes (Elt F) f ((⟨Rect.unit (s := S2048x32) ![1024, 0] ![1024, 32] inb, k0_pay34 (gatherAt cb (scanAt cb (tile 1 r) 4).2 4) (tile 1 q)⟩ : View.Piece (Elt F) S2048x32 .f32)
      :: (⟨Rect.unit (s := S2048x32) ![0, 0] ![1024, 32] inb', k0_pay28 (k0_pay27 (gatherAt cb (scanAt cb (tile 0 r) 4).2 4)) (tile 0 q)⟩ : View.Piece (Elt F) S2048x32 .f32) :: L))
      = addf q (pickedAll cb r) := by
  refine read_tiles v f inb inb' _ _ L _ (fun p x => ?_) (fun p x => ?_)
  · unfold k0_pay34
    simp only [shapeCast_self]
    show FloatOps.addf _ _ = FloatOps.addf _ _
    rw [pickedAll_tile1]
    rfl
  · unfold k0_pay28
    simp only [shapeCast_self]
    show FloatOps.addf _ _ = FloatOps.addf _ _
    rw [pickedAll_tile0]
    exact congrArg (fun w => FloatOps.addf w _) (congrArg q (congrArg (fun w => ix2 (n0 := 2048) (n1 := 32) w x) (Fin.ext (by show 1024 * 0 + p.val = p.val; omega))))

/-- The residual's pieces. -/
theorem read_res {κ : Kind} {sp : Space} (v : View sig κ sp S2048x32 .f32) (f : v.ty.Contents (Elt F)) (inb inb') (cb : Vec F S1x8192x32 .f32)
    (r : Vec F S2048x32 .f32) (L : List (View.Piece (Elt F) S2048x32 .f32)) :
    v.read (Elt F) (v.writes (Elt F) f ((⟨Rect.unit (s := S2048x32) ![1024, 0] ![1024, 32] inb, k0_pay1 (tile 1 r) (k0_pay33 (gatherAt cb (scanAt cb (tile 1 r) 4).2 4))⟩ : View.Piece (Elt F) S2048x32 .f32)
      :: (⟨Rect.unit (s := S2048x32) ![0, 0] ![1024, 32] inb', k0_pay29 (tile 0 r) (k0_pay27 (gatherAt cb (scanAt cb (tile 0 r) 4).2 4))⟩ : View.Piece (Elt F) S2048x32 .f32) :: L))
      = subf r (pickedAll cb r) := by
  refine read_tiles v f inb inb' _ _ L _ (fun p x => ?_) (fun p x => ?_)
  · unfold k0_pay1
    simp only [shapeCast_self]
    show FloatOps.subf _ _ = FloatOps.subf _ _
    rw [pickedAll_tile1]
    rfl
  · unfold k0_pay29
    simp only [shapeCast_self]
    show FloatOps.subf _ _ = FloatOps.subf _ _
    rw [pickedAll_tile0]
    exact congrArg (fun w => FloatOps.subf w _) (congrArg r (congrArg (fun w => ix2 (n0 := 2048) (n1 := 32) w x) (Fin.ext (by show 1024 * 0 + p.val = p.val; omega))))

/-- The indices' pieces. -/
theorem read_index {κ : Kind} {sp : Space} (v : View sig κ sp S1x1x2048 .i32) (f : v.ty.Contents (Elt F)) (inb inb') (cb : Vec F S1x8192x32 .f32)
    (r : Vec F S2048x32 .f32) (L : List (View.Piece (Elt F) S1x1x2048 .i32)) :
    v.read (Elt F) (v.writes (Elt F) f ((⟨Rect.unit (s := S1x1x2048) ![0, 0, 1024] ![1, 1, 1024] inb, k0_pay3 (scanAt cb (tile 1 r) 4).2⟩ : View.Piece (Elt F) S1x1x2048 .i32)
      :: (⟨Rect.unit (s := S1x1x2048) ![0, 0, 0] ![1, 1, 1024] inb', k0_pay31 (scanAt cb (tile 0 r) 4).2⟩ : View.Piece (Elt F) S1x1x2048 .i32) :: L))
      = indexAll cb r := by
  refine read_tiles_index v f inb inb' _ _ L _ (fun p => ?_) (fun p => ?_)
  · have e : (⟨(1024 + p.val) / 1024, by omega⟩ : Fin 2) = 1 := Fin.ext (by show (1024 + p.val) / 1024 = 1; omega)
    have e' : (⟨(1024 + p.val) % 1024, Nat.mod_lt _ (by decide)⟩ : Fin 1024) = p := Fin.ext (by show (1024 + p.val) % 1024 = p.val; omega)
    show _ = (scanAt cb (tile ⟨(1024 + p.val) / 1024, _⟩ r) 4).2 (ix2 ⟨(1024 + p.val) % 1024, _⟩ 0)
    rw [e, e']
    generalize (scanAt cb (tile 1 r) 4).2 = w
    pointwise [k0_pay3]
  · have e : (⟨p.val / 1024, by omega⟩ : Fin 2) = 0 := Fin.ext (by show p.val / 1024 = 0; omega)
    have e' : (⟨p.val % 1024, Nat.mod_lt _ (by decide)⟩ : Fin 1024) = p := Fin.ext (by show p.val % 1024 = p.val; omega)
    show _ = (scanAt cb (tile ⟨p.val / 1024, _⟩ r) 4).2 (ix2 ⟨p.val % 1024, _⟩ 0)
    rw [e, e']
    generalize (scanAt cb (tile 0 r) 4).2 = w
    pointwise [k0_pay31]

/-- The loss's last store. -/
theorem read_loss {κ : Kind} {sp : Space} (v : View sig κ sp S1x1 .f32) (f : v.ty.Contents (Elt F))
    (inb : ∀ a, (![0, 0] : Fin 2 → ℕ) a + (![1, 1] : Fin 2 → ℕ) a ≤ S1x1.size a) (cb : Vec F S1x8192x32 .f32) (r x : Vec F S2048x32 .f32) (l : F .f32)
    (L : List (View.Piece (Elt F) S1x1 .f32)) :
    v.read (Elt F) (v.writes (Elt F) f ((⟨Rect.unit (s := S1x1) ![0, 0] ![1, 1] inb, fun _ => k0_pay2 (k0_pay33 (gatherAt cb (scanAt cb (tile 1 r) 4).2 4)) (tile 1 x)
      (k0_pay30 (k0_pay27 (gatherAt cb (scanAt cb (tile 0 r) 4).2 4)) (tile 0 x) l)⟩ : View.Piece (Elt F) S1x1 .f32) :: L))
      = fun _ => lossAll cb r x l :=
  read_scalar (F := F) (e := .f32) v f inb _ L

theorem first_scalar {h : 0 < S1x1.numel} : Shape.Idx.first h = ix2 (n0 := 1) (n1 := 1) 0 0 :=
  funext fun a => Fin.ext (by
    have h1 : (Shape.Idx.first h a).val < S1x1.size a := (Shape.Idx.first h a).isLt
    have h2 : (ix2 (n0 := 1) (n1 := 1) 0 0 a).val < S1x1.size a := (ix2 (n0 := 1) (n1 := 1) 0 0 a).isLt
    have e : S1x1.size a = 1 := by fin_cases a <;> rfl
    omega)

section Loops
variable (𝒱 : Variants) (c : Dev nD) (bd : Option 𝒱.V) (i : grid0.Coords)
  (arg1 : Memref sig .tc .vmem S2048x512 .f32) (harg1 : arg1.IsWhole) (arg2 : Memref sig .tc .vmem S4x4096 .f32) (harg2 : arg2.IsWhole)
  (arg3 : Memref sig .tc .vmem S512x32 .f32) (harg3 : arg3.IsWhole) (arg4 : Memref sig .tc .vmem S1x32 .f32) (harg4 : arg4.IsWhole)
  (arg5 : Memref sig .tc .vmem S1x8192x32 .f32) (harg5 : arg5.IsWhole) (arg6 : Memref sig .tc .vmem S10x4096x32 .f32) (harg6 : arg6.IsWhole)
  (arg7 : Memref sig .tc .vmem S10x1x32 .f32) (harg7 : arg7.IsWhole) (arg8 : Memref sig .tc .vmem S2048x32 .f32) (harg8 : arg8.IsWhole)
  (arg9 : Memref sig .tc .vmem S1x1x2048 .i32) (harg9 : arg9.IsWhole) (arg10 : Memref sig .tc .smem S1x1 .f32) (harg10 : arg10.IsWhole)
  (arg11 : Memref sig .tc .vmem S2048x32 .f32) (harg11 : arg11.IsWhole) (arg12 : Memref sig .tc .vmem S2048x32 .f32) (harg12 : arg12.IsWhole)
  (arg13 : Memref sig .tc .vmem S1x8192 .f32) (harg13 : arg13.IsWhole) (arg14 : Memref sig .tc .vmem S8192x96 .f32) (harg14 : arg14.IsWhole)
  (cb : Vec F S1x8192x32 .f32)

theorem st2_full (r : Vec F S1024x32 .f32) :
    st_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 r (harg5.unread cb) (harg13.unread (b2Of cb)) (k0_pay13, k0_pay14)
      (Scf.trips 0#32 (Scalar.addi 0#32 4#32) 1#32) = scanAt cb r 4 := by
  rw [show Scf.trips 0#32 (Scalar.addi 0#32 4#32) 1#32 = 4 from trips2]
  exact st2_eq (hn := le_rfl) ..

theorem st3_full (ix : IVec S1024x1 32) (r : Vec F S1024x32 .f32) :
    st_k0_t3 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 ix r (harg5.unread cb) (harg13.unread (b2Of cb)) (harg14.unread (tblOf cb)) (k0_pay13, k0_pay14, k0_pay15)
      (Scf.trips 0#32 (Scalar.addi 0#32 4#32) 1#32) = ((scanAt cb r 4).1, (scanAt cb r 4).2, gatherAt cb ix 4) := by
  rw [show Scf.trips 0#32 (Scalar.addi 0#32 4#32) 1#32 = 4 from trips3]
  exact st3_eq (hn := le_rfl) ..

theorem st4_full (v10 : Vec F S1024x32 .f32) (j ix : IVec S1024x1 32) (v28 : FVec F S1024x32 .f32) :
    st_k0_t4 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 k0_pay15 v10 j ix v28 (harg14.unread (tblOf cb)) k0_pay15
      (Scf.trips 0#32 (Scalar.addi 0#32 4#32) 1#32) = gatherAt cb ix 4 := by
  rw [show Scf.trips 0#32 (Scalar.addi 0#32 4#32) 1#32 = 4 from trips4]
  exact st4_eq (hn := le_rfl) ..

end Loops

section Cases
variable (c : Dev nD) (i : grid0.Coords)
  (arg1 : Memref sig .tc .vmem S2048x512 .f32) (harg1 : arg1.IsWhole) (arg2 : Memref sig .tc .vmem S4x4096 .f32) (harg2 : arg2.IsWhole)
  (arg3 : Memref sig .tc .vmem S512x32 .f32) (harg3 : arg3.IsWhole) (arg4 : Memref sig .tc .vmem S1x32 .f32) (harg4 : arg4.IsWhole)
  (arg5 : Memref sig .tc .vmem S1x8192x32 .f32) (harg5 : arg5.IsWhole) (arg6 : Memref sig .tc .vmem S10x4096x32 .f32) (harg6 : arg6.IsWhole)
  (arg7 : Memref sig .tc .vmem S10x1x32 .f32) (harg7 : arg7.IsWhole) (arg8 : Memref sig .tc .vmem S2048x32 .f32) (harg8 : arg8.IsWhole)
  (arg9 : Memref sig .tc .vmem S1x1x2048 .i32) (harg9 : arg9.IsWhole) (arg10 : Memref sig .tc .smem S1x1 .f32) (harg10 : arg10.IsWhole)
  (arg11 : Memref sig .tc .vmem S2048x32 .f32) (harg11 : arg11.IsWhole) (arg12 : Memref sig .tc .vmem S2048x32 .f32) (harg12 : arg12.IsWhole)
  (arg13 : Memref sig .tc .vmem S1x8192 .f32) (harg13 : arg13.IsWhole) (arg14 : Memref sig .tc .vmem S8192x96 .f32) (harg14 : arg14.IsWhole)

/-- What a point without a bias leaves of the quantised sum. -/
theorem out_C_7 (hc0 : ¬cond0_0 i) (hc1 : ¬cond0_1 i)
    (x0 : Vec F S2048x512 .f32) (x1 : Vec F S4x4096 .f32) (x2 : Vec F S512x32 .f32) (x3 : Vec F S1x32 .f32) (x4 : Vec F S1x8192x32 .f32) (x5 : Vec F S10x4096x32 .f32) (x6 : Vec F S10x1x32 .f32) (xo7 : Vec F S2048x32 .f32) (xo9 : Vec F S1x1 .f32) (xs0 : Vec F S2048x32 .f32) (xs1 : Vec F S2048x32 .f32) : out0_C_7 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xo7 xo9 xs0 xs1 = addf xo7 (pickedAll x4 xs1) := by
  unfold out0_C_7 kernelRun0_C
  dsimp only
  sl_unfold_run_names
  simp only [harg5.read_unread, load_tile0, load_tile1, stored_tile0, stored_tile1, stored_whole, stored_tile1_under, load_wrow, load_brow, load_S2048x512, load_S4x4096, load_S512x32,
    load_S1x32, load_S2048x32, load_S1x1, biased_fold, first_scalar, st2_full, st3_full, st4_full]
  exact read_quant ..

/-- What a point without a bias leaves of the residual. -/
theorem sout_C_1 (hc0 : ¬cond0_0 i) (hc1 : ¬cond0_1 i)
    (x0 : Vec F S2048x512 .f32) (x1 : Vec F S4x4096 .f32) (x2 : Vec F S512x32 .f32) (x3 : Vec F S1x32 .f32) (x4 : Vec F S1x8192x32 .f32) (x5 : Vec F S10x4096x32 .f32) (x6 : Vec F S10x1x32 .f32) (xo7 : Vec F S2048x32 .f32) (xo9 : Vec F S1x1 .f32) (xs0 : Vec F S2048x32 .f32) (xs1 : Vec F S2048x32 .f32) : sout0_C_1 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xo7 xo9 xs0 xs1 = subf xs1 (pickedAll x4 xs1) := by
  unfold sout0_C_1 kernelRun0_C
  dsimp only
  sl_unfold_run_names
  simp only [harg5.read_unread, load_tile0, load_tile1, stored_tile0, stored_tile1, stored_whole, stored_tile1_under, load_wrow, load_brow, load_S2048x512, load_S4x4096, load_S512x32,
    load_S1x32, load_S2048x32, load_S1x1, biased_fold, first_scalar, st2_full, st3_full, st4_full]
  exact read_res ..

/-- What a point without a bias leaves of the row of indices. -/
theorem out_C_8 (hc0 : ¬cond0_0 i) (hc1 : ¬cond0_1 i)
    (x0 : Vec F S2048x512 .f32) (x1 : Vec F S4x4096 .f32) (x2 : Vec F S512x32 .f32) (x3 : Vec F S1x32 .f32) (x4 : Vec F S1x8192x32 .f32) (x5 : Vec F S10x4096x32 .f32) (x6 : Vec F S10x1x32 .f32) (xo7 : Vec F S2048x32 .f32) (xo9 : Vec F S1x1 .f32) (xs0 : Vec F S2048x32 .f32) (xs1 : Vec F S2048x32 .f32) : out0_C_8 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xo7 xo9 xs0 xs1 = indexAll x4 xs1 := by
  unfold out0_C_8 kernelRun0_C
  dsimp only
  sl_unfold_run_names
  simp only [harg5.read_unread, load_tile0, load_tile1, stored_tile0, stored_tile1, stored_whole, stored_tile1_under, load_wrow, load_brow, load_S2048x512, load_S4x4096, load_S512x32,
    load_S1x32, load_S2048x32, load_S1x1, biased_fold, first_scalar, st2_full, st3_full, st4_full]
  exact read_index ..

/-- What a point without a bias leaves of the loss. -/
theorem out_C_9 (hc0 : ¬cond0_0 i) (hc1 : ¬cond0_1 i)
    (x0 : Vec F S2048x512 .f32) (x1 : Vec F S4x4096 .f32) (x2 : Vec F S512x32 .f32) (x3 : Vec F S1x32 .f32) (x4 : Vec F S1x8192x32 .f32) (x5 : Vec F S10x4096x32 .f32) (x6 : Vec F S10x1x32 .f32) (xo7 : Vec F S2048x32 .f32) (xo9 : Vec F S1x1 .f32) (xs0 : Vec F S2048x32 .f32) (xs1 : Vec F S2048x32 .f32) : out0_C_9 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xo7 xo9 xs0 xs1 = fun _ => lossAll x4 xs1 xs0 (xo9 (ix2 0 0)) := by
  unfold out0_C_9 kernelRun0_C
  dsimp only
  sl_unfold_run_names
  simp only [harg5.read_unread, load_tile0, load_tile1, stored_tile0, stored_tile1, stored_whole, stored_tile1_under, load_wrow, load_brow, load_S2048x512, load_S4x4096, load_S512x32,
    load_S1x32, load_S2048x32, load_S1x1, biased_fold, first_scalar, st2_full, st3_full, st4_full]
  exact read_loss ..

/-- What a later point that adds its bias leaves of the quantised sum. -/
theorem out_B_7 (hc0 : ¬cond0_0 i) (hc1 : cond0_1 i)
    (x0 : Vec F S2048x512 .f32) (x1 : Vec F S4x4096 .f32) (x2 : Vec F S512x32 .f32) (x3 : Vec F S1x32 .f32) (x4 : Vec F S1x8192x32 .f32) (x5 : Vec F S10x4096x32 .f32) (x6 : Vec F S10x1x32 .f32) (xo7 : Vec F S2048x32 .f32) (xo9 : Vec F S1x1 .f32) (xs0 : Vec F S2048x32 .f32) (xs1 : Vec F S2048x32 .f32) : out0_B_7 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xo7 xo9 xs0 xs1 = addf xo7 (pickedAll x4 (biased (jOf i) x1 x5 x6 xs1)) := by
  unfold out0_B_7 kernelRun0_B
  dsimp only
  sl_unfold_run_names
  simp only [harg5.read_unread, load_tile0, load_tile1, stored_tile0, stored_tile1, stored_whole, stored_tile1_under, load_wrow, load_brow, load_S2048x512, load_S4x4096, load_S512x32,
    load_S1x32, load_S2048x32, load_S1x1, biased_fold, first_scalar, st2_full, st3_full, st4_full]
  exact read_quant ..

/-- What a later point that adds its bias leaves of the residual. -/
theorem sout_B_1 (hc0 : ¬cond0_0 i) (hc1 : cond0_1 i)
    (x0 : Vec F S2048x512 .f32) (x1 : Vec F S4x4096 .f32) (x2 : Vec F S512x32 .f32) (x3 : Vec F S1x32 .f32) (x4 : Vec F S1x8192x32 .f32) (x5 : Vec F S10x4096x32 .f32) (x6 : Vec F S10x1x32 .f32) (xo7 : Vec F S2048x32 .f32) (xo9 : Vec F S1x1 .f32) (xs0 : Vec F S2048x32 .f32) (xs1 : Vec F S2048x32 .f32) : sout0_B_1 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xo7 xo9 xs0 xs1 = subf (biased (jOf i) x1 x5 x6 xs1) (pickedAll x4 (biased (jOf i) x1 x5 x6 xs1)) := by
  unfold sout0_B_1 kernelRun0_B
  dsimp only
  sl_unfold_run_names
  simp only [harg5.read_unread, load_tile0, load_tile1, stored_tile0, stored_tile1, stored_whole, stored_tile1_under, load_wrow, load_brow, load_S2048x512, load_S4x4096, load_S512x32,
    load_S1x32, load_S2048x32, load_S1x1, biased_fold, first_scalar, st2_full, st3_full, st4_full]
  exact read_res ..

/-- What a later point that adds its bias leaves of the row of indices. -/
theorem out_B_8 (hc0 : ¬cond0_0 i) (hc1 : cond0_1 i)
    (x0 : Vec F S2048x512 .f32) (x1 : Vec F S4x4096 .f32) (x2 : Vec F S512x32 .f32) (x3 : Vec F S1x32 .f32) (x4 : Vec F S1x8192x32 .f32) (x5 : Vec F S10x4096x32 .f32) (x6 : Vec F S10x1x32 .f32) (xo7 : Vec F S2048x32 .f32) (xo9 : Vec F S1x1 .f32) (xs0 : Vec F S2048x32 .f32) (xs1 : Vec F S2048x32 .f32) : out0_B_8 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xo7 xo9 xs0 xs1 = indexAll x4 (biased (jOf i) x1 x5 x6 xs1) := by
  unfold out0_B_8 kernelRun0_B
  dsimp only
  sl_unfold_run_names
  simp only [harg5.read_unread, load_tile0, load_tile1, stored_tile0, stored_tile1, stored_whole, stored_tile1_under, load_wrow, load_brow, load_S2048x512, load_S4x4096, load_S512x32,
    load_S1x32, load_S2048x32, load_S1x1, biased_fold, first_scalar, st2_full, st3_full, st4_full]
  exact read_index ..

/-- What a later point that adds its bias leaves of the loss. -/
theorem out_B_9 (hc0 : ¬cond0_0 i) (hc1 : cond0_1 i)
    (x0 : Vec F S2048x512 .f32) (x1 : Vec F S4x4096 .f32) (x2 : Vec F S512x32 .f32) (x3 : Vec F S1x32 .f32) (x4 : Vec F S1x8192x32 .f32) (x5 : Vec F S10x4096x32 .f32) (x6 : Vec F S10x1x32 .f32) (xo7 : Vec F S2048x32 .f32) (xo9 : Vec F S1x1 .f32) (xs0 : Vec F S2048x32 .f32) (xs1 : Vec F S2048x32 .f32) : out0_B_9 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 xo7 xo9 xs0 xs1 = fun _ => lossAll x4 (biased (jOf i) x1 x5 x6 xs1) xs0 (xo9 (ix2 0 0)) := by
  unfold out0_B_9 kernelRun0_B
  dsimp only
  sl_unfold_run_names
  simp only [harg5.read_unread, load_tile0, load_tile1, stored_tile0, stored_tile1, stored_whole, stored_tile1_under, load_wrow, load_brow, load_S2048x512, load_S4x4096, load_S512x32,
    load_S1x32, load_S2048x32, load_S1x1, biased_fold, first_scalar, st2_full, st3_full, st4_full]
  exact read_loss ..

/-- What the first point leaves of the quantised sum. -/
theorem out_A_7 (hc0 : cond0_0 i) (hc1 : cond0_1 i)
    (x0 : Vec F S2048x512 .f32) (x1 : Vec F S4x4096 .f32) (x2 : Vec F S512x32 .f32) (x3 : Vec F S1x32 .f32) (x4 : Vec F S1x8192x32 .f32) (x5 : Vec F S10x4096x32 .f32) (x6 : Vec F S10x1x32 .f32) : out0_A_7 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 = addf k0_pay8 (pickedAll x4 (biased (jOf i) x1 x5 x6 (k0_pay7 x0 x2 x3))) := by
  unfold out0_A_7 kernelRun0_A
  dsimp only
  sl_unfold_run_names
  simp only [harg5.read_unread, load_tile0, load_tile1, stored_tile0, stored_tile1, stored_whole, stored_tile1_under, load_wrow, load_brow, load_S2048x512, load_S4x4096, load_S512x32,
    load_S1x32, load_S2048x32, load_S1x1, biased_fold, first_scalar, st2_full, st3_full, st4_full]
  exact read_quant ..

/-- What the first point leaves of the residual. -/
theorem sout_A_1 (hc0 : cond0_0 i) (hc1 : cond0_1 i)
    (x0 : Vec F S2048x512 .f32) (x1 : Vec F S4x4096 .f32) (x2 : Vec F S512x32 .f32) (x3 : Vec F S1x32 .f32) (x4 : Vec F S1x8192x32 .f32) (x5 : Vec F S10x4096x32 .f32) (x6 : Vec F S10x1x32 .f32) : sout0_A_1 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 = subf (biased (jOf i) x1 x5 x6 (k0_pay7 x0 x2 x3)) (pickedAll x4 (biased (jOf i) x1 x5 x6 (k0_pay7 x0 x2 x3))) := by
  unfold sout0_A_1 kernelRun0_A
  dsimp only
  sl_unfold_run_names
  simp only [harg5.read_unread, load_tile0, load_tile1, stored_tile0, stored_tile1, stored_whole, stored_tile1_under, load_wrow, load_brow, load_S2048x512, load_S4x4096, load_S512x32,
    load_S1x32, load_S2048x32, load_S1x1, biased_fold, first_scalar, st2_full, st3_full, st4_full]
  exact read_res ..

/-- What the first point leaves of the row of indices. -/
theorem out_A_8 (hc0 : cond0_0 i) (hc1 : cond0_1 i)
    (x0 : Vec F S2048x512 .f32) (x1 : Vec F S4x4096 .f32) (x2 : Vec F S512x32 .f32) (x3 : Vec F S1x32 .f32) (x4 : Vec F S1x8192x32 .f32) (x5 : Vec F S10x4096x32 .f32) (x6 : Vec F S10x1x32 .f32) : out0_A_8 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 = indexAll x4 (biased (jOf i) x1 x5 x6 (k0_pay7 x0 x2 x3)) := by
  unfold out0_A_8 kernelRun0_A
  dsimp only
  sl_unfold_run_names
  simp only [harg5.read_unread, load_tile0, load_tile1, stored_tile0, stored_tile1, stored_whole, stored_tile1_under, load_wrow, load_brow, load_S2048x512, load_S4x4096, load_S512x32,
    load_S1x32, load_S2048x32, load_S1x1, biased_fold, first_scalar, st2_full, st3_full, st4_full]
  exact read_index ..

/-- What the first point leaves of the loss. -/
theorem out_A_9 (hc0 : cond0_0 i) (hc1 : cond0_1 i)
    (x0 : Vec F S2048x512 .f32) (x1 : Vec F S4x4096 .f32) (x2 : Vec F S512x32 .f32) (x3 : Vec F S1x32 .f32) (x4 : Vec F S1x8192x32 .f32) (x5 : Vec F S10x4096x32 .f32) (x6 : Vec F S10x1x32 .f32) : out0_A_9 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 = fun _ => lossAll x4 (biased (jOf i) x1 x5 x6 (k0_pay7 x0 x2 x3)) (k0_pay6 x0 x2 x3) (Scalar.ofBits .f32 0x00000000#32) := by
  unfold out0_A_9 kernelRun0_A
  dsimp only
  sl_unfold_run_names
  simp only [harg5.read_unread, load_tile0, load_tile1, stored_tile0, stored_tile1, stored_whole, stored_tile1_under, load_wrow, load_brow, load_S2048x512, load_S4x4096, load_S512x32,
    load_S1x32, load_S2048x32, load_S1x1, biased_fold, first_scalar, st2_full, st3_full, st4_full]
  exact read_loss ..

/-- What the first point leaves of the projected input. -/
theorem sout_A_0 (hc0 : cond0_0 i) (hc1 : cond0_1 i)
    (x0 : Vec F S2048x512 .f32) (x1 : Vec F S4x4096 .f32) (x2 : Vec F S512x32 .f32) (x3 : Vec F S1x32 .f32) (x4 : Vec F S1x8192x32 .f32) (x5 : Vec F S10x4096x32 .f32) (x6 : Vec F S10x1x32 .f32) : sout0_A_0 c i arg1 harg1 arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 = k0_pay6 x0 x2 x3 := by
  unfold sout0_A_0 kernelRun0_A
  dsimp only
  sl_unfold_run_names
  simp only [load_S2048x512, load_S512x32, load_S1x32]
  rw [View.read_writes_junk_eq_canon]
  exact View.canon_cons_unit_zero (S := S2048x32) zero2 ..

end Cases

end Cert.KernelIdeal.Step
-- ==== Proof.Spec.lean ====
/-
The quantiser over the real numbers, as both programs compute it: the nearest codeword of a row, the residual, the
quantised sum and the loss after each codebook; and what the operations on extended reals give on real numbers.
-/
module

public import Idealize.ShloMosaic.Lib.Pointwise
public import Idealize.ShloMosaic.Lib.DynamicIndex

@[expose] public section

set_option maxRecDepth 16384
open Idealize Idealize.ShloMosaic

namespace Cert.Spec

/-! ## The first place of the least value -/

/-- `k` is the first place at which `f` takes its least value. -/
def IsFirst {n : ℕ} (f : Fin n → ℝ) (k : Fin n) : Prop := (∀ m, f k ≤ f m) ∧ ∀ m, m < k → f k < f m

theorem exists_first {n : ℕ} (h : 0 < n) (f : Fin n → ℝ) : ∃ k, IsFirst f k := by
  classical
  obtain ⟨k0, -, hk0⟩ := Finset.exists_min_image Finset.univ f ⟨⟨0, h⟩, Finset.mem_univ _⟩
  have hne : (Finset.univ.filter fun k => ∀ m, f k ≤ f m).Nonempty :=
    ⟨k0, Finset.mem_filter.mpr ⟨Finset.mem_univ _, fun m => hk0 m (Finset.mem_univ _)⟩⟩
  have hmem := (Finset.mem_filter.mp (Finset.min'_mem _ hne)).2
  refine ⟨_, hmem, fun m hm => lt_of_le_of_ne (hmem m) fun e => ?_⟩
  have : m ∈ Finset.univ.filter fun k => ∀ m, f k ≤ f m :=
    Finset.mem_filter.mpr ⟨Finset.mem_univ _, fun m' => e ▸ hmem m'⟩
  exact absurd (Finset.min'_le _ m this) (not_le.mpr hm)

theorem IsFirst.unique {n : ℕ} {f : Fin n → ℝ} {k k' : Fin n} (h : IsFirst f k) (h' : IsFirst f k') : k = k' := by
  rcases lt_trichotomy k k' with hl | he | hl
  · exact absurd (h.1 k') (not_le.mpr (h'.2 k hl))
  · exact he
  · exact absurd (h'.1 k) (not_le.mpr (h.2 k' hl))

/-- The first place of the least of 8192 values. -/
noncomputable def first (f : Fin 8192 → ℝ) : Fin 8192 := (exists_first (by decide) f).choose

theorem first_spec (f : Fin 8192 → ℝ) : IsFirst f (first f) := (exists_first (by decide) f).choose_spec

theorem eq_first {f : Fin 8192 → ℝ} {k : Fin 8192} (h : IsFirst f k) : k = first f := h.unique (first_spec f)

/-! ## Extended reals that are real -/

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The least of real values, taken from plus infinity, is the value at a place where it is least. -/
theorem fold_min_coe {n : ℕ} (f : Fin n → ℝ) (k : Fin n) (hk : ∀ m, f k ≤ f m) :
    Finset.univ.fold min (⊤ : EReal) (fun m => (f m : EReal)) = (f k : EReal) :=
  le_antisymm (Finset.fold_min_le _ |>.mpr (Or.inr ⟨k, Finset.mem_univ _, le_rfl⟩))
    (Finset.le_fold_min _ |>.mpr ⟨le_top, fun m _ => EReal.coe_le_coe_iff.mpr (hk m)⟩)

theorem toInt_minsi (x y : BitVec 32) : (IntOp.minsi x y).toInt = min x.toInt y.toInt := by
  unfold IntOp.minsi
  by_cases h : x.toInt < y.toInt
  · rw [if_pos (by simpa [BitVec.slt] using h), min_eq_left h.le]
  · rw [if_neg (by simpa [BitVec.slt] using h), min_eq_right (not_lt.mp h)]

/-- The signed minimum of words that hold small naturals is the word of the least. -/
theorem fold_minsi {n : ℕ} (h : Fin n → ℕ) (hb : ∀ m, h m < 2 ^ 31) (k : Fin n) (hk : ∀ m, h k ≤ h m) :
    Finset.univ.fold IntOp.minsi (2147483647#32) (fun m => BitVec.ofNat 32 (h m)) = BitVec.ofNat 32 (h k) := by
  refine BitVec.eq_of_toInt_eq ?_
  rw [← Finset.fold_hom (op' := min) (m := BitVec.toInt) toInt_minsi, toInt_ofNat_of_lt (hb k)]
  have e : (2147483647#32).toInt = 2147483647 := by decide
  rw [e]
  refine le_antisymm (Finset.fold_min_le _ |>.mpr (Or.inr ⟨k, Finset.mem_univ _, by rw [toInt_ofNat_of_lt (hb k)]⟩))
    (Finset.le_fold_min _ |>.mpr ⟨?_, fun m _ => ?_⟩)
  · have := hb k; omega
  · rw [toInt_ofNat_of_lt (hb m)]; exact_mod_cast hk m

theorem ofBits_inf : Ideal.ofBits .f32 0x7F800000#32 = ⊤ := by simp [Ideal.ofBits, Ideal.ieee]

/-- The number of elements of one codebook's step, as the programs print it. -/
theorem ofBits_count : Ideal.ofBits .f32 0x47800000#32 = ((65536 : ℝ) : EReal) := by
  simp [Ideal.ofBits, Ideal.ieee]; norm_cast; norm_num

theorem ofBits_two : Ideal.ofBits .f32 0x40000000#32 = ((2 : ℝ) : EReal) := by
  simp [Ideal.ofBits, Ideal.ieee]; norm_cast; norm_num

/-- The weight of a step's bias. -/
theorem exists_scale : ∃ r : ℝ, Ideal.ofBits .f32 0x3DCCCCCD#32 = (r : EReal) := by
  simp only [Ideal.ofBits, Ideal.ieee]
  rw [if_neg (by decide), if_neg (by decide)]
  exact ⟨_, rfl⟩

noncomputable def scale : ℝ := exists_scale.choose

theorem ofBits_scale : Ideal.ofBits .f32 0x3DCCCCCD#32 = (scale : EReal) := exists_scale.choose_spec

theorem div_count (a : ℝ) : Ideal.div (a : EReal) ((65536 : ℝ) : EReal) = ((a / 65536 : ℝ) : EReal) := by
  unfold Ideal.div
  rw [if_neg (by exact_mod_cast (by norm_num : (65536 : ℝ) ≠ 0)), div_eq_mul_inv, EReal.coe_mul, EReal.coe_inv]

/-! ## The quantiser -/

/-- The squared distance of a row to a codeword, as the kernel takes it. -/
def dist (r c : Fin 32 → ℝ) : ℝ := ∑ d, r d * r d - ∑ d, (r d + r d) * c d + ∑ d, c d * c d

theorem dist_eq (r c : Fin 32 → ℝ) : dist r c = ∑ d, (r d - c d) * (r d - c d) := by
  unfold dist
  rw [← Finset.sum_sub_distrib, ← Finset.sum_add_distrib]
  exact Finset.sum_congr rfl fun d _ => by ring

theorem dist_nonneg (r c : Fin 32 → ℝ) : 0 ≤ dist r c := by
  rw [dist_eq]; exact Finset.sum_nonneg fun d _ => mul_self_nonneg _

/-- The codeword nearest to a row: the first of the nearest. -/
noncomputable def nearest (C : Fin 8192 → Fin 32 → ℝ) (r : Fin 32 → ℝ) : Fin 8192 := first fun n => dist r (C n)

/-- The inputs: the audio rows and their projection, the semantic rows with their projections, and the codebooks. -/
structure Inputs where
  audio : Fin 2048 → Fin 512 → ℝ
  sem : Fin 4 → Fin 4096 → ℝ
  win : Fin 512 → Fin 32 → ℝ
  bin : Fin 32 → ℝ
  cb : Fin 32 → Fin 8192 → Fin 32 → ℝ
  wsem : Fin 10 → Fin 4096 → Fin 32 → ℝ
  bsem : Fin 10 → Fin 32 → ℝ

variable (D : Inputs)

/-- The projected audio. -/
def Inputs.x (r : Fin 2048) (d : Fin 32) : ℝ := ∑ k, D.audio r k * D.win k d + D.bin d

/-- The semantic bias of a batch at one of the first ten steps. -/
def Inputs.bias (j : Fin 10) (b : Fin 4) (d : Fin 32) : ℝ := ∑ k, D.sem b k * D.wsem j k d + D.bsem j d

/-- The batch of a row. -/
def batch (r : Fin 2048) : Fin 4 := ⟨r.val / 512, by omega⟩

/-- A residual with a step's bias added. -/
noncomputable def Inputs.biased (i : Fin 32) (R : Fin 2048 → Fin 32 → ℝ) (r : Fin 2048) (d : Fin 32) : ℝ :=
  if h : i.val < 10 then R r d + scale * D.bias ⟨i.val, h⟩ (batch r) d else R r d

/-- The quantised sum, the residual and the loss. -/
structure State where
  quant : Fin 2048 → Fin 32 → ℝ
  res : Fin 2048 → Fin 32 → ℝ
  loss : ℝ

/-- The codewords picked at a step for the biased residual `R`. -/
noncomputable def Inputs.pick (i : Fin 32) (R : Fin 2048 → Fin 32 → ℝ) (r : Fin 2048) (d : Fin 32) : ℝ := D.cb i (nearest (D.cb i) (R r)) d

/-- One codebook's step. -/
noncomputable def Inputs.step (i : Fin 32) (s : State) : State where
  quant r d := s.quant r d + D.pick i (D.biased i s.res) r d
  res r d := D.biased i s.res r d - D.pick i (D.biased i s.res) r d
  loss := s.loss + (∑ r, ∑ d, (D.pick i (D.biased i s.res) r d - D.x r d) * (D.pick i (D.biased i s.res) r d - D.x r d)) / 65536

/-- The state before step `n`. -/
noncomputable def Inputs.state : ℕ → State
  | 0 => ⟨fun _ _ => 0, D.x, 0⟩
  | n + 1 => if h : n < 32 then D.step ⟨n, h⟩ (Inputs.state n) else Inputs.state n

theorem Inputs.state_succ (n : ℕ) (h : n < 32) : D.state (n + 1) = D.step ⟨n, h⟩ (D.state n) := dif_pos h

/-- The index chosen at a step for a row. -/
noncomputable def Inputs.index (i : Fin 32) (r : Fin 2048) : Fin 8192 := nearest (D.cb i) (D.biased i (D.state i.val).res r)

end Cert.Spec
-- ==== Proof.Values.lean ====
/-
What the kernel's payloads give, over the ideal instance, on buffers that hold real numbers: the scan finds the first
nearest codeword of each row, the gather fetches it, and the bias and the loss are the quantiser's.
-/
module

public import proofs.«01_k».proof.Proof.KernelIdeal.Step
public import proofs.«01_k».proof.Proof.Spec

@[expose] public section

set_option maxRecDepth 16384

noncomputable section

namespace Cert.KernelIdeal.Values

open Cert.KernelIdeal Cert.KernelIdeal.Gen Cert.KernelIdeal.Prep Cert.KernelIdeal.Trip Cert.KernelIdeal.Step Cert.Spec
open Idealize.ShloMosaic Idealize.ShloMosaic.Tactic

/-- Row `m` of chunk `n`. -/
def rowOf (n : Fin 4) (m : Fin 2048) : Fin 8192 := ⟨2048 * n.val + m.val, by omega⟩

theorem chunk_apply (cb : Vec Ideal S1x8192x32 .f32) (n : Fin 4) (m : Fin 2048) (d : Fin 32) :
    chunk cb (at1 n) (ix3 0 m d) = cb (ix3 0 (rowOf n m) d) := by
  refine congrArg cb (funext fun x => Fin.ext ?_)
  refine (congrArg (· + 1 * (ix3 (n0 := 1) 0 m d x).val) (congrFun (k0_off3_eq (at1 n)) x)).trans ?_
  fin_cases x
  · show 0 + 1 * 0 = 0; omega
  · show 2048 * n.val + 1 * m.val = 2048 * n.val + m.val; omega
  · show 0 + 1 * d.val = d.val; omega

theorem word_of_chunk (n : Fin 4) (x : Fin 2048) :
    IntOp.addi (BitVec.ofNat 32 x.val) (Scalar.muli (Scf.iv 0#32 1#32 n.val) 2048#32) = BitVec.ofNat 32 (rowOf n x).val := by
  have e : Scalar.muli (Scf.iv 0#32 1#32 n.val) 2048#32 = BitVec.ofNat 32 (2048 * n.val) := by
    revert n; decide
  rw [e]
  show BitVec.ofNat 32 x.val + BitVec.ofNat 32 (2048 * n.val) = BitVec.ofNat 32 (2048 * n.val + x.val)
  rw [← BitVec.ofNat_add, Nat.add_comm]

section Tile
variable (cb : Vec Ideal S1x8192x32 .f32) (C : Fin 8192 → Fin 32 → ℝ) (hC : ∀ n d, cb (ix3 0 n d) = ((C n d : ℝ) : EReal))
  (r : Vec Ideal S1024x32 .f32) (R : Fin 1024 → Fin 32 → ℝ) (hr : ∀ p d, r (ix2 p d) = ((R p d : ℝ) : EReal))

include hC hr

/-- The distances of a tile's rows to a chunk's codewords. -/
theorem d2_eq (n : Fin 4) (p : Fin 1024) (m : Fin 2048) :
    k0_pay16 r (chunk cb (at1 n)) (k0_pay11 (chunk cb (at1 n))) (ix2 p m) = ((Spec.dist (R p) (C (rowOf n m)) : ℝ) : EReal) := by
  pointwise [k0_pay16, k0_pay11, k0_pay10]
  simp only [chunk_apply, hC, hr, ← EReal.coe_add, ← EReal.coe_mul, ← coe_sum, ← EReal.coe_sub]
  rfl

/-- The least distance of a row to a chunk. -/
theorem cmin_eq (n : Fin 4) (p : Fin 1024) (k : Fin 2048) (hk : ∀ m, Spec.dist (R p) (C (rowOf n k)) ≤ Spec.dist (R p) (C (rowOf n m))) :
    k0_pay17 r (chunk cb (at1 n)) (k0_pay11 (chunk cb (at1 n))) (ix2 p 0) = ((Spec.dist (R p) (C (rowOf n k)) : ℝ) : EReal) := by
  pointwise [k0_pay17]
  simp only [d2_eq cb C hC r R hr]
  rw [ofBits_inf]
  exact fold_min_coe (fun m => Spec.dist (R p) (C (rowOf n m))) k hk

/-- The first place in a chunk of its least distance. -/
theorem cidx_eq (n : Fin 4) (p : Fin 1024) (k : Fin 2048) (hk : IsFirst (fun m => Spec.dist (R p) (C (rowOf n m))) k) :
    Finset.fold IntOp.minsi (2147483647#32)
      (fun x : Fin 2048 => if k0_pay16 r (chunk cb (at1 n)) (k0_pay11 (chunk cb (at1 n))) (ix2 p x)
          = k0_pay17 r (chunk cb (at1 n)) (k0_pay11 (chunk cb (at1 n))) (ix2 p 0)
        then IntOp.addi (BitVec.ofNat 32 x.val) (Scalar.muli (Scf.iv 0#32 1#32 n.val) 2048#32) else 8192#32) Finset.univ
      = BitVec.ofNat 32 (rowOf n k).val := by
  simp only [d2_eq cb C hC r R hr, cmin_eq cb C hC r R hr n p k hk.1, word_of_chunk, EReal.coe_eq_coe_iff]
  have e : (fun x : Fin 2048 => if Spec.dist (R p) (C (rowOf n x)) = Spec.dist (R p) (C (rowOf n k)) then BitVec.ofNat 32 (rowOf n x).val else 8192#32)
      = fun x : Fin 2048 => BitVec.ofNat 32 (if Spec.dist (R p) (C (rowOf n x)) = Spec.dist (R p) (C (rowOf n k)) then (rowOf n x).val else 8192) := by
    funext x; split <;> rfl
  rw [e, fold_minsi _ (fun m => ?_) k (fun m => ?_), if_pos rfl]
  · have := (rowOf n m).isLt; split <;> omega
  · rw [if_pos rfl]
    have hkl : (rowOf n k).val = 2048 * n.val + k.val := rfl
    have := (rowOf n k).isLt
    split
    · rename_i h
      have : ¬ m < k := fun hl => absurd (hk.2 m hl) (by show ¬ Spec.dist _ _ < Spec.dist _ _; rw [h]; exact lt_irrefl _)
      show 2048 * n.val + k.val ≤ 2048 * n.val + m.val
      have := Fin.not_lt.mp this
      have : k.val ≤ m.val := this
      omega
    · omega

omit hC hr in
/-- What the scan knows of a row before chunk `n`: nothing, or the first nearest codeword of the chunks met. -/
def Seen (f : Fin 8192 → ℝ) (n : ℕ) (v : EReal) (w : BitVec 32) : Prop :=
  (n = 0 ∧ v = ⊤) ∨ ∃ k : Fin 8192, k.val < 2048 * n ∧ v = (f k : EReal) ∧ w = BitVec.ofNat 32 k.val
    ∧ ∀ m : Fin 8192, m.val < 2048 * n → f k ≤ f m ∧ (m < k → f k < f m)

omit hC hr in
theorem Seen.step {f : Fin 8192 → ℝ} {n : Fin 4} {v : EReal} {w : BitVec 32} (h : Seen f n.val v w) {k : Fin 2048}
    (hk : IsFirst (fun m => f (rowOf n m)) k) :
    Seen f (n.val + 1) (if ((f (rowOf n k) : ℝ) : EReal) < v then ((f (rowOf n k) : ℝ) : EReal) else v)
      (if ((f (rowOf n k) : ℝ) : EReal) < v then BitVec.ofNat 32 (rowOf n k).val else w) := by
  have split_row : ∀ m : Fin 8192, m.val < 2048 * (n.val + 1) → ¬ m.val < 2048 * n.val → ∃ m' : Fin 2048, m = rowOf n m' :=
    fun m h1 h2 => ⟨⟨m.val - 2048 * n.val, by omega⟩, Fin.ext (by show m.val = 2048 * n.val + (m.val - 2048 * n.val); omega)⟩
  have hkl : (rowOf n k).val = 2048 * n.val + k.val := rfl
  have fresh : ∀ m' : Fin 2048, f (rowOf n k) ≤ f (rowOf n m') ∧ (rowOf n m' < rowOf n k → f (rowOf n k) < f (rowOf n m')) :=
    fun m' => ⟨hk.1 m', fun hl => hk.2 m' (by
      have : 2048 * n.val + m'.val < 2048 * n.val + k.val := hl
      show m'.val < k.val; omega)⟩
  right
  rcases h with ⟨h0, hv⟩ | ⟨k', hk'l, hv, hw, hall⟩
  · refine ⟨rowOf n k, by have := k.isLt; omega, ?_, ?_, fun m hm => ?_⟩
    · rw [if_pos (hv ▸ EReal.coe_lt_top _)]
    · rw [if_pos (hv ▸ EReal.coe_lt_top _)]
    · obtain ⟨m', rfl⟩ := split_row m hm (by omega)
      exact fresh m'
  · subst hv
    by_cases hlt : f (rowOf n k) < f k'
    · refine ⟨rowOf n k, by have := k.isLt; omega, ?_, ?_, fun m hm => ?_⟩
      · rw [if_pos (EReal.coe_lt_coe_iff.mpr hlt)]
      · rw [if_pos (EReal.coe_lt_coe_iff.mpr hlt)]
      · by_cases hm' : m.val < 2048 * n.val
        · have := lt_of_lt_of_le hlt (hall m hm').1
          exact ⟨this.le, fun _ => this⟩
        · obtain ⟨m', rfl⟩ := split_row m hm hm'
          exact fresh m'
    · refine ⟨k', by omega, ?_, ?_, fun m hm => ?_⟩
      · rw [if_neg (fun h => hlt (EReal.coe_lt_coe_iff.mp h))]
      · rw [if_neg (fun h => hlt (EReal.coe_lt_coe_iff.mp h))]; exact hw
      · by_cases hm' : m.val < 2048 * n.val
        · exact hall m hm'
        · obtain ⟨m', rfl⟩ := split_row m hm hm'
          exact ⟨(not_lt.mp hlt).trans (fresh m').1, fun hl => absurd (show (rowOf n m').val < k'.val from hl)
            (by have : (rowOf n m').val = 2048 * n.val + m'.val := rfl; omega)⟩

/-- The scan before chunk `n` knows the first nearest codeword of the chunks before it, row by row. -/
theorem scan_seen (p : Fin 1024) (n : ℕ) (hn : n ≤ 4) :
    Seen (fun k => Spec.dist (R p) (C k)) n ((scanAt cb r n).1 (ix2 p 0)) ((scanAt cb r n).2 (ix2 p 0)) := by
  induction n with
  | zero => exact Or.inl ⟨rfl, ofBits_inf⟩
  | succ n ih =>
    have hn' : n < 4 := hn
    obtain ⟨k, hk⟩ := exists_first (n := 2048) (by decide) fun m => Spec.dist (R p) (C (rowOf ⟨n, hn'⟩ m))
    have ihs := Seen.step (n := ⟨n, hn'⟩) (ih hn'.le) hk
    have e : scanAt cb r (n + 1) = scanStep cb r ⟨n, hn'⟩ (scanAt cb r n) := dif_pos hn'
    rw [e]
    refine cast (congrArg₂ (Seen _ (n + 1)) ?_ ?_) ihs
    · unfold scanStep
      pointwise [k0_pay19, k0_pay18]
      rw [cmin_eq cb C hC r R hr ⟨n, hn'⟩ p k hk.1]
    · unfold scanStep
      pointwise [k0_pay20, k0_pay18]
      rw [cidx_eq cb C hC r R hr ⟨n, hn'⟩ p k hk, cmin_eq cb C hC r R hr ⟨n, hn'⟩ p k hk.1]

/-- The whole scan finds each row's nearest codeword. -/
theorem scan_eq (p : Fin 1024) : (scanAt cb r 4).2 (ix2 p 0) = BitVec.ofNat 32 (nearest C (R p)).val := by
  rcases scan_seen cb C hC r R hr p 4 le_rfl with ⟨h, -⟩ | ⟨k, -, -, hw, hall⟩
  · exact absurd h (by decide)
  · rw [hw, eq_first (f := fun k => Spec.dist (R p) (C k)) ⟨fun m => (hall m (by have := m.isLt; omega)).1, fun m => (hall m (by have := m.isLt; omega)).2⟩]
    rfl

end Tile

section Gather
variable (cb : Vec Ideal S1x8192x32 .f32) (C : Fin 8192 → Fin 32 → ℝ) (hC : ∀ n d, cb (ix3 0 n d) = ((C n d : ℝ) : EReal))

/-- The gather table: the codewords, and two blocks of zeros beside them. -/
def wide (c : Fin 32 → ℝ) (q : Fin 96) : ℝ := if h : q.val < 32 then c ⟨q.val, h⟩ else 0

include hC

theorem table_eq (n : Fin 4) (m : Fin 2048) (q : Fin 96) :
    k0_pay12 (chunk cb (at1 n)) (ix2 m q) = ((wide (C (rowOf n m)) q : ℝ) : EReal) := by
  pointwise [k0_pay12, k0_pay10]
  simp only [chunk_apply, hC, ← EReal.coe_sub, sub_self]
  unfold wide
  split
  · rfl
  · split <;> rfl

omit hC in
theorem onehot_eq (n : Fin 4) (x : Fin 2048) (k : Fin 8192) :
    FloatOps.sitofp (F := Ideal) FTy.f32 (BitVec.setWidth 32 (IntOp.cmpi .eq (BitVec.ofNat 32 (rowOf n x).val) (BitVec.ofNat 32 k.val)))
      = (((if rowOf n x = k then 1 else 0 : ℝ)) : EReal) := by
  have e : (BitVec.ofNat 32 (rowOf n x).val = BitVec.ofNat 32 k.val) ↔ rowOf n x = k := by
    constructor
    · intro h
      have h' := congrArg BitVec.toNat h
      rw [BitVec.toNat_ofNat, BitVec.toNat_ofNat, Nat.mod_eq_of_lt (by have := (rowOf n x).isLt; omega),
        Nat.mod_eq_of_lt (by have := k.isLt; omega)] at h'
      exact Fin.ext h'
    · intro h; rw [h]
  show (((BitVec.setWidth 32 (BitVec.ofBool (BitVec.ofNat 32 (rowOf n x).val == BitVec.ofNat 32 k.val))).toInt : ℝ) : EReal) = _
  by_cases h : rowOf n x = k
  · rw [if_pos h, beq_iff_eq.mpr (e.mpr h)]
    norm_num
    decide
  · rw [if_neg h, beq_eq_false_iff_ne.mpr (fun he => h (e.mp he))]
    norm_num

/-- Before chunk `n` the gather holds the codeword where a chunk before it has it, and zero otherwise. -/
theorem gather_seen (ix : IVec S1024x1 32) (p : Fin 1024) (k : Fin 8192) (hk : ix (ix2 p 0) = BitVec.ofNat 32 k.val) (q : Fin 96)
    (n : ℕ) (hn : n ≤ 4) :
    gatherAt cb ix n (ix2 p q) = (((if k.val < 2048 * n then wide (C k) q else 0 : ℝ)) : EReal) := by
  induction n with
  | zero => exact Ideal.ofBits_zero_f32.trans (by rw [if_neg (by omega)]; rfl)
  | succ n ih =>
    have hn' : n < 4 := hn
    have e : gatherAt cb ix (n + 1) = gatherStep cb ix ⟨n, hn'⟩ (gatherAt cb ix n) := dif_pos hn'
    rw [e]
    unfold gatherStep
    pointwise [k0_pay32]
    simp only [word_of_chunk ⟨n, hn'⟩, hk, onehot_eq, table_eq cb C hC, ← EReal.coe_mul, ← coe_sum, ih hn'.le, ← EReal.coe_add]
    refine congrArg _ ?_
    by_cases h1 : k.val < 2048 * n
    · rw [if_pos h1, if_pos (by omega), Finset.sum_eq_zero (fun x _ => ?_), add_zero]
      rw [if_neg (fun h => ?_), zero_mul]
      have : 2048 * n + x.val = k.val := congrArg Fin.val h
      omega
    · rw [if_neg h1, zero_add]
      by_cases h2 : k.val < 2048 * (n + 1)
      · have hx : rowOf ⟨n, hn'⟩ ⟨k.val - 2048 * n, by omega⟩ = k := Fin.ext (by show 2048 * n + (k.val - 2048 * n) = k.val; omega)
        rw [if_pos h2, Finset.sum_eq_single (⟨k.val - 2048 * n, by omega⟩ : Fin 2048) (fun x _ hne => ?_) (fun h => absurd (Finset.mem_univ _) h), if_pos hx, one_mul, hx]
        rw [if_neg (fun h => hne ?_), zero_mul]
        have : 2048 * n + x.val = k.val := congrArg Fin.val h
        exact Fin.ext (by show x.val = k.val - 2048 * n; omega)
      · rw [if_neg h2, Finset.sum_eq_zero (fun x _ => ?_)]
        rw [if_neg (fun h => ?_), zero_mul]
        have : 2048 * n + x.val = k.val := congrArg Fin.val h
        have := x.isLt
        omega

variable (r : Vec Ideal S1024x32 .f32) (R : Fin 1024 → Fin 32 → ℝ) (hr : ∀ p d, r (ix2 p d) = ((R p d : ℝ) : EReal))

include hr

/-- What is picked for a tile: each row's nearest codeword. -/
theorem picked_eq (p : Fin 1024) (q : Fin 32) : picked cb r (ix2 p q) = ((C (nearest C (R p)) q : ℝ) : EReal) := by
  have hs := gather_seen cb C hC (scanAt cb r 4).2 p (nearest C (R p)) (scan_eq cb C hC r R hr p)
  unfold picked
  generalize hg : (gatherAt cb (scanAt cb r 4).2 4 : FVec Ideal S1024x96 .f32) = g
  have hg' : ∀ q, g (ix2 p q) = ((wide (C (nearest C (R p))) q : ℝ) : EReal) := fun q => by
    rw [← hg, hs q 4 le_rfl, if_pos (by have := (nearest C (R p)).isLt; omega)]
  pointwise [k0_pay27]
  simp only [hg', ← EReal.coe_add]
  refine congrArg _ ?_
  unfold wide
  rw [dif_pos q.isLt, dif_neg (by show ¬ 32 + q.val < 32; omega), dif_neg (by show ¬ 64 + q.val < 32; omega), add_zero, add_zero]

end Gather

section Rows
variable (cb : Vec Ideal S1x8192x32 .f32) (C : Fin 8192 → Fin 32 → ℝ) (hC : ∀ n d, cb (ix3 0 n d) = ((C n d : ℝ) : EReal))
  (r : Vec Ideal S2048x32 .f32) (R : Fin 2048 → Fin 32 → ℝ) (hr : ∀ p d, r (ix2 p d) = ((R p d : ℝ) : EReal))

/-- The row of all rows at place `p` of tile `t`. -/
def rowAt (t : Fin 2) (p : Fin 1024) : Fin 2048 := ⟨1024 * t.val + p.val, by omega⟩

theorem rowAt_div_mod (p : Fin 2048) : rowAt ⟨p.val / 1024, by omega⟩ ⟨p.val % 1024, Nat.mod_lt _ (by decide)⟩ = p :=
  Fin.ext (by show 1024 * (p.val / 1024) + p.val % 1024 = p.val; omega)

include hr in
theorem tile_eq (t : Fin 2) (p : Fin 1024) (d : Fin 32) : tile t r (ix2 p d) = ((R (rowAt t p) d : ℝ) : EReal) := hr (rowAt t p) d

include hC hr

/-- Every row picks its nearest codeword. -/
theorem pickedAll_eq (p : Fin 2048) (d : Fin 32) : pickedAll cb r (ix2 p d) = ((C (nearest C (R p)) d : ℝ) : EReal) := by
  refine (picked_eq cb C hC (tile ⟨p.val / 1024, by omega⟩ r) _ (tile_eq r R hr _) ⟨p.val % 1024, Nat.mod_lt _ (by decide)⟩ d).trans ?_
  rw [rowAt_div_mod]

/-- The index of every row is its nearest codeword's. -/
theorem indexAll_eq (p : Fin 2048) : indexAll cb r (ix3 0 0 p) = BitVec.ofNat 32 (nearest C (R p)).val := by
  refine (scan_eq cb C hC (tile ⟨p.val / 1024, by omega⟩ r) _ (tile_eq r R hr _) ⟨p.val % 1024, Nat.mod_lt _ (by decide)⟩).trans ?_
  rw [rowAt_div_mod]

omit hC hr in
theorem sum_rows (f : Fin 2048 → ℝ) : ∑ p, f p = ∑ p, f (rowAt 0 p) + ∑ p, f (rowAt 1 p) := by
  refine (Fin.sum_univ_add (a := 1024) (b := 1024) f).trans ?_
  refine congrArg₂ (· + ·) (Finset.sum_congr rfl fun p _ => congrArg f (Fin.ext ?_)) (Finset.sum_congr rfl fun p _ => congrArg f (Fin.ext ?_))
  · show p.val = 1024 * 0 + p.val; omega
  · show 1024 + p.val = 1024 * 1 + p.val; omega

/-- The loss gains the mean squared distance of what was picked to the target. -/
theorem lossAll_eq (x : Vec Ideal S2048x32 .f32) (X : Fin 2048 → Fin 32 → ℝ) (hx : ∀ p d, x (ix2 p d) = ((X p d : ℝ) : EReal)) (l : ℝ) :
    lossAll cb r x ((l : ℝ) : EReal)
      = ((l + (∑ p, ∑ d, (C (nearest C (R p)) d - X p d) * (C (nearest C (R p)) d - X p d)) / 65536 : ℝ) : EReal) := by
  have h := fun t => picked_eq cb C hC (tile t r) _ (tile_eq r R hr t)
  have h' := fun t => tile_eq x X hx t
  unfold lossAll
  have half : ∀ (t : Fin 2) (l : ℝ), k0_pay2 (picked cb (tile t r)) (tile t x) ((l : ℝ) : EReal)
      = ((l + (∑ p, ∑ d, (C (nearest C (R (rowAt t p))) d - X (rowAt t p) d) * (C (nearest C (R (rowAt t p))) d - X (rowAt t p) d)) / 65536 : ℝ) : EReal) := by
    intro t l
    have ht := h t
    have ht' := h' t
    revert ht ht'
    generalize picked cb (tile t r) = u
    generalize tile t x = w
    intro ht ht'
    pointwise [k0_pay2]
    simp only [ht, ht', ← EReal.coe_sub, ← EReal.coe_mul, ← coe_sum, ofBits_count, div_count, ← EReal.coe_add]
  have e : k0_pay30 (picked cb (tile 0 r)) (tile 0 x) ((l : ℝ) : EReal) = k0_pay2 (picked cb (tile 0 r)) (tile 0 x) ((l : ℝ) : EReal) := rfl
  rw [e, half, half, sum_rows, add_div, add_assoc]

end Rows

/-- The batch number the kernel counts for a row. -/
theorem batch_word : ∀ p : Fin 2048,
    Scalar.select
      (IntOp.andi
        (IntOp.cmpi .ne
          (IntOp.subi (BitVec.setWidth 32 (IntOp.cmpi .sgt (BitVec.ofNat 32 p.val) 0#32))
            (BitVec.setWidth 32 (IntOp.cmpi .slt (BitVec.ofNat 32 p.val) 0#32)))
          (Scalar.subi (Scalar.extui (Scalar.cmpi .sgt 512#32 0#32)) (Scalar.extui (Scalar.cmpi .slt 512#32 0#32))))
        (IntOp.cmpi .ne (IntOp.remsi ArithUnit.vector (BitVec.ofNat 32 p.val) 512#32) 0#32))
      (IntOp.subi (IntOp.divsi ArithUnit.vector (BitVec.ofNat 32 p.val) 512#32) 1#32)
      (IntOp.divsi ArithUnit.vector (BitVec.ofNat 32 p.val) 512#32) = BitVec.ofNat 32 (batch p).val := by
  decide +kernel

theorem batch_onehot : ∀ b x : Fin 4,
    (BitVec.setWidth 32 (IntOp.cmpi .eq (BitVec.ofNat 32 b.val) (BitVec.ofNat 32 x.val))).toInt = if b = x then 1 else 0 := by
  decide

section Bias
variable (x1 : Vec Ideal S4x4096 .f32) (W : Vec Ideal S1x4096x32 .f32) (b : Vec Ideal S1x1x32 .f32)
  (sem : Fin 4 → Fin 4096 → ℝ) (w : Fin 4096 → Fin 32 → ℝ) (v : Fin 32 → ℝ)
  (h1 : ∀ p k, x1 (ix2 p k) = ((sem p k : ℝ) : EReal)) (hW : ∀ k d, W (ix3 0 k d) = ((w k d : ℝ) : EReal))
  (hb : ∀ d, b (ix3 0 0 d) = ((v d : ℝ) : EReal))

include h1 hW hb

/-- The bias of a row: its batch's projection. -/
theorem bias_eq (p : Fin 2048) (d : Fin 32) :
    k0_pay4 x1 W b (ix2 p d) = ((∑ k, sem (batch p) k * w k d + v d : ℝ) : EReal) := by
  pointwise [k0_pay4]
  simp only [batch_word]
  have e : ∀ x : Fin 4, FloatOps.sitofp (F := Ideal) FTy.f32 (BitVec.setWidth 32 (IntOp.cmpi .eq (BitVec.ofNat 32 (batch p).val) (BitVec.ofNat 32 x.val)))
      = (((if batch p = x then 1 else 0 : ℝ)) : EReal) := fun x => by
    show (((BitVec.setWidth 32 (IntOp.cmpi .eq (BitVec.ofNat 32 (batch p).val) (BitVec.ofNat 32 x.val))).toInt : ℝ) : EReal) = _
    rw [batch_onehot]
    split <;> norm_num
  simp only [e, h1, hW, hb, ← EReal.coe_mul, ← coe_sum, ← EReal.coe_add]
  simp

end Bias

/-- The residual with the bias, where there is one. -/
theorem biased_eq (j : Fin 10) (x1 : Vec Ideal S4x4096 .f32) (x5 : Vec Ideal S10x4096x32 .f32) (x6 : Vec Ideal S10x1x32 .f32) (r : Vec Ideal S2048x32 .f32)
    (sem : Fin 4 → Fin 4096 → ℝ) (w : Fin 10 → Fin 4096 → Fin 32 → ℝ) (v : Fin 10 → Fin 32 → ℝ) (R : Fin 2048 → Fin 32 → ℝ)
    (h1 : ∀ p k, x1 (ix2 p k) = ((sem p k : ℝ) : EReal)) (h5 : ∀ j k d, x5 (ix3 j k d) = ((w j k d : ℝ) : EReal))
    (h6 : ∀ j d, x6 (ix3 j 0 d) = ((v j d : ℝ) : EReal)) (hr : ∀ p d, r (ix2 p d) = ((R p d : ℝ) : EReal)) (p : Fin 2048) (d : Fin 32) :
    Step.biased j x1 x5 x6 r (ix2 p d) = ((R p d + scale * (∑ k, sem (batch p) k * w j k d + v j d) : ℝ) : EReal) := by
  have h := bias_eq x1 (wrow j x5) (brow j x6) sem (w j) (v j) h1 (h5 j) (h6 j) p d
  unfold Step.biased
  revert h
  generalize k0_pay4 x1 (wrow j x5) (brow j x6) = u
  intro h
  pointwise [k0_pay9]
  rw [h, hr, ofBits_scale, ← EReal.coe_mul, ← EReal.coe_add]

section Project
variable (x0 : Vec Ideal S2048x512 .f32) (x2 : Vec Ideal S512x32 .f32) (x3 : Vec Ideal S1x32 .f32)
  (a : Fin 2048 → Fin 512 → ℝ) (w : Fin 512 → Fin 32 → ℝ) (v : Fin 32 → ℝ)
  (h0 : ∀ p k, x0 (ix2 p k) = ((a p k : ℝ) : EReal)) (h2 : ∀ k d, x2 (ix2 k d) = ((w k d : ℝ) : EReal))
  (h3 : ∀ d, x3 (ix2 0 d) = ((v d : ℝ) : EReal))

include h0 h2 h3

/-- The projected audio, kept as the target. -/
theorem target_eq (p : Fin 2048) (d : Fin 32) : k0_pay6 x0 x2 x3 (ix2 p d) = ((∑ k, a p k * w k d + v d : ℝ) : EReal) := by
  pointwise [k0_pay6, k0_pay5]
  simp only [h0, h2, h3, ← EReal.coe_mul, ← coe_sum, ← EReal.coe_add]

/-- The projected audio, as the first residual. -/
theorem start_eq (p : Fin 2048) (d : Fin 32) : k0_pay7 x0 x2 x3 (ix2 p d) = ((∑ k, a p k * w k d + v d : ℝ) : EReal) :=
  target_eq x0 x2 x3 a w v h0 h2 h3 p d

end Project

end Cert.KernelIdeal.Values
-- ==== Proof.Inputs.lean ====
/-
The seven argument arrays as real numbers, in the form both programs' values are stated over.
-/
module

public import proofs.«01_k».proof.Proof.Spec
public import Idealize.ShloMosaic.Lib.Pointwise

@[expose] public section

noncomputable section

namespace Cert.Spec

open Idealize.ShloMosaic

/-- The row of position `s` of batch `b`. -/
def flat (b : Fin 4) (s : Fin 512) : Fin 2048 := ⟨512 * b.val + s.val, by omega⟩

/-- The argument arrays hold the real numbers of `D`. -/
structure Holds (D : Inputs) (a0 : (⟨3, ![4, 512, 512]⟩ : Shape).Idx → EReal) (a1 : (⟨2, ![4, 4096]⟩ : Shape).Idx → EReal)
    (a2 : (⟨2, ![512, 32]⟩ : Shape).Idx → EReal) (a3 : (⟨1, ![32]⟩ : Shape).Idx → EReal) (a4 : (⟨3, ![32, 8192, 32]⟩ : Shape).Idx → EReal)
    (a5 : (⟨3, ![10, 4096, 32]⟩ : Shape).Idx → EReal) (a6 : (⟨2, ![10, 32]⟩ : Shape).Idx → EReal) : Prop where
  audio : ∀ b s k, a0 (ix3 b s k) = ((D.audio (flat b s) k : ℝ) : EReal)
  sem : ∀ b k, a1 (ix2 b k) = ((D.sem b k : ℝ) : EReal)
  win : ∀ k d, a2 (ix2 k d) = ((D.win k d : ℝ) : EReal)
  bin : ∀ d, a3 (ix1 d) = ((D.bin d : ℝ) : EReal)
  cb : ∀ i n d, a4 (ix3 i n d) = ((D.cb i n d : ℝ) : EReal)
  wsem : ∀ j k d, a5 (ix3 j k d) = ((D.wsem j k d : ℝ) : EReal)
  bsem : ∀ j d, a6 (ix2 j d) = ((D.bsem j d : ℝ) : EReal)

/-- The real number an extended real stands for where it is one. -/
theorem coe_toReal_of_ne {a : EReal} (h : a ≠ ⊤ ∧ a ≠ ⊥) : a = ((a.toReal : ℝ) : EReal) := (EReal.coe_toReal h.1 h.2).symm

/-- Arrays with no infinite element hold some inputs. -/
theorem exists_holds (a0 : (⟨3, ![4, 512, 512]⟩ : Shape).Idx → EReal) (a1 : (⟨2, ![4, 4096]⟩ : Shape).Idx → EReal)
    (a2 : (⟨2, ![512, 32]⟩ : Shape).Idx → EReal) (a3 : (⟨1, ![32]⟩ : Shape).Idx → EReal) (a4 : (⟨3, ![32, 8192, 32]⟩ : Shape).Idx → EReal)
    (a5 : (⟨3, ![10, 4096, 32]⟩ : Shape).Idx → EReal) (a6 : (⟨2, ![10, 32]⟩ : Shape).Idx → EReal)
    (h0 : ∀ i, a0 i ≠ ⊤ ∧ a0 i ≠ ⊥) (h1 : ∀ i, a1 i ≠ ⊤ ∧ a1 i ≠ ⊥) (h2 : ∀ i, a2 i ≠ ⊤ ∧ a2 i ≠ ⊥) (h3 : ∀ i, a3 i ≠ ⊤ ∧ a3 i ≠ ⊥)
    (h4 : ∀ i, a4 i ≠ ⊤ ∧ a4 i ≠ ⊥) (h5 : ∀ i, a5 i ≠ ⊤ ∧ a5 i ≠ ⊥) (h6 : ∀ i, a6 i ≠ ⊤ ∧ a6 i ≠ ⊥) :
    ∃ D, Holds D a0 a1 a2 a3 a4 a5 a6 := by
  refine ⟨⟨fun r k => (a0 (ix3 ⟨r.val / 512, by omega⟩ ⟨r.val % 512, Nat.mod_lt _ (by decide)⟩ k)).toReal, fun b k => (a1 (ix2 b k)).toReal,
    fun k d => (a2 (ix2 k d)).toReal, fun d => (a3 (ix1 d)).toReal, fun i n d => (a4 (ix3 i n d)).toReal,
    fun j k d => (a5 (ix3 j k d)).toReal, fun j d => (a6 (ix2 j d)).toReal⟩, ?_, ?_, ?_, ?_, ?_, ?_, ?_⟩
  · intro b s k
    have e : ∀ (b' : Fin 4) (s' : Fin 512), b' = b → s' = s → a0 (ix3 b s k) = (((a0 (ix3 b' s' k)).toReal : ℝ) : EReal) := by
      rintro _ _ rfl rfl; exact coe_toReal_of_ne (h0 _)
    exact e _ _ (Fin.ext (by show (512 * b.val + s.val) / 512 = b.val; omega)) (Fin.ext (by show (512 * b.val + s.val) % 512 = s.val; omega))
  · exact fun b k => coe_toReal_of_ne (h1 _)
  · exact fun k d => coe_toReal_of_ne (h2 _)
  · exact fun d => coe_toReal_of_ne (h3 _)
  · exact fun i n d => coe_toReal_of_ne (h4 _)
  · exact fun j k d => coe_toReal_of_ne (h5 _)
  · exact fun j d => coe_toReal_of_ne (h6 _)

/-- The first result: the quantised rows. -/
def Inputs.result0 (D : Inputs) : (⟨3, ![4, 512, 32]⟩ : Shape).Idx → EReal := fun z =>
  (((D.state 32).quant (flat (z 0) (z 1)) (z 2) : ℝ) : EReal)

/-- The second result: the indices. -/
def Inputs.result1 (D : Inputs) : (⟨3, ![32, 4, 512]⟩ : Shape).Idx → BitVec 32 := fun z =>
  BitVec.ofNat 32 (D.index (z 0) (flat (z 1) (z 2))).val

/-- The third result: the loss, scaled. -/
def Inputs.result2 (D : Inputs) : (⟨0, ![]⟩ : Shape).Idx → EReal := fun _ =>
  (((D.state 32).loss : ℝ) : EReal) * Ideal.ofBits .f32 0x3E800000#32

end Cert.Spec
-- ==== Proof.Fold.lean ====
/-
The kernel's value at the ideal instance: grid point by grid point its output blocks and its carried scratch hold the
quantiser's state, so its three results are the quantiser's.
-/
module

public import proofs.«01_k».proof.Proof.Values
public import proofs.«01_k».proof.Proof.Inputs
public import proofs.«01_k».proof.Proof.KernelIdeal.Frame

@[expose] public section

set_option maxRecDepth 16384

noncomputable section

namespace Cert.KernelIdeal.Fold

open Cert.KernelIdeal Cert.KernelIdeal.Gen Cert.KernelIdeal.Step Cert.KernelIdeal.Values Cert.Spec
open Idealize.ShloMosaic Idealize.ShloMosaic.TcCoe Idealize.SL.Sem
open Idealize.ShloMosaic.Pipeline (Dat)

variable (D : Inputs)

/-- What the output blocks and the carried scratch hold after point `n`. -/
structure Is (n : Fin 32) (q : Vec Ideal S2048x32 .f32) (ix : Vec Ideal S1x1x2048 .i32) (l : Vec Ideal S1x1 .f32) (x r : Vec Ideal S2048x32 .f32) :
    Prop where
  quant : ∀ p d, q (ix2 p d) = (((D.state (n.val + 1)).quant p d : ℝ) : EReal)
  index : ∀ p, ix (ix3 0 0 p) = BitVec.ofNat 32 (D.index n p).val
  loss : ∀ z, l z = (((D.state (n.val + 1)).loss : ℝ) : EReal)
  target : ∀ p d, x (ix2 p d) = ((D.x p d : ℝ) : EReal)
  res : ∀ p d, r (ix2 p d) = (((D.state (n.val + 1)).res p d : ℝ) : EReal)

/-- One point's step, from the biased residual. -/
theorem is_step (n : Fin 32) (cb : Vec Ideal S1x8192x32 .f32) (hcb : ∀ k d, cb (ix3 0 k d) = ((D.cb n k d : ℝ) : EReal))
    (q r x : Vec Ideal S2048x32 .f32) (l : EReal) (hq : ∀ p d, q (ix2 p d) = (((D.state n.val).quant p d : ℝ) : EReal))
    (hr : ∀ p d, r (ix2 p d) = ((D.biased n (D.state n.val).res p d : ℝ) : EReal)) (hx : ∀ p d, x (ix2 p d) = ((D.x p d : ℝ) : EReal))
    (hl : l = (((D.state n.val).loss : ℝ) : EReal)) :
    Is D n (addf q (pickedAll cb r)) (indexAll cb r) (fun _ => lossAll cb r x l) x (subf r (pickedAll cb r)) := by
  have hp := pickedAll_eq cb (D.cb n) hcb r _ hr
  refine ⟨fun p d => ?_, fun p => ?_, fun _ => ?_, hx, fun p d => ?_⟩
  · show q (ix2 p d) + pickedAll cb r (ix2 p d) = _
    rw [hq, hp, ← EReal.coe_add, D.state_succ n.val n.isLt]
    rfl
  · exact indexAll_eq cb (D.cb n) hcb r _ hr p
  · rw [hl, lossAll_eq cb (D.cb n) hcb r _ hr x D.x hx, D.state_succ n.val n.isLt]
    rfl
  · show r (ix2 p d) - pickedAll cb r (ix2 p d) = _
    rw [hr, hp, ← EReal.coe_sub, D.state_succ n.val n.isLt]
    rfl

section Run
variable (m : (ℓ : Loc nD τ sig) → Buf (Elt Ideal) ℓ) (c : Dev nD)

/-- The point's number. -/
def num (t : Fin cfg0.N) : Fin 32 := ⟨t.val, lt_of_lt_of_eq t.isLt (show cfg0.N = 32 from N_0)⟩

theorem coords_val (t : Fin cfg0.N) : (grid0.coords t 0).val = t.val := by
  have : ∀ t : Fin grid0.N, (grid0.coords t 0).val = t.val := by decide +kernel
  exact this t

/-- The arrays the region finds: the arguments, three of them reshaped. -/
theorem V_0 : (V m c main_call0_v0 : Vec Ideal S2048x512 .f32) = shapeCast S2048x512 (m (c.tc.loc main_arg0)) shapeCasts_S4x512x512_S2048x512 := by
  show StableHlo.after (List.flatten [hostOps0]) (fun b => m (c, b)) (Proc.devRef .tc _) = _
  simp only [List.flatten_cons, List.flatten_nil, List.append_nil]
  after_results
  rfl

theorem V_3 : (V m c main_call0_v1 : Vec Ideal S1x32 .f32) = shapeCast S1x32 (m (c.tc.loc main_arg3)) shapeCasts_S32_S1x32 := by
  show StableHlo.after (List.flatten [hostOps0]) (fun b => m (c, b)) (Proc.devRef .tc _) = _
  simp only [List.flatten_cons, List.flatten_nil, List.append_nil]
  after_results
  rfl

theorem V_6 : (V m c main_call0_v2 : Vec Ideal S10x1x32 .f32) = shapeCast S10x1x32 (m (c.tc.loc main_arg6)) shapeCasts_S10x32_S10x1x32 := by
  show StableHlo.after (List.flatten [hostOps0]) (fun b => m (c, b)) (Proc.devRef .tc _) = _
  simp only [List.flatten_cons, List.flatten_nil, List.append_nil]
  after_results
  rfl

theorem V_1 : V m c main_arg1 = m (c.tc.loc main_arg1) := V_main_arg1 m c

theorem V_2 : V m c main_arg2 = m (c.tc.loc main_arg2) := V_main_arg2 m c

theorem V_4 : V m c main_arg4 = m (c.tc.loc main_arg4) := V_main_arg4 m c

theorem V_5 : V m c main_arg5 = m (c.tc.loc main_arg5) := V_main_arg5 m c

/-- The arguments hold the inputs. -/
def InHolds : Prop := Holds D (m (c.tc.loc main_arg0)) (m (c.tc.loc main_arg1)) (m (c.tc.loc main_arg2)) (m (c.tc.loc main_arg3))
  (m (c.tc.loc main_arg4)) (m (c.tc.loc main_arg5)) (m (c.tc.loc main_arg6))

variable (h : InHolds D m c)
include h

theorem in0 (t : Fin cfg0.N) (p : Fin 2048) (k : Fin 512) :
    (iblk m c 0 t : Vec Ideal S2048x512 .f32) (ix2 p k) = ((D.audio p k : ℝ) : EReal) := by
  have e : ((cfg0.win 0).blk t).view.emb (ix2 p k) = (ix2 p k : S2048x512.Idx) := by
    funext a; apply Fin.ext
    refine (Pipeline.Window.rect_emb_val_of_index_zero win0_0 t a ?_ _).trans rfl
    fin_cases a <;> rfl
  show V m c main_call0_v0 _ = _
  rw [e, V_0]
  have hs := h.audio ⟨p.val / 512, by omega⟩ ⟨p.val % 512, Nat.mod_lt _ (by decide)⟩ k
  rw [show flat ⟨p.val / 512, by omega⟩ ⟨p.val % 512, Nat.mod_lt _ (by decide)⟩ = p from Fin.ext (by show 512 * (p.val / 512) + p.val % 512 = p.val; omega)] at hs
  refine (shapeCast_apply _ shapeCasts_S4x512x512_S2048x512 (ix2 p k) (ix3 ⟨p.val / 512, by omega⟩ ⟨p.val % 512, Nat.mod_lt _ (by decide)⟩ k) ?_).trans hs
  rw [Shape.rowMajor_val_three, Shape.rowMajor_val_two]
  show (p.val / 512 * 512 + p.val % 512) * 512 + k.val = p.val * 512 + k.val
  omega

theorem in3 (t : Fin cfg0.N) (d : Fin 32) : (iblk m c 3 t : Vec Ideal S1x32 .f32) (ix2 0 d) = ((D.bin d : ℝ) : EReal) := by
  have e : ((cfg0.win 3).blk t).view.emb (ix2 0 d) = (ix2 0 d : S1x32.Idx) := by
    funext a; apply Fin.ext
    refine (Pipeline.Window.rect_emb_val_of_index_zero win0_3 t a ?_ _).trans rfl
    fin_cases a <;> rfl
  show V m c main_call0_v1 _ = _
  rw [e, V_3]
  have hs := h.bin d
  pointwise
  exact hs

theorem in6 (t : Fin cfg0.N) (j : Fin 10) (d : Fin 32) :
    (iblk m c 6 t : Vec Ideal S10x1x32 .f32) (ix3 j 0 d) = ((D.bsem j d : ℝ) : EReal) := by
  have e : ((cfg0.win 6).blk t).view.emb (ix3 j 0 d) = (ix3 j 0 d : S10x1x32.Idx) := by
    funext a; apply Fin.ext
    refine (Pipeline.Window.rect_emb_val_of_index_zero win0_6 t a ?_ _).trans rfl
    fin_cases a <;> rfl
  show V m c main_call0_v2 _ = _
  rw [e, V_6]
  have hs := h.bsem j d
  pointwise
  exact hs

theorem in1 (t : Fin cfg0.N) (b : Fin 4) (k : Fin 4096) : (iblk m c 1 t : Vec Ideal S4x4096 .f32) (ix2 b k) = ((D.sem b k : ℝ) : EReal) := by
  have e : ((cfg0.win 1).blk t).view.emb (ix2 b k) = (ix2 b k : S4x4096.Idx) := by
    funext a; apply Fin.ext
    refine (Pipeline.Window.rect_emb_val_of_index_zero win0_1 t a ?_ _).trans rfl
    fin_cases a <;> rfl
  show V m c main_arg1 _ = _
  rw [e, V_1]
  exact h.sem b k

theorem in2 (t : Fin cfg0.N) (k : Fin 512) (d : Fin 32) : (iblk m c 2 t : Vec Ideal S512x32 .f32) (ix2 k d) = ((D.win k d : ℝ) : EReal) := by
  have e : ((cfg0.win 2).blk t).view.emb (ix2 k d) = (ix2 k d : S512x32.Idx) := by
    funext a; apply Fin.ext
    refine (Pipeline.Window.rect_emb_val_of_index_zero win0_2 t a ?_ _).trans rfl
    fin_cases a <;> rfl
  show V m c main_arg2 _ = _
  rw [e, V_2]
  exact h.win k d

theorem in5 (t : Fin cfg0.N) (j : Fin 10) (k : Fin 4096) (d : Fin 32) :
    (iblk m c 5 t : Vec Ideal S10x4096x32 .f32) (ix3 j k d) = ((D.wsem j k d : ℝ) : EReal) := by
  have e : ((cfg0.win 5).blk t).view.emb (ix3 j k d) = (ix3 j k d : S10x4096x32.Idx) := by
    funext a; apply Fin.ext
    refine (Pipeline.Window.rect_emb_val_of_index_zero win0_5 t a ?_ _).trans rfl
    fin_cases a <;> rfl
  show V m c main_arg5 _ = _
  rw [e, V_5]
  exact h.wsem j k d

omit h in
theorem index_4 : ∀ t : Fin grid0.N, win0_4.index t 0 = t.val ∧ win0_4.index t 1 = 0 ∧ win0_4.index t 2 = 0 := by decide +kernel

theorem in4 (t : Fin cfg0.N) (n : Fin 8192) (d : Fin 32) :
    (iblk m c 4 t : Vec Ideal S1x8192x32 .f32) (ix3 0 n d) = ((D.cb (num t) n d : ℝ) : EReal) := by
  have e : ((cfg0.win 4).blk t).view.emb (ix3 0 n d) = (ix3 (num t) n d : S32x8192x32.Idx) := by
    obtain ⟨e0, e1, e2⟩ := index_4 t
    funext a; apply Fin.ext
    refine (Pipeline.Window.rect_emb_val win0_4 t _ a).trans ?_
    fin_cases a
    · show win0_4.index t 0 * 1 + 0 = t.val; omega
    · show win0_4.index t 1 * 8192 + n.val = n.val; omega
    · show win0_4.index t 2 * 32 + d.val = d.val; omega
  show V m c main_arg4 _ = _
  rw [e, V_4]
  exact h.cb (num t) n d

/-- The residual with the bias, at a point that has one. -/
theorem biased_at (t : Fin cfg0.N) (ht : t.val < 10) (r : Vec Ideal S2048x32 .f32) (R : Fin 2048 → Fin 32 → ℝ)
    (hr : ∀ p d, r (ix2 p d) = ((R p d : ℝ) : EReal)) (p : Fin 2048) (d : Fin 32) :
    Step.biased (jOf (grid0.coords t)) (iblk m c 1 t) (iblk m c 5 t) (iblk m c 6 t) r (ix2 p d) = ((D.biased (num t) R p d : ℝ) : EReal) := by
  rw [biased_eq _ _ _ _ _ D.sem D.wsem D.bsem R (in1 D m c h t) (in5 D m c h t) (in6 D m c h t) hr]
  have ej : jOf (grid0.coords t) = ⟨t.val, ht⟩ := Fin.ext (by show min (grid0.coords t 0).val 9 = t.val; rw [coords_val]; omega)
  unfold Inputs.biased
  rw [dif_pos (show (num t).val < 10 from ht), ej]
  rfl

/-- After every point the blocks and the scratch hold the quantiser's state. -/
theorem is_at (n : ℕ) (hn : n < cfg0.N) : Is D (num ⟨n, hn⟩) (outsAt0 m c n hn).1 (outsAt0 m c n hn).2.1 (outsAt0 m c n hn).2.2.1
    (outsAt0 m c n hn).2.2.2.1 (outsAt0 m c n hn).2.2.2.2 := by
  have hN : cfg0.N = 32 := N_0
  induction n with
  | zero =>
    rw [outsAt0_A m c ⟨0, hn⟩ rfl (by show 0 < 10; omega)]
    dsimp only
    rw [out_A_7, out_A_8, out_A_9, sout_A_0, sout_A_1]
    have hx := target_eq _ _ _ D.audio D.win D.bin (in0 D m c h ⟨0, hn⟩) (in2 D m c h ⟨0, hn⟩) (in3 D m c h ⟨0, hn⟩)
    have hr := start_eq _ _ _ D.audio D.win D.bin (in0 D m c h ⟨0, hn⟩) (in2 D m c h ⟨0, hn⟩) (in3 D m c h ⟨0, hn⟩)
    refine is_step D (num ⟨0, hn⟩) _ (in4 D m c h _) _ _ _ _ ?_ ?_ hx ?_
    · intro p d; exact Ideal.ofBits_zero_f32
    · exact biased_at D m c h ⟨0, hn⟩ (by show 0 < 10; omega) _ _ hr
    · exact Ideal.ofBits_zero_f32
  | succ n ih =>
    have ihn := ih (Nat.lt_of_succ_lt hn)
    by_cases h1 : n + 1 < 10
    · rw [outsAt0_B m c ⟨n + 1, hn⟩ (by show ¬ (n + 1) % 32 = 0; omega) h1]
      dsimp only
      rw [out_B_7, out_B_8, out_B_9, sout_B_1]
      exact is_step D (num ⟨n + 1, hn⟩) _ (in4 D m c h _) _ _ _ _ ihn.quant (biased_at D m c h ⟨n + 1, hn⟩ h1 _ _ ihn.res) ihn.target (ihn.loss _)
    · rw [outsAt0_C m c ⟨n + 1, hn⟩ (by show ¬ (n + 1) % 32 = 0; omega) h1]
      dsimp only
      rw [out_C_7, out_C_8, out_C_9, sout_C_1]
      refine is_step D (num ⟨n + 1, hn⟩) _ (in4 D m c h _) _ _ _ _ ihn.quant (fun p d => ?_) ihn.target (ihn.loss _)
      unfold Inputs.biased
      rw [dif_neg (show ¬ (num ⟨n + 1, hn⟩).val < 10 from h1)]
      exact ihn.res p d

/-! ## The result arrays -/

omit h in
theorem index_8 : ∀ t : Fin grid0.N, win0_8.index t 0 = t.val ∧ win0_8.index t 1 = 0 ∧ win0_8.index t 2 = 0 := by decide +kernel

/-- The quantised sum's array after the last point. -/
theorem final_7 : (dats m 0 c).arrAt 7 cfg0.N = (fun z : S2048x32.Idx => (((D.state 32).quant (z 0) (z 1) : ℝ) : EReal)) := by
  have hN : cfg0.N = 32 := N_0
  have h31 : 31 < cfg0.N := by omega
  refine (dats m 0 c).arrAt_eq_of_cover 7 _ (fun t hf => ?_) fun i => ⟨⟨31, h31⟩, (flush0_7 _).mpr rfl, ?_⟩
  · have ht : t.val = 31 := by have := (flush0_7 t).mp hf; have := t.isLt; omega
    funext j
    have e : ((cfg0.win 7).blk t).view.emb j = (j : S2048x32.Idx) := by
      funext a; apply Fin.ext
      refine (Pipeline.Window.rect_emb_val_of_index_zero win0_7 t a ?_ _).trans rfl
      fin_cases a <;> rfl
    show (dats m 0 c).after 7 t j = (fun z : S2048x32.Idx => (((D.state 32).quant (z 0) (z 1) : ℝ) : EReal)) (((cfg0.win 7).blk t).view.emb j)
    rw [e, after0_7]
    have := (is_at D m c h t.val t.isLt).quant (j 0) (j 1)
    rw [show (num ⟨t.val, t.isLt⟩).val + 1 = 32 from by show t.val + 1 = 32; omega] at this
    refine Eq.trans (congrArg _ ?_) this
    funext a; fin_cases a <;> rfl
  · show i ∈ ((View.whole main_call0_v3_0).slice (win0_7.rect ⟨31, h31⟩)).set
    rw [View.set_slice_whole, Rect.mem_set_unit]
    intro a
    have h0 : (i 0 : Nat) < 2048 := (i 0).isLt
    have h1 : (i 1 : Nat) < 32 := (i 1).isLt
    fin_cases a
    · exact ⟨Nat.zero_le _, by show (i 0 : Nat) < 0 + 2048; omega⟩
    · exact ⟨Nat.zero_le _, by show (i 1 : Nat) < 0 + 32; omega⟩

/-- The loss's array after the last point. -/
theorem final_9 : (dats m 0 c).arrAt 9 cfg0.N = (fun _ : S1x1.Idx => (((D.state 32).loss : ℝ) : EReal)) := by
  have hN : cfg0.N = 32 := N_0
  have h31 : 31 < cfg0.N := by omega
  refine (dats m 0 c).arrAt_eq_of_cover 9 _ (fun t hf => ?_) fun i => ⟨⟨31, h31⟩, (flush0_9 _).mpr rfl, ?_⟩
  · have ht : t.val = 31 := by have := (flush0_9 t).mp hf; have := t.isLt; omega
    funext j
    show (dats m 0 c).after 9 t j = _
    rw [after0_9]
    have := (is_at D m c h t.val t.isLt).loss j
    rw [show (num ⟨t.val, t.isLt⟩).val + 1 = 32 from by show t.val + 1 = 32; omega] at this
    exact this
  · show i ∈ ((View.whole main_call0_v3_2).slice (win0_9.rect ⟨31, h31⟩)).set
    rw [View.set_slice_whole, Rect.mem_set_unit]
    intro a
    have h0 : (i 0 : Nat) < 1 := (i 0).isLt
    have h1 : (i 1 : Nat) < 1 := (i 1).isLt
    fin_cases a
    · exact ⟨Nat.zero_le _, by show (i 0 : Nat) < 0 + 1; omega⟩
    · exact ⟨Nat.zero_le _, by show (i 1 : Nat) < 0 + 1; omega⟩

/-- The indices' array after the last point. -/
theorem final_8 : (dats m 0 c).arrAt 8 cfg0.N = (fun z : S32x1x2048.Idx => BitVec.ofNat 32 (D.index (z 0) (z 2)).val) := by
  have hN : cfg0.N = 32 := N_0
  refine (dats m 0 c).arrAt_eq_of_cover 8 _ (fun t hf => ?_) fun i => ?_
  · funext j
    have e : ((cfg0.win 8).blk t).view.emb j = (ix3 (num t) 0 (j 2) : S32x1x2048.Idx) := by
      obtain ⟨e0, e1, e2⟩ := index_8 t
      have h0 : (j 0).val < 1 := (j 0).isLt
      have h1 : (j 1).val < 1 := (j 1).isLt
      funext a; apply Fin.ext
      refine (Pipeline.Window.rect_emb_val win0_8 t _ a).trans ?_
      fin_cases a
      · show win0_8.index t 0 * 1 + (j 0).val = t.val; omega
      · show win0_8.index t 1 * 1 + (j 1).val = 0; omega
      · show win0_8.index t 2 * 2048 + (j 2).val = (j 2).val; omega
    show (dats m 0 c).after 8 t j = (fun z : S32x1x2048.Idx => BitVec.ofNat 32 (D.index (z 0) (z 2)).val) (((cfg0.win 8).blk t).view.emb j)
    rw [e, after0_8]
    refine Eq.trans (congrArg _ ?_) ((is_at D m c h t.val t.isLt).index (j 2))
    funext a
    fin_cases a
    · exact Subsingleton.elim (α := Fin 1) _ _
    · exact Subsingleton.elim (α := Fin 1) _ _
    · rfl
  · have hi : (i 0).val < cfg0.N := by have : (i 0).val < 32 := (i 0).isLt; omega
    refine ⟨⟨(i 0).val, hi⟩, flush0_8 _, ?_⟩
    show i ∈ ((View.whole main_call0_v3_1).slice (win0_8.rect ⟨(i 0).val, hi⟩)).set
    rw [View.set_slice_whole, Rect.mem_set_unit]
    intro a
    have h1 : (i 1 : Nat) < 1 := (i 1).isLt
    have h2 : (i 2 : Nat) < 2048 := (i 2).isLt
    obtain ⟨e0, e1, e2⟩ := index_8 ⟨(i 0).val, hi⟩
    fin_cases a
    · show win0_8.index _ 0 * 1 ≤ (i 0 : Nat) ∧ (i 0 : Nat) < win0_8.index _ 0 * 1 + 1
      rw [e0]; dsimp only; omega
    · show win0_8.index _ 1 * 1 ≤ (i 1 : Nat) ∧ (i 1 : Nat) < win0_8.index _ 1 * 1 + 1
      rw [e1]; omega
    · show win0_8.index _ 2 * 2048 ≤ (i 2 : Nat) ∧ (i 2 : Nat) < win0_8.index _ 2 * 2048 + 2048
      rw [e2]; omega

/-! ## The results after the host's last lines -/

omit h in
theorem arr_at (w : Fin cfg0.W) : Pipeline.withArrays spec0 c (V0 m c) (fun w => (dats m 0 c).arrAt w cfg0.N) (Proc.devRef .tc (Pipeline.arrRef spec0 w))
    = (dats m 0 c).arrAt w cfg0.N :=
  Pipeline.withArrays_arr spec0 (by decide) c _ _ w

/-- The first result is the quantised rows. -/
theorem res_0 : (Pipeline.afterTail₀ cfgs (dats m) 0 (V0 m) [hostOps1] c main_v0_0 : Vec Ideal S4x512x32 .f32) = D.result0 := by
  show StableHlo.after (List.flatten [hostOps1]) _ (Proc.devRef .tc _) = _
  simp only [List.flatten_cons, List.flatten_nil, List.append_nil]
  after_results
  refine Eq.trans (congrArg (fun v => shapeCast S4x512x32 v shapeCasts_S2048x32_S4x512x32) ((arr_at m c 7).trans (final_7 D m c h))) ?_
  funext z
  have h0 : (z 0).val < 4 := (z 0).isLt
  have h1 : (z 1).val < 512 := (z 1).isLt
  refine shapeCast_apply _ shapeCasts_S2048x32_S4x512x32 z (ix2 (flat (z 0) (z 1)) (z 2)) ?_
  rw [Shape.rowMajor_val_three, Shape.rowMajor_val_two]
  show (512 * (z 0).val + (z 1).val) * 32 + (z 2).val = ((z 0).val * 512 + (z 1).val) * 32 + (z 2).val
  omega

/-- The second result is the indices. -/
theorem res_1 : (Pipeline.afterTail₀ cfgs (dats m) 0 (V0 m) [hostOps1] c main_v0_1 : Vec Ideal S32x4x512 .i32) = D.result1 := by
  show StableHlo.after (List.flatten [hostOps1]) _ (Proc.devRef .tc _) = _
  simp only [List.flatten_cons, List.flatten_nil, List.append_nil]
  after_results
  refine Eq.trans (congrArg (fun v => shapeCast S32x4x512 v shapeCasts_S32x1x2048_S32x4x512) ((arr_at m c 8).trans (final_8 D m c h))) ?_
  funext z
  have h0 : (z 1).val < 4 := (z 1).isLt
  have h1 : (z 2).val < 512 := (z 2).isLt
  refine shapeCast_apply _ shapeCasts_S32x1x2048_S32x4x512 z (ix3 (z 0) 0 (flat (z 1) (z 2))) ?_
  rw [Shape.rowMajor_val_three, Shape.rowMajor_val_three]
  show ((z 0).val * 1 + 0) * 2048 + (512 * (z 1).val + (z 2).val) = ((z 0).val * 4 + (z 1).val) * 512 + (z 2).val
  omega

/-- The third result is the scaled loss. -/
theorem res_2 : (Pipeline.afterTail₀ cfgs (dats m) 0 (V0 m) [hostOps1] c main_v0_2 : Vec Ideal S_ .f32) = D.result2 := by
  show StableHlo.after (List.flatten [hostOps1]) _ (Proc.devRef .tc _) = _
  simp only [List.flatten_cons, List.flatten_nil, List.append_nil]
  after_results
  refine Eq.trans (congrArg (fun v => mulf (shapeCast S_ v shapeCasts_S1x1_S_) (constant S_ .f32 0x3E800000#32)) ((arr_at m c 9).trans (final_9 D m c h))) ?_
  rfl

end Run

/-- The kernel's run ends with the quantiser's three results and the arguments unchanged. -/
theorem run (m : (ℓ : Loc nD τ sig) → Buf (Elt Ideal) ℓ) (ρ : Dev nD → PrngReg) (h : ∀ c, InHolds D m c) :
    θ_run defs (onTc (τ := τ) (main (F := Ideal))) ⟨m, fun _ => 0, ρ⟩ (fun r => ∀ c : Dev nD,
      r.2.mem ((c.tc : Thread nD τ).loc main_v0_0) = D.result0
      ∧ r.2.mem ((c.tc : Thread nD τ).loc main_v0_1) = D.result1
      ∧ r.2.mem ((c.tc : Thread nD τ).loc main_v0_2) = D.result2) :=
  (θ_run defs _ _).mono (fun r hr c =>
    ⟨((hr c).2 main_v0_0 (Pipeline.mem_restRefs_of main_v0_0 (by decide) (by decide))).trans (res_0 D m c (h c)),
      ((hr c).2 main_v0_1 (Pipeline.mem_restRefs_of main_v0_1 (by decide) (by decide))).trans (res_1 D m c (h c)),
      ((hr c).2 main_v0_2 (Pipeline.mem_restRefs_of main_v0_2 (by decide) (by decide))).trans (res_2 D m c (h c))⟩)
    (run_main m ρ)

end Cert.KernelIdeal.Fold
-- ==== Proof.RefFacts.lean ====
/- The side conditions that `ReferenceIdeal` states: shape relations of its operations, each decided. -/
module

public import proofs.«01_k».proof.ReferenceIdeal
public import Idealize.ShloMosaic.Lib.Decide

@[expose] public section

namespace Cert.ReferenceIdeal.Gen

open Idealize.ShloMosaic Idealize.SL.Sem

/-- `bcast_S32_S1x1x32_2`, decided. -/
theorem bcast_S32_S1x1x32_2 : S32.BroadcastsInDim S1x1x32 (![2] : Fin 1 → Fin S1x1x32.rank) := by decide +kernel
/-- `bcast_S1x1x32_S4x512x32_0_1_2`, decided. -/
theorem bcast_S1x1x32_S4x512x32_0_1_2 : S1x1x32.BroadcastsInDim S4x512x32 (![0, 1, 2] : Fin 3 → Fin S4x512x32.rank) := by decide +kernel
/-- `bcast_S_S4x512x32`, decided. -/
theorem bcast_S_S4x512x32 : S_.BroadcastsInDim S4x512x32 (![] : Fin 0 → Fin S4x512x32.rank) := by decide +kernel
/-- `bcast_S_S32x4x512`, decided. -/
theorem bcast_S_S32x4x512 : S_.BroadcastsInDim S32x4x512 (![] : Fin 0 → Fin S32x4x512.rank) := by decide +kernel
/-- `sliceFits_S10x4096x32_S1x4096x32`, decided. -/
theorem sliceFits_S10x4096x32_S1x4096x32 : S10x4096x32.Slices (fun _ => 0) S1x4096x32 := by decide +kernel
/-- `h_S_`, decided. -/
theorem h_S_ : 0 < S_.numel := by decide +kernel
/-- `shapeCasts_S1x4096x32_S4096x32`, decided. -/
theorem shapeCasts_S1x4096x32_S4096x32 : S1x4096x32.ShapeCasts S4096x32 := by decide +kernel
/-- `sliceFits_S10x32_S1x32`, decided. -/
theorem sliceFits_S10x32_S1x32 : S10x32.Slices (fun _ => 0) S1x32 := by decide +kernel
/-- `shapeCasts_S1x32_S32`, decided. -/
theorem shapeCasts_S1x32_S32 : S1x32.ShapeCasts S32 := by decide +kernel
/-- `bcast_S32_S1x32_1`, decided. -/
theorem bcast_S32_S1x32_1 : S32.BroadcastsInDim S1x32 (![1] : Fin 1 → Fin S1x32.rank) := by decide +kernel
/-- `bcast_S1x32_S4x32_0_1`, decided. -/
theorem bcast_S1x32_S4x32_0_1 : S1x32.BroadcastsInDim S4x32 (![0, 1] : Fin 2 → Fin S4x32.rank) := by decide +kernel
/-- `bcast_S4x32_S4x1x32_0_2`, decided. -/
theorem bcast_S4x32_S4x1x32_0_2 : S4x32.BroadcastsInDim S4x1x32 (![0, 2] : Fin 2 → Fin S4x1x32.rank) := by decide +kernel
/-- `bcast_S_S4x1x32`, decided. -/
theorem bcast_S_S4x1x32 : S_.BroadcastsInDim S4x1x32 (![] : Fin 0 → Fin S4x1x32.rank) := by decide +kernel
/-- `bcast_S4x1x32_S4x512x32_0_1_2`, decided. -/
theorem bcast_S4x1x32_S4x512x32_0_1_2 : S4x1x32.BroadcastsInDim S4x512x32 (![0, 1, 2] : Fin 3 → Fin S4x512x32.rank) := by decide +kernel
/-- `sliceFits_S32x8192x32_S1x8192x32`, decided. -/
theorem sliceFits_S32x8192x32_S1x8192x32 : S32x8192x32.Slices (fun _ => 0) S1x8192x32 := by decide +kernel
/-- `shapeCasts_S1x8192x32_S8192x32`, decided. -/
theorem shapeCasts_S1x8192x32_S8192x32 : S1x8192x32.ShapeCasts S8192x32 := by decide +kernel
/-- `reducesTo_S4x512x32_S4x512_d2`, decided. -/
theorem reducesTo_S4x512x32_S4x512_d2 : S4x512x32.ReducesTo [2] S4x512 := by decide +kernel
/-- `bcast_S4x512_S4x512x1_0_1`, decided. -/
theorem bcast_S4x512_S4x512x1_0_1 : S4x512.BroadcastsInDim S4x512x1 (![0, 1] : Fin 2 → Fin S4x512x1.rank) := by decide +kernel
/-- `reducesTo_S8192x32_S8192_d1`, decided. -/
theorem reducesTo_S8192x32_S8192_d1 : S8192x32.ReducesTo [1] S8192 := by decide +kernel
/-- `bcast_S_S4x512x8192`, decided. -/
theorem bcast_S_S4x512x8192 : S_.BroadcastsInDim S4x512x8192 (![] : Fin 0 → Fin S4x512x8192.rank) := by decide +kernel
/-- `bcast_S4x512x1_S4x512x8192_0_1_2`, decided. -/
theorem bcast_S4x512x1_S4x512x8192_0_1_2 : S4x512x1.BroadcastsInDim S4x512x8192 (![0, 1, 2] : Fin 3 → Fin S4x512x8192.rank) := by decide +kernel
/-- `bcast_S8192_S1x1x8192_2`, decided. -/
theorem bcast_S8192_S1x1x8192_2 : S8192.BroadcastsInDim S1x1x8192 (![2] : Fin 1 → Fin S1x1x8192.rank) := by decide +kernel
/-- `bcast_S1x1x8192_S4x512x8192_0_1_2`, decided. -/
theorem bcast_S1x1x8192_S4x512x8192_0_1_2 : S1x1x8192.BroadcastsInDim S4x512x8192 (![0, 1, 2] : Fin 3 → Fin S4x512x8192.rank) := by decide +kernel
/-- `reducesTo_S4x512x8192_S4x512_d2`, decided. -/
theorem reducesTo_S4x512x8192_S4x512_d2 : S4x512x8192.ReducesTo [2] S4x512 := by decide +kernel
/-- `bcast_S_S1`, decided. -/
theorem bcast_S_S1 : S_.BroadcastsInDim S1 (![] : Fin 0 → Fin S1.rank) := by decide +kernel
/-- `bcast_S_S4x512`, decided. -/
theorem bcast_S_S4x512 : S_.BroadcastsInDim S4x512 (![] : Fin 0 → Fin S4x512.rank) := by decide +kernel
/-- `reducesTo_S4x512x32_S_d0_1_2`, decided. -/
theorem reducesTo_S4x512x32_S_d0_1_2 : S4x512x32.ReducesTo [0, 1, 2] S_ := by decide +kernel
/-- `dot_S4x512x512_S512x32_S4x512x32_2_0_01_1_n_n_wf`, decided. -/
theorem dot_S4x512x512_S512x32_S4x512x32_2_0_01_1_n_n_wf : DotDims.WF S4x512x512 S512x32 S4x512x32 [2] [0] [0, 1] [1] [] [] := by decide +kernel
/-- `dot_S4x4096_S4096x32_S4x32_1_0_0_1_n_n_wf`, decided. -/
theorem dot_S4x4096_S4096x32_S4x32_1_0_0_1_n_n_wf : DotDims.WF S4x4096 S4096x32 S4x32 [1] [0] [0] [1] [] [] := by decide +kernel
/-- `dot_S4x512x32_S8192x32_S4x512x8192_2_1_01_0_n_n_wf`, decided. -/
theorem dot_S4x512x32_S8192x32_S4x512x8192_2_1_01_0_n_n_wf : DotDims.WF S4x512x32 S8192x32 S4x512x8192 [2] [1] [0, 1] [0] [] [] := by decide +kernel
/-- `scatter_S32x4x512_S1_S4x512_01_0_0_0_wf`, decided. -/
theorem scatter_S32x4x512_S1_S4x512_01_0_0_0_wf : ScatterDims.WF S32x4x512 S1 S4x512 [0, 1] [0] [0] 0 := by decide +kernel
/-- `gather_S8192x32_S4x512x1_S4x512x32_2_0_n_n_0_2_132_wf`, decided. -/
theorem gather_S8192x32_S4x512x1_S4x512x32_2_0_n_n_0_2_132_wf : GatherDims.WF S8192x32 S4x512x1 S4x512x32 [2] [0] [] [0] [] 2 ![1, 32] := by decide +kernel
/-- `main_while0_ok`, decided. -/
theorem main_while0_ok : main_while0_count.OK := by decide +kernel

/-- The stated side conditions, together. -/
instance facts₀ : Facts₀ :=
  ⟨bcast_S32_S1x1x32_2, bcast_S1x1x32_S4x512x32_0_1_2, bcast_S_S4x512x32, bcast_S_S32x4x512, sliceFits_S10x4096x32_S1x4096x32, h_S_, shapeCasts_S1x4096x32_S4096x32, sliceFits_S10x32_S1x32, shapeCasts_S1x32_S32, bcast_S32_S1x32_1, bcast_S1x32_S4x32_0_1, bcast_S4x32_S4x1x32_0_2, bcast_S_S4x1x32, bcast_S4x1x32_S4x512x32_0_1_2, sliceFits_S32x8192x32_S1x8192x32, shapeCasts_S1x8192x32_S8192x32, reducesTo_S4x512x32_S4x512_d2, bcast_S4x512_S4x512x1_0_1, reducesTo_S8192x32_S8192_d1, bcast_S_S4x512x8192, bcast_S4x512x1_S4x512x8192_0_1_2, bcast_S8192_S1x1x8192_2, bcast_S1x1x8192_S4x512x8192_0_1_2, reducesTo_S4x512x8192_S4x512_d2, bcast_S_S1, bcast_S_S4x512, reducesTo_S4x512x32_S_d0_1_2, dot_S4x512x512_S512x32_S4x512x32_2_0_01_1_n_n_wf, dot_S4x4096_S4096x32_S4x32_1_0_0_1_n_n_wf, dot_S4x512x32_S8192x32_S4x512x8192_2_1_01_0_n_n_wf, scatter_S32x4x512_S1_S4x512_01_0_0_0_wf, gather_S8192x32_S4x512x1_S4x512x32_2_0_n_n_0_2_132_wf, main_while0_ok⟩

/-- Everything the program states. -/
instance facts : Facts := {}

end Cert.ReferenceIdeal.Gen

end
-- ==== Proof.RefRun.lean ====
/- The reference program's run: @main is a stretch of host operations, one counted loop of 32 trips and a stretch after
    it; every fair execution ends with each buffer at what the operations, folded in order, leave in it. -/
module

public import proofs.«01_k».proof.Proof.RefFacts
public import Idealize.ShloMosaic.Lib.Pipeline.Regions
public import Idealize.ShloMosaic.Lib.StableHlo.RunLoop
public import Idealize.ShloMosaic.Lib.StableHlo.RunRead
public import Idealize.ShloMosaic.Lib.Scf.ExitTest
public import Idealize.ShloMosaic.Lib.Scf.Counter
public import Idealize.ShloMosaic.Lib.Exec

@[expose] public section

set_option maxRecDepth 8192

noncomputable section

namespace Cert.ReferenceIdeal.Value

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.StableHlo
open Idealize.ShloMosaic.Pipeline (ucRefs sub_ucRefs)

variable {F : FTy → Type} [FloatOps F]

/-! ## The stretches -/

/-- @main before the loop: the projected features, the zeros, the copies into the carried buffers. -/
abbrev entryOps : List (HloOp τ sig (Elt F)) :=
  [ StableHlo.binary main_arg0 main_arg2 main_v0 ((fun l r => Host.dotGeneral dot_S4x512x512_S512x32_S4x512x32_2_0_01_1_n_n none l r) : (⟨S4x512x512, .f32⟩ : BufTy).Contents (Elt F) → (⟨S512x32, .f32⟩ : BufTy).Contents (Elt F) → (⟨S4x512x32, .f32⟩ : BufTy).Contents (Elt F)),
    StableHlo.unary main_arg3 main_v1 (broadcastInDim S1x1x32 ![2] bcast_S32_S1x1x32_2 : (⟨S32, .f32⟩ : BufTy).Contents (Elt F) → (⟨S1x1x32, .f32⟩ : BufTy).Contents (Elt F)),
    StableHlo.unary main_v1 main_v2 (broadcastInDim S4x512x32 ![0, 1, 2] bcast_S1x1x32_S4x512x32_0_1_2 : (⟨S1x1x32, .f32⟩ : BufTy).Contents (Elt F) → (⟨S4x512x32, .f32⟩ : BufTy).Contents (Elt F)),
    StableHlo.binary main_v0 main_v2 main_v3 (addf : (⟨S4x512x32, .f32⟩ : BufTy).Contents (Elt F) → (⟨S4x512x32, .f32⟩ : BufTy).Contents (Elt F) → (⟨S4x512x32, .f32⟩ : BufTy).Contents (Elt F)),
    StableHlo.nullary main_cst (constant S_ .f32 0x00000000#32),
    StableHlo.unary main_cst main_v4 (broadcastInDim S4x512x32 ![] bcast_S_S4x512x32 : (⟨S_, .f32⟩ : BufTy).Contents (Elt F) → (⟨S4x512x32, .f32⟩ : BufTy).Contents (Elt F)),
    StableHlo.nullary main_c (constantI S_ 32 0#32),
    StableHlo.unary main_c main_v5 (broadcastInDim S32x4x512 ![] bcast_S_S32x4x512 : (⟨S_, .i32⟩ : BufTy).Contents (Elt F) → (⟨S32x4x512, .i32⟩ : BufTy).Contents (Elt F)),
    StableHlo.nullary main_c_0 (constantI S_ 32 0#32),
    StableHlo.nullary main_cst_1 (constant S_ .f32 0x00000000#32),
    StableHlo.nullary main_c_2 (constantI S_ 32 0#32),
    StableHlo.unary main_arg5 main_v6_0 id,
    StableHlo.unary main_arg1 main_v6_1 id,
    StableHlo.unary main_arg6 main_v6_2 id,
    StableHlo.unary main_arg4 main_v6_3 id,
    StableHlo.unary main_v3 main_v6_4 id,
    StableHlo.unary main_c_2 main_v6_5 id,
    StableHlo.unary main_c_0 main_v6_6 id,
    StableHlo.unary main_v3 main_v6_7 id,
    StableHlo.unary main_v4 main_v6_8 id,
    StableHlo.unary main_v5 main_v6_9 id,
    StableHlo.unary main_cst_1 main_v6_10 id ]
/-- The buffers `entryOps` writes, in order. -/
abbrev entryOps_W : List (Ref sig .tc) := [main_v0, main_v1, main_v2, main_v3, main_cst, main_v4, main_c, main_v5, main_c_0, main_cst_1, main_c_2, main_v6_0, main_v6_1, main_v6_2, main_v6_3, main_v6_4, main_v6_5, main_v6_6, main_v6_7, main_v6_8, main_v6_9, main_v6_10]
/-- `entryOps` touches TensorCore references only. -/
theorem entryOps_sub : (entryOps : List (HloOp τ sig (Elt F))).Forall fun op => op.bufs ⊆ tcRefs τ sig :=
  ⟨binary_bufs_sub .., unary_bufs_sub .., unary_bufs_sub .., binary_bufs_sub .., nullary_bufs_sub .., unary_bufs_sub .., nullary_bufs_sub .., unary_bufs_sub .., nullary_bufs_sub .., nullary_bufs_sub .., nullary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub ..⟩
/-- `entryOps` allocates no buffer. -/
theorem entryOps_fresh : (entryOps : List (HloOp τ sig (Elt F))).Forall fun op => op.fresh = ∅ :=
  forall_fresh_of_map rfl
/-- `entryOps` writes the buffers of `entryOps_W` only. -/
theorem entryOps_writes : (entryOps : List (HloOp τ sig (Elt F))).Forall fun op => op.writes ⊆ (entryOps_W.map (Proc.devRef (τ := τ) .tc)).toFinset :=
  forall_writes_sub_of_map rfl

/-- The projection index clamped and the slice positions in the projections. -/
abbrev slotOps : List (HloOp τ sig (Elt F)) :=
  [ StableHlo.nullary main_while0b_c_14 (constantI S_ 32 1#32),
    StableHlo.binary main_v6_6 main_while0b_c_14 main_while0b_v10 (addi : (⟨S_, .i32⟩ : BufTy).Contents (Elt F) → (⟨S_, .i32⟩ : BufTy).Contents (Elt F) → (⟨S_, .i32⟩ : BufTy).Contents (Elt F)),
    StableHlo.nullary main_while0b_c_15 (constantI S_ 32 9#32),
    StableHlo.binary main_v6_6 main_while0b_c_15 main_while0b_v11 (minsi : (⟨S_, .i32⟩ : BufTy).Contents (Elt F) → (⟨S_, .i32⟩ : BufTy).Contents (Elt F) → (⟨S_, .i32⟩ : BufTy).Contents (Elt F)),
    StableHlo.unary main_while0b_v11 main_while0b_v12 (id : (⟨S_, .i32⟩ : BufTy).Contents (Elt F) → (⟨S_, .i32⟩ : BufTy).Contents (Elt F)),
    StableHlo.nullary main_while0b_c_16 (constantI S_ 32 0#32),
    StableHlo.binary main_while0b_v12 main_while0b_c_16 main_while0b_v13 (cmpi .slt : (⟨S_, .i32⟩ : BufTy).Contents (Elt F) → (⟨S_, .i32⟩ : BufTy).Contents (Elt F) → (⟨S_, .i1⟩ : BufTy).Contents (Elt F)),
    StableHlo.nullary main_while0b_c_17 (constantI S_ 32 10#32),
    StableHlo.binary main_while0b_v12 main_while0b_c_17 main_while0b_v14 (addi : (⟨S_, .i32⟩ : BufTy).Contents (Elt F) → (⟨S_, .i32⟩ : BufTy).Contents (Elt F) → (⟨S_, .i32⟩ : BufTy).Contents (Elt F)),
    StableHlo.ternary main_while0b_v13 main_while0b_v14 main_while0b_v12 main_while0b_v15 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    StableHlo.nullary main_while0b_c_18 (constantI S_ 32 0#32),
    StableHlo.nullary main_while0b_c_19 (constantI S_ 32 0#32),
    StableHlo.binary main_while0b_c_18 main_while0b_c_19 main_while0b_v16 (cmpi .slt : (⟨S_, .i32⟩ : BufTy).Contents (Elt F) → (⟨S_, .i32⟩ : BufTy).Contents (Elt F) → (⟨S_, .i1⟩ : BufTy).Contents (Elt F)),
    StableHlo.nullary main_while0b_c_20 (constantI S_ 32 0#32),
    StableHlo.nullary main_while0b_c_21 (constantI S_ 32 4096#32),
    StableHlo.binary main_while0b_c_20 main_while0b_c_21 main_while0b_v17 (addi : (⟨S_, .i32⟩ : BufTy).Contents (Elt F) → (⟨S_, .i32⟩ : BufTy).Contents (Elt F) → (⟨S_, .i32⟩ : BufTy).Contents (Elt F)),
    StableHlo.nullary main_while0b_c_22 (constantI S_ 32 0#32),
    StableHlo.ternary main_while0b_v16 main_while0b_v17 main_while0b_c_22 main_while0b_v18 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    StableHlo.nullary main_while0b_c_23 (constantI S_ 32 0#32),
    StableHlo.nullary main_while0b_c_24 (constantI S_ 32 0#32),
    StableHlo.binary main_while0b_c_23 main_while0b_c_24 main_while0b_v19 (cmpi .slt : (⟨S_, .i32⟩ : BufTy).Contents (Elt F) → (⟨S_, .i32⟩ : BufTy).Contents (Elt F) → (⟨S_, .i1⟩ : BufTy).Contents (Elt F)),
    StableHlo.nullary main_while0b_c_25 (constantI S_ 32 0#32),
    StableHlo.nullary main_while0b_c_26 (constantI S_ 32 32#32),
    StableHlo.binary main_while0b_c_25 main_while0b_c_26 main_while0b_v20 (addi : (⟨S_, .i32⟩ : BufTy).Contents (Elt F) → (⟨S_, .i32⟩ : BufTy).Contents (Elt F) → (⟨S_, .i32⟩ : BufTy).Contents (Elt F)),
    StableHlo.nullary main_while0b_c_27 (constantI S_ 32 0#32),
    StableHlo.ternary main_while0b_v19 main_while0b_v20 main_while0b_c_27 main_while0b_v21 (select : (⟨S_, .i1⟩ : BufTy).Contents (Elt F) → (⟨S_, .i32⟩ : BufTy).Contents (Elt F) → (⟨S_, .i32⟩ : BufTy).Contents (Elt F) → (⟨S_, .i32⟩ : BufTy).Contents (Elt F)) ]
/-- The buffers `slotOps` writes, in order. -/
abbrev slotOps_W : List (Ref sig .tc) := [main_while0b_c_14, main_while0b_v10, main_while0b_c_15, main_while0b_v11, main_while0b_v12, main_while0b_c_16, main_while0b_v13, main_while0b_c_17, main_while0b_v14, main_while0b_v15, main_while0b_c_18, main_while0b_c_19, main_while0b_v16, main_while0b_c_20, main_while0b_c_21, main_while0b_v17, main_while0b_c_22, main_while0b_v18, main_while0b_c_23, main_while0b_c_24, main_while0b_v19, main_while0b_c_25, main_while0b_c_26, main_while0b_v20, main_while0b_c_27, main_while0b_v21]
/-- `slotOps` touches TensorCore references only. -/
theorem slotOps_sub : (slotOps : List (HloOp τ sig (Elt F))).Forall fun op => op.bufs ⊆ tcRefs τ sig :=
  ⟨nullary_bufs_sub .., binary_bufs_sub .., nullary_bufs_sub .., binary_bufs_sub .., unary_bufs_sub .., nullary_bufs_sub .., binary_bufs_sub .., nullary_bufs_sub .., binary_bufs_sub .., ternary_bufs_sub .., nullary_bufs_sub .., nullary_bufs_sub .., binary_bufs_sub .., nullary_bufs_sub .., nullary_bufs_sub .., binary_bufs_sub .., nullary_bufs_sub .., ternary_bufs_sub .., nullary_bufs_sub .., nullary_bufs_sub .., binary_bufs_sub .., nullary_bufs_sub .., nullary_bufs_sub .., binary_bufs_sub .., nullary_bufs_sub .., ternary_bufs_sub ..⟩
/-- `slotOps` allocates no buffer. -/
theorem slotOps_fresh : (slotOps : List (HloOp τ sig (Elt F))).Forall fun op => op.fresh = ∅ :=
  forall_fresh_of_map rfl
/-- `slotOps` writes the buffers of `slotOps_W` only. -/
theorem slotOps_writes : (slotOps : List (HloOp τ sig (Elt F))).Forall fun op => op.writes ⊆ (slotOps_W.map (Proc.devRef (τ := τ) .tc)).toFinset :=
  forall_writes_sub_of_map rfl

/-- The slice of the projections. -/
abbrev slabOps : List (HloOp τ sig (Elt F)) :=
  [ StableHlo.unaryIndexed main_v6_0 ![main_while0b_v15, main_while0b_v18, main_while0b_v21] ⟨S_, .i32⟩ main_while0b_v22 ((fun x i => Host.dynamicSlice S1x4096x32 x (fun k => (i k (Shape.Idx.first h_S_)).toInt) sliceFits_S10x4096x32_S1x4096x32) : (⟨S10x4096x32, .f32⟩ : BufTy).Contents (Elt F) → (Fin 3 → (⟨S_, .i32⟩ : BufTy).Contents (Elt F)) → (⟨S1x4096x32, .f32⟩ : BufTy).Contents (Elt F)) ]
/-- The buffers `slabOps` writes, in order. -/
abbrev slabOps_W : List (Ref sig .tc) := [main_while0b_v22]
/-- `slabOps` touches TensorCore references only. -/
theorem slabOps_sub : (slabOps : List (HloOp τ sig (Elt F))).Forall fun op => op.bufs ⊆ tcRefs τ sig :=
  unaryIndexed_bufs_sub ..
/-- `slabOps` allocates no buffer. -/
theorem slabOps_fresh : (slabOps : List (HloOp τ sig (Elt F))).Forall fun op => op.fresh = ∅ :=
  forall_fresh_of_map rfl
/-- `slabOps` writes the buffers of `slabOps_W` only. -/
theorem slabOps_writes : (slabOps : List (HloOp τ sig (Elt F))).Forall fun op => op.writes ⊆ (slabOps_W.map (Proc.devRef (τ := τ) .tc)).toFinset :=
  forall_writes_sub_of_map rfl

/-- The projection of the context and the slice positions in the biases. -/
abbrev projOps : List (HloOp τ sig (Elt F)) :=
  [ StableHlo.reshape main_while0b_v22 main_while0b_v23 (rfl : (.f32 : EltTy) = .f32) shapeCasts_S1x4096x32_S4096x32,
    StableHlo.binary main_v6_1 main_while0b_v23 main_while0b_v24 ((fun l r => Host.dotGeneral dot_S4x4096_S4096x32_S4x32_1_0_0_1_n_n none l r) : (⟨S4x4096, .f32⟩ : BufTy).Contents (Elt F) → (⟨S4096x32, .f32⟩ : BufTy).Contents (Elt F) → (⟨S4x32, .f32⟩ : BufTy).Contents (Elt F)),
    StableHlo.unary main_while0b_v11 main_while0b_v25 (id : (⟨S_, .i32⟩ : BufTy).Contents (Elt F) → (⟨S_, .i32⟩ : BufTy).Contents (Elt F)),
    StableHlo.nullary main_while0b_c_28 (constantI S_ 32 0#32),
    StableHlo.binary main_while0b_v25 main_while0b_c_28 main_while0b_v26 (cmpi .slt : (⟨S_, .i32⟩ : BufTy).Contents (Elt F) → (⟨S_, .i32⟩ : BufTy).Contents (Elt F) → (⟨S_, .i1⟩ : BufTy).Contents (Elt F)),
    StableHlo.nullary main_while0b_c_29 (constantI S_ 32 10#32),
    StableHlo.binary main_while0b_v25 main_while0b_c_29 main_while0b_v27 (addi : (⟨S_, .i32⟩ : BufTy).Contents (Elt F) → (⟨S_, .i32⟩ : BufTy).Contents (Elt F) → (⟨S_, .i32⟩ : BufTy).Contents (Elt F)),
    StableHlo.ternary main_while0b_v26 main_while0b_v27 main_while0b_v25 main_while0b_v28 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    StableHlo.nullary main_while0b_c_30 (constantI S_ 32 0#32),
    StableHlo.nullary main_while0b_c_31 (constantI S_ 32 0#32),
    StableHlo.binary main_while0b_c_30 main_while0b_c_31 main_while0b_v29 (cmpi .slt : (⟨S_, .i32⟩ : BufTy).Contents (Elt F) → (⟨S_, .i32⟩ : BufTy).Contents (Elt F) → (⟨S_, .i1⟩ : BufTy).Contents (Elt F)),
    StableHlo.nullary main_while0b_c_32 (constantI S_ 32 0#32),
    StableHlo.nullary main_while0b_c_33 (constantI S_ 32 32#32),
    StableHlo.binary main_while0b_c_32 main_while0b_c_33 main_while0b_v30 (addi : (⟨S_, .i32⟩ : BufTy).Contents (Elt F) → (⟨S_, .i32⟩ : BufTy).Contents (Elt F) → (⟨S_, .i32⟩ : BufTy).Contents (Elt F)),
    StableHlo.nullary main_while0b_c_34 (constantI S_ 32 0#32),
    StableHlo.ternary main_while0b_v29 main_while0b_v30 main_while0b_c_34 main_while0b_v31 (select : (⟨S_, .i1⟩ : BufTy).Contents (Elt F) → (⟨S_, .i32⟩ : BufTy).Contents (Elt F) → (⟨S_, .i32⟩ : BufTy).Contents (Elt F) → (⟨S_, .i32⟩ : BufTy).Contents (Elt F)) ]
/-- The buffers `projOps` writes, in order. -/
abbrev projOps_W : List (Ref sig .tc) := [main_while0b_v23, main_while0b_v24, main_while0b_v25, main_while0b_c_28, main_while0b_v26, main_while0b_c_29, main_while0b_v27, main_while0b_v28, main_while0b_c_30, main_while0b_c_31, main_while0b_v29, main_while0b_c_32, main_while0b_c_33, main_while0b_v30, main_while0b_c_34, main_while0b_v31]
/-- `projOps` touches TensorCore references only. -/
theorem projOps_sub : (projOps : List (HloOp τ sig (Elt F))).Forall fun op => op.bufs ⊆ tcRefs τ sig :=
  ⟨reshape_bufs_sub .., binary_bufs_sub .., unary_bufs_sub .., nullary_bufs_sub .., binary_bufs_sub .., nullary_bufs_sub .., binary_bufs_sub .., ternary_bufs_sub .., nullary_bufs_sub .., nullary_bufs_sub .., binary_bufs_sub .., nullary_bufs_sub .., nullary_bufs_sub .., binary_bufs_sub .., nullary_bufs_sub .., ternary_bufs_sub ..⟩
/-- `projOps` allocates no buffer. -/
theorem projOps_fresh : (projOps : List (HloOp τ sig (Elt F))).Forall fun op => op.fresh = ∅ :=
  forall_fresh_of_map rfl
/-- `projOps` writes the buffers of `projOps_W` only. -/
theorem projOps_writes : (projOps : List (HloOp τ sig (Elt F))).Forall fun op => op.writes ⊆ (projOps_W.map (Proc.devRef (τ := τ) .tc)).toFinset :=
  forall_writes_sub_of_map rfl

/-- The slice of the biases. -/
abbrev vecOps : List (HloOp τ sig (Elt F)) :=
  [ StableHlo.unaryIndexed main_v6_2 ![main_while0b_v28, main_while0b_v31] ⟨S_, .i32⟩ main_while0b_v32 ((fun x i => Host.dynamicSlice S1x32 x (fun k => (i k (Shape.Idx.first h_S_)).toInt) sliceFits_S10x32_S1x32) : (⟨S10x32, .f32⟩ : BufTy).Contents (Elt F) → (Fin 2 → (⟨S_, .i32⟩ : BufTy).Contents (Elt F)) → (⟨S1x32, .f32⟩ : BufTy).Contents (Elt F)) ]
/-- The buffers `vecOps` writes, in order. -/
abbrev vecOps_W : List (Ref sig .tc) := [main_while0b_v32]
/-- `vecOps` touches TensorCore references only. -/
theorem vecOps_sub : (vecOps : List (HloOp τ sig (Elt F))).Forall fun op => op.bufs ⊆ tcRefs τ sig :=
  unaryIndexed_bufs_sub ..
/-- `vecOps` allocates no buffer. -/
theorem vecOps_fresh : (vecOps : List (HloOp τ sig (Elt F))).Forall fun op => op.fresh = ∅ :=
  forall_fresh_of_map rfl
/-- `vecOps` writes the buffers of `vecOps_W` only. -/
theorem vecOps_writes : (vecOps : List (HloOp τ sig (Elt F))).Forall fun op => op.writes ⊆ (vecOps_W.map (Proc.devRef (τ := τ) .tc)).toFinset :=
  forall_writes_sub_of_map rfl

/-- The scaled bias added to the residual. -/
abbrev biasOps : List (HloOp τ sig (Elt F)) :=
  [ StableHlo.reshape main_while0b_v32 main_while0b_v33 (rfl : (.f32 : EltTy) = .f32) shapeCasts_S1x32_S32,
    StableHlo.unary main_while0b_v33 main_while0b_v34 (broadcastInDim S1x32 ![1] bcast_S32_S1x32_1 : (⟨S32, .f32⟩ : BufTy).Contents (Elt F) → (⟨S1x32, .f32⟩ : BufTy).Contents (Elt F)),
    StableHlo.unary main_while0b_v34 main_while0b_v35 (broadcastInDim S4x32 ![0, 1] bcast_S1x32_S4x32_0_1 : (⟨S1x32, .f32⟩ : BufTy).Contents (Elt F) → (⟨S4x32, .f32⟩ : BufTy).Contents (Elt F)),
    StableHlo.binary main_while0b_v24 main_while0b_v35 main_while0b_v36 (addf : (⟨S4x32, .f32⟩ : BufTy).Contents (Elt F) → (⟨S4x32, .f32⟩ : BufTy).Contents (Elt F) → (⟨S4x32, .f32⟩ : BufTy).Contents (Elt F)),
    StableHlo.nullary main_while0b_c_35 (constantI S_ 32 10#32),
    StableHlo.binary main_v6_6 main_while0b_c_35 main_while0b_v37 (cmpi .slt : (⟨S_, .i32⟩ : BufTy).Contents (Elt F) → (⟨S_, .i32⟩ : BufTy).Contents (Elt F) → (⟨S_, .i1⟩ : BufTy).Contents (Elt F)),
    StableHlo.unary main_while0b_v36 main_while0b_v38 (broadcastInDim S4x1x32 ![0, 2] bcast_S4x32_S4x1x32_0_2 : (⟨S4x32, .f32⟩ : BufTy).Contents (Elt F) → (⟨S4x1x32, .f32⟩ : BufTy).Contents (Elt F)),
    StableHlo.nullary main_while0b_cst_36 (constant S_ .f32 0x3DCCCCCD#32),
    StableHlo.unary main_while0b_cst_36 main_while0b_v39 (broadcastInDim S4x1x32 ![] bcast_S_S4x1x32 : (⟨S_, .f32⟩ : BufTy).Contents (Elt F) → (⟨S4x1x32, .f32⟩ : BufTy).Contents (Elt F)),
    StableHlo.binary main_while0b_v39 main_while0b_v38 main_while0b_v40 (mulf : (⟨S4x1x32, .f32⟩ : BufTy).Contents (Elt F) → (⟨S4x1x32, .f32⟩ : BufTy).Contents (Elt F) → (⟨S4x1x32, .f32⟩ : BufTy).Contents (Elt F)),
    StableHlo.unary main_while0b_v40 main_while0b_v41 (broadcastInDim S4x512x32 ![0, 1, 2] bcast_S4x1x32_S4x512x32_0_1_2 : (⟨S4x1x32, .f32⟩ : BufTy).Contents (Elt F) → (⟨S4x512x32, .f32⟩ : BufTy).Contents (Elt F)),
    StableHlo.binary main_v6_7 main_while0b_v41 main_while0b_v42 (addf : (⟨S4x512x32, .f32⟩ : BufTy).Contents (Elt F) → (⟨S4x512x32, .f32⟩ : BufTy).Contents (Elt F) → (⟨S4x512x32, .f32⟩ : BufTy).Contents (Elt F)) ]
/-- The buffers `biasOps` writes, in order. -/
abbrev biasOps_W : List (Ref sig .tc) := [main_while0b_v33, main_while0b_v34, main_while0b_v35, main_while0b_v36, main_while0b_c_35, main_while0b_v37, main_while0b_v38, main_while0b_cst_36, main_while0b_v39, main_while0b_v40, main_while0b_v41, main_while0b_v42]
/-- `biasOps` touches TensorCore references only. -/
theorem biasOps_sub : (biasOps : List (HloOp τ sig (Elt F))).Forall fun op => op.bufs ⊆ tcRefs τ sig :=
  ⟨reshape_bufs_sub .., unary_bufs_sub .., unary_bufs_sub .., binary_bufs_sub .., nullary_bufs_sub .., binary_bufs_sub .., unary_bufs_sub .., nullary_bufs_sub .., unary_bufs_sub .., binary_bufs_sub .., unary_bufs_sub .., binary_bufs_sub ..⟩
/-- `biasOps` allocates no buffer. -/
theorem biasOps_fresh : (biasOps : List (HloOp τ sig (Elt F))).Forall fun op => op.fresh = ∅ :=
  forall_fresh_of_map rfl
/-- `biasOps` writes the buffers of `biasOps_W` only. -/
theorem biasOps_writes : (biasOps : List (HloOp τ sig (Elt F))).Forall fun op => op.writes ⊆ (biasOps_W.map (Proc.devRef (τ := τ) .tc)).toFinset :=
  forall_writes_sub_of_map rfl

/-- The choice between the biased residual and the residual. -/
abbrev pickOps : List (HloOp τ sig (Elt F)) :=
  [ StableHlo.TRef.ternary (.of main_while0b_v37 : StableHlo.TRef sig ⟨S_, .i1⟩) (.of main_while0b_v42 : StableHlo.TRef sig ⟨S4x512x32, .f32⟩) (.of main_v6_7 : StableHlo.TRef sig ⟨S4x512x32, .f32⟩) (.of main_while0b_v43 : StableHlo.TRef sig ⟨S4x512x32, .f32⟩) (fun p a b => select (broadcastInDim S4x512x32 ![] bcast_S_S4x512x32 p) a b) ]
/-- The buffers `pickOps` writes, in order. -/
abbrev pickOps_W : List (Ref sig .tc) := [main_while0b_v43]
/-- `pickOps` touches TensorCore references only. -/
theorem pickOps_sub : (pickOps : List (HloOp τ sig (Elt F))).Forall fun op => op.bufs ⊆ tcRefs τ sig :=
  ternary_bufs_sub ..
/-- `pickOps` allocates no buffer. -/
theorem pickOps_fresh : (pickOps : List (HloOp τ sig (Elt F))).Forall fun op => op.fresh = ∅ :=
  forall_fresh_of_map rfl
/-- `pickOps` writes the buffers of `pickOps_W` only. -/
theorem pickOps_writes : (pickOps : List (HloOp τ sig (Elt F))).Forall fun op => op.writes ⊆ (pickOps_W.map (Proc.devRef (τ := τ) .tc)).toFinset :=
  forall_writes_sub_of_map rfl

/-- The slice positions in the codebooks. -/
abbrev seatOps : List (HloOp τ sig (Elt F)) :=
  [ StableHlo.unary main_v6_6 main_while0b_v44 (id : (⟨S_, .i32⟩ : BufTy).Contents (Elt F) → (⟨S_, .i32⟩ : BufTy).Contents (Elt F)),
    StableHlo.nullary main_while0b_c_37 (constantI S_ 32 0#32),
    StableHlo.binary main_while0b_v44 main_while0b_c_37 main_while0b_v45 (cmpi .slt : (⟨S_, .i32⟩ : BufTy).Contents (Elt F) → (⟨S_, .i32⟩ : BufTy).Contents (Elt F) → (⟨S_, .i1⟩ : BufTy).Contents (Elt F)),
    StableHlo.nullary main_while0b_c_38 (constantI S_ 32 32#32),
    StableHlo.binary main_while0b_v44 main_while0b_c_38 main_while0b_v46 (addi : (⟨S_, .i32⟩ : BufTy).Contents (Elt F) → (⟨S_, .i32⟩ : BufTy).Contents (Elt F) → (⟨S_, .i32⟩ : BufTy).Contents (Elt F)),
    StableHlo.ternary main_while0b_v45 main_while0b_v46 main_while0b_v44 main_while0b_v47 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    StableHlo.nullary main_while0b_c_39 (constantI S_ 32 0#32),
    StableHlo.nullary main_while0b_c_40 (constantI S_ 32 0#32),
    StableHlo.binary main_while0b_c_39 main_while0b_c_40 main_while0b_v48 (cmpi .slt : (⟨S_, .i32⟩ : BufTy).Contents (Elt F) → (⟨S_, .i32⟩ : BufTy).Contents (Elt F) → (⟨S_, .i1⟩ : BufTy).Contents (Elt F)),
    StableHlo.nullary main_while0b_c_41 (constantI S_ 32 0#32),
    StableHlo.nullary main_while0b_c_42 (constantI S_ 32 8192#32),
    StableHlo.binary main_while0b_c_41 main_while0b_c_42 main_while0b_v49 (addi : (⟨S_, .i32⟩ : BufTy).Contents (Elt F) → (⟨S_, .i32⟩ : BufTy).Contents (Elt F) → (⟨S_, .i32⟩ : BufTy).Contents (Elt F)),
    StableHlo.nullary main_while0b_c_43 (constantI S_ 32 0#32),
    StableHlo.ternary main_while0b_v48 main_while0b_v49 main_while0b_c_43 main_while0b_v50 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    StableHlo.nullary main_while0b_c_44 (constantI S_ 32 0#32),
    StableHlo.nullary main_while0b_c_45 (constantI S_ 32 0#32),
    StableHlo.binary main_while0b_c_44 main_while0b_c_45 main_while0b_v51 (cmpi .slt : (⟨S_, .i32⟩ : BufTy).Contents (Elt F) → (⟨S_, .i32⟩ : BufTy).Contents (Elt F) → (⟨S_, .i1⟩ : BufTy).Contents (Elt F)),
    StableHlo.nullary main_while0b_c_46 (constantI S_ 32 0#32),
    StableHlo.nullary main_while0b_c_47 (constantI S_ 32 32#32),
    StableHlo.binary main_while0b_c_46 main_while0b_c_47 main_while0b_v52 (addi : (⟨S_, .i32⟩ : BufTy).Contents (Elt F) → (⟨S_, .i32⟩ : BufTy).Contents (Elt F) → (⟨S_, .i32⟩ : BufTy).Contents (Elt F)),
    StableHlo.nullary main_while0b_c_48 (constantI S_ 32 0#32),
    StableHlo.ternary main_while0b_v51 main_while0b_v52 main_while0b_c_48 main_while0b_v53 (select : (⟨S_, .i1⟩ : BufTy).Contents (Elt F) → (⟨S_, .i32⟩ : BufTy).Contents (Elt F) → (⟨S_, .i32⟩ : BufTy).Contents (Elt F) → (⟨S_, .i32⟩ : BufTy).Contents (Elt F)) ]
/-- The buffers `seatOps` writes, in order. -/
abbrev seatOps_W : List (Ref sig .tc) := [main_while0b_v44, main_while0b_c_37, main_while0b_v45, main_while0b_c_38, main_while0b_v46, main_while0b_v47, main_while0b_c_39, main_while0b_c_40, main_while0b_v48, main_while0b_c_41, main_while0b_c_42, main_while0b_v49, main_while0b_c_43, main_while0b_v50, main_while0b_c_44, main_while0b_c_45, main_while0b_v51, main_while0b_c_46, main_while0b_c_47, main_while0b_v52, main_while0b_c_48, main_while0b_v53]
/-- `seatOps` touches TensorCore references only. -/
theorem seatOps_sub : (seatOps : List (HloOp τ sig (Elt F))).Forall fun op => op.bufs ⊆ tcRefs τ sig :=
  ⟨unary_bufs_sub .., nullary_bufs_sub .., binary_bufs_sub .., nullary_bufs_sub .., binary_bufs_sub .., ternary_bufs_sub .., nullary_bufs_sub .., nullary_bufs_sub .., binary_bufs_sub .., nullary_bufs_sub .., nullary_bufs_sub .., binary_bufs_sub .., nullary_bufs_sub .., ternary_bufs_sub .., nullary_bufs_sub .., nullary_bufs_sub .., binary_bufs_sub .., nullary_bufs_sub .., nullary_bufs_sub .., binary_bufs_sub .., nullary_bufs_sub .., ternary_bufs_sub ..⟩
/-- `seatOps` allocates no buffer. -/
theorem seatOps_fresh : (seatOps : List (HloOp τ sig (Elt F))).Forall fun op => op.fresh = ∅ :=
  forall_fresh_of_map rfl
/-- `seatOps` writes the buffers of `seatOps_W` only. -/
theorem seatOps_writes : (seatOps : List (HloOp τ sig (Elt F))).Forall fun op => op.writes ⊆ (seatOps_W.map (Proc.devRef (τ := τ) .tc)).toFinset :=
  forall_writes_sub_of_map rfl

/-- The codebook of the trip. -/
abbrev bookOps : List (HloOp τ sig (Elt F)) :=
  [ StableHlo.unaryIndexed main_v6_3 ![main_while0b_v47, main_while0b_v50, main_while0b_v53] ⟨S_, .i32⟩ main_while0b_v54 ((fun x i => Host.dynamicSlice S1x8192x32 x (fun k => (i k (Shape.Idx.first h_S_)).toInt) sliceFits_S32x8192x32_S1x8192x32) : (⟨S32x8192x32, .f32⟩ : BufTy).Contents (Elt F) → (Fin 3 → (⟨S_, .i32⟩ : BufTy).Contents (Elt F)) → (⟨S1x8192x32, .f32⟩ : BufTy).Contents (Elt F)) ]
/-- The buffers `bookOps` writes, in order. -/
abbrev bookOps_W : List (Ref sig .tc) := [main_while0b_v54]
/-- `bookOps` touches TensorCore references only. -/
theorem bookOps_sub : (bookOps : List (HloOp τ sig (Elt F))).Forall fun op => op.bufs ⊆ tcRefs τ sig :=
  unaryIndexed_bufs_sub ..
/-- `bookOps` allocates no buffer. -/
theorem bookOps_fresh : (bookOps : List (HloOp τ sig (Elt F))).Forall fun op => op.fresh = ∅ :=
  forall_fresh_of_map rfl
/-- `bookOps` writes the buffers of `bookOps_W` only. -/
theorem bookOps_writes : (bookOps : List (HloOp τ sig (Elt F))).Forall fun op => op.writes ⊆ (bookOps_W.map (Proc.devRef (τ := τ) .tc)).toFinset :=
  forall_writes_sub_of_map rfl

/-- The distances. -/
abbrev distOps : List (HloOp τ sig (Elt F)) :=
  [ StableHlo.reshape main_while0b_v54 main_while0b_v55 (rfl : (.f32 : EltTy) = .f32) shapeCasts_S1x8192x32_S8192x32,
    StableHlo.binary main_while0b_v43 main_while0b_v43 main_while0b_v56 (mulf : (⟨S4x512x32, .f32⟩ : BufTy).Contents (Elt F) → (⟨S4x512x32, .f32⟩ : BufTy).Contents (Elt F) → (⟨S4x512x32, .f32⟩ : BufTy).Contents (Elt F)),
    StableHlo.nullary main_while0b_cst_49 (constant S_ .f32 0x00000000#32),
    StableHlo.binary main_while0b_v56 main_while0b_cst_49 main_while0b_v57 ((fun x v => Host.reduceAdd x v reducesTo_S4x512x32_S4x512_d2 h_S_) : (⟨S4x512x32, .f32⟩ : BufTy).Contents (Elt F) → (⟨S_, .f32⟩ : BufTy).Contents (Elt F) → (⟨S4x512, .f32⟩ : BufTy).Contents (Elt F)),
    StableHlo.unary main_while0b_v57 main_while0b_v58 (broadcastInDim S4x512x1 ![0, 1] bcast_S4x512_S4x512x1_0_1 : (⟨S4x512, .f32⟩ : BufTy).Contents (Elt F) → (⟨S4x512x1, .f32⟩ : BufTy).Contents (Elt F)),
    StableHlo.binary main_while0b_v55 main_while0b_v55 main_while0b_v59 (mulf : (⟨S8192x32, .f32⟩ : BufTy).Contents (Elt F) → (⟨S8192x32, .f32⟩ : BufTy).Contents (Elt F) → (⟨S8192x32, .f32⟩ : BufTy).Contents (Elt F)),
    StableHlo.nullary main_while0b_cst_50 (constant S_ .f32 0x00000000#32),
    StableHlo.binary main_while0b_v59 main_while0b_cst_50 main_while0b_v60 ((fun x v => Host.reduceAdd x v reducesTo_S8192x32_S8192_d1 h_S_) : (⟨S8192x32, .f32⟩ : BufTy).Contents (Elt F) → (⟨S_, .f32⟩ : BufTy).Contents (Elt F) → (⟨S8192, .f32⟩ : BufTy).Contents (Elt F)),
    StableHlo.binary main_while0b_v43 main_while0b_v55 main_while0b_v61 ((fun l r => Host.dotGeneral dot_S4x512x32_S8192x32_S4x512x8192_2_1_01_0_n_n none l r) : (⟨S4x512x32, .f32⟩ : BufTy).Contents (Elt F) → (⟨S8192x32, .f32⟩ : BufTy).Contents (Elt F) → (⟨S4x512x8192, .f32⟩ : BufTy).Contents (Elt F)),
    StableHlo.nullary main_while0b_cst_51 (constant S_ .f32 0x40000000#32),
    StableHlo.unary main_while0b_cst_51 main_while0b_v62 (broadcastInDim S4x512x8192 ![] bcast_S_S4x512x8192 : (⟨S_, .f32⟩ : BufTy).Contents (Elt F) → (⟨S4x512x8192, .f32⟩ : BufTy).Contents (Elt F)),
    StableHlo.binary main_while0b_v62 main_while0b_v61 main_while0b_v63 (mulf : (⟨S4x512x8192, .f32⟩ : BufTy).Contents (Elt F) → (⟨S4x512x8192, .f32⟩ : BufTy).Contents (Elt F) → (⟨S4x512x8192, .f32⟩ : BufTy).Contents (Elt F)),
    StableHlo.unary main_while0b_v58 main_while0b_v64 (broadcastInDim S4x512x8192 ![0, 1, 2] bcast_S4x512x1_S4x512x8192_0_1_2 : (⟨S4x512x1, .f32⟩ : BufTy).Contents (Elt F) → (⟨S4x512x8192, .f32⟩ : BufTy).Contents (Elt F)),
    StableHlo.binary main_while0b_v64 main_while0b_v63 main_while0b_v65 (subf : (⟨S4x512x8192, .f32⟩ : BufTy).Contents (Elt F) → (⟨S4x512x8192, .f32⟩ : BufTy).Contents (Elt F) → (⟨S4x512x8192, .f32⟩ : BufTy).Contents (Elt F)),
    StableHlo.unary main_while0b_v60 main_while0b_v66 (broadcastInDim S1x1x8192 ![2] bcast_S8192_S1x1x8192_2 : (⟨S8192, .f32⟩ : BufTy).Contents (Elt F) → (⟨S1x1x8192, .f32⟩ : BufTy).Contents (Elt F)),
    StableHlo.unary main_while0b_v66 main_while0b_v67 (broadcastInDim S4x512x8192 ![0, 1, 2] bcast_S1x1x8192_S4x512x8192_0_1_2 : (⟨S1x1x8192, .f32⟩ : BufTy).Contents (Elt F) → (⟨S4x512x8192, .f32⟩ : BufTy).Contents (Elt F)),
    StableHlo.binary main_while0b_v65 main_while0b_v67 main_while0b_v68 (addf : (⟨S4x512x8192, .f32⟩ : BufTy).Contents (Elt F) → (⟨S4x512x8192, .f32⟩ : BufTy).Contents (Elt F) → (⟨S4x512x8192, .f32⟩ : BufTy).Contents (Elt F)),
    StableHlo.nullary main_while0b_cst_52 (constant S_ .f32 0x00000000#32),
    StableHlo.unary main_while0b_cst_52 main_while0b_v69 (broadcastInDim S4x512x8192 ![] bcast_S_S4x512x8192 : (⟨S_, .f32⟩ : BufTy).Contents (Elt F) → (⟨S4x512x8192, .f32⟩ : BufTy).Contents (Elt F)),
    StableHlo.binary main_while0b_v68 main_while0b_v69 main_while0b_v70 (maximumf : (⟨S4x512x8192, .f32⟩ : BufTy).Contents (Elt F) → (⟨S4x512x8192, .f32⟩ : BufTy).Contents (Elt F) → (⟨S4x512x8192, .f32⟩ : BufTy).Contents (Elt F)),
    StableHlo.unary main_while0b_v70 main_while0b_v71 (Host.sqrt : (⟨S4x512x8192, .f32⟩ : BufTy).Contents (Elt F) → (⟨S4x512x8192, .f32⟩ : BufTy).Contents (Elt F)) ]
/-- The buffers `distOps` writes, in order. -/
abbrev distOps_W : List (Ref sig .tc) := [main_while0b_v55, main_while0b_v56, main_while0b_cst_49, main_while0b_v57, main_while0b_v58, main_while0b_v59, main_while0b_cst_50, main_while0b_v60, main_while0b_v61, main_while0b_cst_51, main_while0b_v62, main_while0b_v63, main_while0b_v64, main_while0b_v65, main_while0b_v66, main_while0b_v67, main_while0b_v68, main_while0b_cst_52, main_while0b_v69, main_while0b_v70, main_while0b_v71]
/-- `distOps` touches TensorCore references only. -/
theorem distOps_sub : (distOps : List (HloOp τ sig (Elt F))).Forall fun op => op.bufs ⊆ tcRefs τ sig :=
  ⟨reshape_bufs_sub .., binary_bufs_sub .., nullary_bufs_sub .., binary_bufs_sub .., unary_bufs_sub .., binary_bufs_sub .., nullary_bufs_sub .., binary_bufs_sub .., binary_bufs_sub .., nullary_bufs_sub .., unary_bufs_sub .., binary_bufs_sub .., unary_bufs_sub .., binary_bufs_sub .., unary_bufs_sub .., unary_bufs_sub .., binary_bufs_sub .., nullary_bufs_sub .., unary_bufs_sub .., binary_bufs_sub .., unary_bufs_sub ..⟩
/-- `distOps` allocates no buffer. -/
theorem distOps_fresh : (distOps : List (HloOp τ sig (Elt F))).Forall fun op => op.fresh = ∅ :=
  forall_fresh_of_map rfl
/-- `distOps` writes the buffers of `distOps_W` only. -/
theorem distOps_writes : (distOps : List (HloOp τ sig (Elt F))).Forall fun op => op.writes ⊆ (distOps_W.map (Proc.devRef (τ := τ) .tc)).toFinset :=
  forall_writes_sub_of_map rfl

/-- The nearest codeword of each row. -/
abbrev argOps : List (HloOp τ sig (Elt F)) :=
  [ StableHlo.TRef.nullary (.of main_while0b_call1_v0 : StableHlo.TRef sig ⟨S4x512x8192, .i32⟩) (iotaInDim S4x512x8192 32 2),
    StableHlo.TRef.nullary (.of main_while0b_call1_cst : StableHlo.TRef sig ⟨S_, .f32⟩) (constant S_ .f32 0x7F800000#32),
    StableHlo.TRef.nullary (.of main_while0b_call1_c : StableHlo.TRef sig ⟨S_, .i32⟩) (constantI S_ 32 0#32),
    StableHlo.TRef.quaternary (.of main_while0b_v71 : StableHlo.TRef sig ⟨S4x512x8192, .f32⟩) (.of main_while0b_call1_v0 : StableHlo.TRef sig ⟨S4x512x8192, .i32⟩) (.of main_while0b_call1_cst : StableHlo.TRef sig ⟨S_, .f32⟩) (.of main_while0b_call1_c : StableHlo.TRef sig ⟨S_, .i32⟩) (.of main_while0b_call1_v1_0 : StableHlo.TRef sig ⟨S4x512, .f32⟩) (fun x y u v j => (Host.argReduce reducer_argmin_f32_i32 x y u v reducesTo_S4x512x8192_S4x512_d2 h_S_ j).1),
    StableHlo.TRef.quaternary (.of main_while0b_v71 : StableHlo.TRef sig ⟨S4x512x8192, .f32⟩) (.of main_while0b_call1_v0 : StableHlo.TRef sig ⟨S4x512x8192, .i32⟩) (.of main_while0b_call1_cst : StableHlo.TRef sig ⟨S_, .f32⟩) (.of main_while0b_call1_c : StableHlo.TRef sig ⟨S_, .i32⟩) (.of main_while0b_v72 : StableHlo.TRef sig ⟨S4x512, .i32⟩) (fun x y u v j => (Host.argReduce reducer_argmin_f32_i32 x y u v reducesTo_S4x512x8192_S4x512_d2 h_S_ j).2) ]
/-- The buffers `argOps` writes, in order. -/
abbrev argOps_W : List (Ref sig .tc) := [main_while0b_call1_v0, main_while0b_call1_cst, main_while0b_call1_c, main_while0b_call1_v1_0, main_while0b_v72]
/-- `argOps` touches TensorCore references only. -/
theorem argOps_sub : (argOps : List (HloOp τ sig (Elt F))).Forall fun op => op.bufs ⊆ tcRefs τ sig :=
  ⟨nullary_bufs_sub .., nullary_bufs_sub .., nullary_bufs_sub .., quaternary_bufs_sub .., quaternary_bufs_sub ..⟩
/-- `argOps` allocates no buffer. -/
theorem argOps_fresh : (argOps : List (HloOp τ sig (Elt F))).Forall fun op => op.fresh = ∅ :=
  forall_fresh_of_map rfl
/-- `argOps` writes the buffers of `argOps_W` only. -/
theorem argOps_writes : (argOps : List (HloOp τ sig (Elt F))).Forall fun op => op.writes ⊆ (argOps_W.map (Proc.devRef (τ := τ) .tc)).toFinset :=
  forall_writes_sub_of_map rfl

/-- The row the indices go to. -/
abbrev spotOps : List (HloOp τ sig (Elt F)) :=
  [ StableHlo.nullary main_while0b_c_53 (constantI S_ 32 0#32),
    StableHlo.binary main_v6_6 main_while0b_c_53 main_while0b_v73 (cmpi .slt : (⟨S_, .i32⟩ : BufTy).Contents (Elt F) → (⟨S_, .i32⟩ : BufTy).Contents (Elt F) → (⟨S_, .i1⟩ : BufTy).Contents (Elt F)),
    StableHlo.nullary main_while0b_c_54 (constantI S_ 32 32#32),
    StableHlo.binary main_v6_6 main_while0b_c_54 main_while0b_v74 (addi : (⟨S_, .i32⟩ : BufTy).Contents (Elt F) → (⟨S_, .i32⟩ : BufTy).Contents (Elt F) → (⟨S_, .i32⟩ : BufTy).Contents (Elt F)),
    StableHlo.ternary main_while0b_v73 main_while0b_v74 main_v6_6 main_while0b_v75 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    StableHlo.unary main_while0b_v75 main_while0b_v76 (id : (⟨S_, .i32⟩ : BufTy).Contents (Elt F) → (⟨S_, .i32⟩ : BufTy).Contents (Elt F)),
    StableHlo.unary main_while0b_v76 main_while0b_v77 (broadcastInDim S1 ![] bcast_S_S1 : (⟨S_, .i32⟩ : BufTy).Contents (Elt F) → (⟨S1, .i32⟩ : BufTy).Contents (Elt F)) ]
/-- The buffers `spotOps` writes, in order. -/
abbrev spotOps_W : List (Ref sig .tc) := [main_while0b_c_53, main_while0b_v73, main_while0b_c_54, main_while0b_v74, main_while0b_v75, main_while0b_v76, main_while0b_v77]
/-- `spotOps` touches TensorCore references only. -/
theorem spotOps_sub : (spotOps : List (HloOp τ sig (Elt F))).Forall fun op => op.bufs ⊆ tcRefs τ sig :=
  ⟨nullary_bufs_sub .., binary_bufs_sub .., nullary_bufs_sub .., binary_bufs_sub .., ternary_bufs_sub .., unary_bufs_sub .., unary_bufs_sub ..⟩
/-- `spotOps` allocates no buffer. -/
theorem spotOps_fresh : (spotOps : List (HloOp τ sig (Elt F))).Forall fun op => op.fresh = ∅ :=
  forall_fresh_of_map rfl
/-- `spotOps` writes the buffers of `spotOps_W` only. -/
theorem spotOps_writes : (spotOps : List (HloOp τ sig (Elt F))).Forall fun op => op.writes ⊆ (spotOps_W.map (Proc.devRef (τ := τ) .tc)).toFinset :=
  forall_writes_sub_of_map rfl

/-- The row of indices put in its place. -/
abbrev rowOps : List (HloOp τ sig (Elt F)) :=
  [ StableHlo.ternary main_v6_9 main_while0b_v77 main_while0b_v72 main_while0b_v78 ((fun x i u => Host.scatter scatter_S32x4x512_S1_S4x512_01_0_0_0 (fun _ b => b) x i u) : (⟨S32x4x512, .i32⟩ : BufTy).Contents (Elt F) → (⟨S1, .i32⟩ : BufTy).Contents (Elt F) → (⟨S4x512, .i32⟩ : BufTy).Contents (Elt F) → (⟨S32x4x512, .i32⟩ : BufTy).Contents (Elt F)) ]
/-- The buffers `rowOps` writes, in order. -/
abbrev rowOps_W : List (Ref sig .tc) := [main_while0b_v78]
/-- `rowOps` touches TensorCore references only. -/
theorem rowOps_sub : (rowOps : List (HloOp τ sig (Elt F))).Forall fun op => op.bufs ⊆ tcRefs τ sig :=
  ternary_bufs_sub ..
/-- `rowOps` allocates no buffer. -/
theorem rowOps_fresh : (rowOps : List (HloOp τ sig (Elt F))).Forall fun op => op.fresh = ∅ :=
  forall_fresh_of_map rfl
/-- `rowOps` writes the buffers of `rowOps_W` only. -/
theorem rowOps_writes : (rowOps : List (HloOp τ sig (Elt F))).Forall fun op => op.writes ⊆ (rowOps_W.map (Proc.devRef (τ := τ) .tc)).toFinset :=
  forall_writes_sub_of_map rfl

/-- The codewords to gather. -/
abbrev nearOps : List (HloOp τ sig (Elt F)) :=
  [ StableHlo.nullary main_while0b_c_55 (constantI S_ 32 0#32),
    StableHlo.unary main_while0b_c_55 main_while0b_v79 (broadcastInDim S4x512 ![] bcast_S_S4x512 : (⟨S_, .i32⟩ : BufTy).Contents (Elt F) → (⟨S4x512, .i32⟩ : BufTy).Contents (Elt F)),
    StableHlo.binary main_while0b_v72 main_while0b_v79 main_while0b_v80 (cmpi .slt : (⟨S4x512, .i32⟩ : BufTy).Contents (Elt F) → (⟨S4x512, .i32⟩ : BufTy).Contents (Elt F) → (⟨S4x512, .i1⟩ : BufTy).Contents (Elt F)),
    StableHlo.nullary main_while0b_c_56 (constantI S_ 32 8192#32),
    StableHlo.unary main_while0b_c_56 main_while0b_v81 (broadcastInDim S4x512 ![] bcast_S_S4x512 : (⟨S_, .i32⟩ : BufTy).Contents (Elt F) → (⟨S4x512, .i32⟩ : BufTy).Contents (Elt F)),
    StableHlo.binary main_while0b_v72 main_while0b_v81 main_while0b_v82 (addi : (⟨S4x512, .i32⟩ : BufTy).Contents (Elt F) → (⟨S4x512, .i32⟩ : BufTy).Contents (Elt F) → (⟨S4x512, .i32⟩ : BufTy).Contents (Elt F)),
    StableHlo.ternary main_while0b_v80 main_while0b_v82 main_while0b_v72 main_while0b_v83 (select : (⟨S4x512, .i1⟩ : BufTy).Contents (Elt F) → (⟨S4x512, .i32⟩ : BufTy).Contents (Elt F) → (⟨S4x512, .i32⟩ : BufTy).Contents (Elt F) → (⟨S4x512, .i32⟩ : BufTy).Contents (Elt F)),
    StableHlo.unary main_while0b_v83 main_while0b_v84 (broadcastInDim S4x512x1 ![0, 1] bcast_S4x512_S4x512x1_0_1 : (⟨S4x512, .i32⟩ : BufTy).Contents (Elt F) → (⟨S4x512x1, .i32⟩ : BufTy).Contents (Elt F)) ]
/-- The buffers `nearOps` writes, in order. -/
abbrev nearOps_W : List (Ref sig .tc) := [main_while0b_c_55, main_while0b_v79, main_while0b_v80, main_while0b_c_56, main_while0b_v81, main_while0b_v82, main_while0b_v83, main_while0b_v84]
/-- `nearOps` touches TensorCore references only. -/
theorem nearOps_sub : (nearOps : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub ..⟩
/-- `nearOps` allocates no buffer. -/
theorem nearOps_fresh : (nearOps : List (HloOp τ sig (Elt F))).Forall fun op => op.fresh = ∅ :=
  forall_fresh_of_map rfl
/-- `nearOps` writes the buffers of `nearOps_W` only. -/
theorem nearOps_writes : (nearOps : List (HloOp τ sig (Elt F))).Forall fun op => op.writes ⊆ (nearOps_W.map (Proc.devRef (τ := τ) .tc)).toFinset :=
  forall_writes_sub_of_map rfl

/-- The codewords gathered and added to the sum. -/
abbrev wordOps : List (HloOp τ sig (Elt F)) :=
  [ StableHlo.binary main_while0b_v55 main_while0b_v84 main_while0b_v85 ((fun x i => Host.gather gather_S8192x32_S4x512x1_S4x512x32_2_0_n_n_0_2_132 x i) : (⟨S8192x32, .f32⟩ : BufTy).Contents (Elt F) → (⟨S4x512x1, .i32⟩ : BufTy).Contents (Elt F) → (⟨S4x512x32, .f32⟩ : BufTy).Contents (Elt F)),
    StableHlo.binary main_v6_8 main_while0b_v85 main_while0b_v86 (addf : (⟨S4x512x32, .f32⟩ : BufTy).Contents (Elt F) → (⟨S4x512x32, .f32⟩ : BufTy).Contents (Elt F) → (⟨S4x512x32, .f32⟩ : BufTy).Contents (Elt F)) ]
/-- The buffers `wordOps` writes, in order. -/
abbrev wordOps_W : List (Ref sig .tc) := [main_while0b_v85, main_while0b_v86]
/-- `wordOps` touches TensorCore references only. -/
theorem wordOps_sub : (wordOps : List (HloOp τ sig (Elt F))).Forall fun op => op.bufs ⊆ tcRefs τ sig :=
  ⟨binary_bufs_sub .., binary_bufs_sub ..⟩
/-- `wordOps` allocates no buffer. -/
theorem wordOps_fresh : (wordOps : List (HloOp τ sig (Elt F))).Forall fun op => op.fresh = ∅ :=
  forall_fresh_of_map rfl
/-- `wordOps` writes the buffers of `wordOps_W` only. -/
theorem wordOps_writes : (wordOps : List (HloOp τ sig (Elt F))).Forall fun op => op.writes ⊆ (wordOps_W.map (Proc.devRef (τ := τ) .tc)).toFinset :=
  forall_writes_sub_of_map rfl

/-- The residual left and the mean added to the loss. -/
abbrev meanOps : List (HloOp τ sig (Elt F)) :=
  [ StableHlo.binary main_while0b_v43 main_while0b_v85 main_while0b_v87 (subf : (⟨S4x512x32, .f32⟩ : BufTy).Contents (Elt F) → (⟨S4x512x32, .f32⟩ : BufTy).Contents (Elt F) → (⟨S4x512x32, .f32⟩ : BufTy).Contents (Elt F)),
    StableHlo.binary main_while0b_v85 main_v6_4 main_while0b_v88 (subf : (⟨S4x512x32, .f32⟩ : BufTy).Contents (Elt F) → (⟨S4x512x32, .f32⟩ : BufTy).Contents (Elt F) → (⟨S4x512x32, .f32⟩ : BufTy).Contents (Elt F)),
    StableHlo.binary main_while0b_v88 main_while0b_v88 main_while0b_v89 (mulf : (⟨S4x512x32, .f32⟩ : BufTy).Contents (Elt F) → (⟨S4x512x32, .f32⟩ : BufTy).Contents (Elt F) → (⟨S4x512x32, .f32⟩ : BufTy).Contents (Elt F)),
    StableHlo.nullary main_while0b_cst_57 (constant S_ .f32 0x00000000#32),
    StableHlo.binary main_while0b_v89 main_while0b_cst_57 main_while0b_v90 ((fun x v => Host.reduceAdd x v reducesTo_S4x512x32_S_d0_1_2 h_S_) : (⟨S4x512x32, .f32⟩ : BufTy).Contents (Elt F) → (⟨S_, .f32⟩ : BufTy).Contents (Elt F) → (⟨S_, .f32⟩ : BufTy).Contents (Elt F)),
    StableHlo.nullary main_while0b_cst_58 (constant S_ .f32 0x47800000#32),
    StableHlo.binary main_while0b_v90 main_while0b_cst_58 main_while0b_v91 (Host.divf : (⟨S_, .f32⟩ : BufTy).Contents (Elt F) → (⟨S_, .f32⟩ : BufTy).Contents (Elt F) → (⟨S_, .f32⟩ : BufTy).Contents (Elt F)),
    StableHlo.binary main_v6_10 main_while0b_v91 main_while0b_v92 (addf : (⟨S_, .f32⟩ : BufTy).Contents (Elt F) → (⟨S_, .f32⟩ : BufTy).Contents (Elt F) → (⟨S_, .f32⟩ : BufTy).Contents (Elt F)) ]
/-- The buffers `meanOps` writes, in order. -/
abbrev meanOps_W : List (Ref sig .tc) := [main_while0b_v87, main_while0b_v88, main_while0b_v89, main_while0b_cst_57, main_while0b_v90, main_while0b_cst_58, main_while0b_v91, main_while0b_v92]
/-- `meanOps` touches TensorCore references only. -/
theorem meanOps_sub : (meanOps : List (HloOp τ sig (Elt F))).Forall fun op => op.bufs ⊆ tcRefs τ sig :=
  ⟨binary_bufs_sub .., binary_bufs_sub .., binary_bufs_sub .., nullary_bufs_sub .., binary_bufs_sub .., nullary_bufs_sub .., binary_bufs_sub .., binary_bufs_sub ..⟩
/-- `meanOps` allocates no buffer. -/
theorem meanOps_fresh : (meanOps : List (HloOp τ sig (Elt F))).Forall fun op => op.fresh = ∅ :=
  forall_fresh_of_map rfl
/-- `meanOps` writes the buffers of `meanOps_W` only. -/
theorem meanOps_writes : (meanOps : List (HloOp τ sig (Elt F))).Forall fun op => op.writes ⊆ (meanOps_W.map (Proc.devRef (τ := τ) .tc)).toFinset :=
  forall_writes_sub_of_map rfl

/-- The counter stepped and the carried values copied back. -/
abbrev stepOps : List (HloOp τ sig (Elt F)) :=
  [ StableHlo.nullary main_while0b_c_59 (constantI S_ 32 1#32),
    StableHlo.binary main_v6_5 main_while0b_c_59 main_while0b_v93 (addi : (⟨S_, .i32⟩ : BufTy).Contents (Elt F) → (⟨S_, .i32⟩ : BufTy).Contents (Elt F) → (⟨S_, .i32⟩ : BufTy).Contents (Elt F)),
    StableHlo.unary main_while0b_v93 main_v6_5 id,
    StableHlo.unary main_while0b_v10 main_v6_6 id,
    StableHlo.unary main_while0b_v87 main_v6_7 id,
    StableHlo.unary main_while0b_v86 main_v6_8 id,
    StableHlo.unary main_while0b_v78 main_v6_9 id,
    StableHlo.unary main_while0b_v92 main_v6_10 id ]
/-- The buffers `stepOps` writes, in order. -/
abbrev stepOps_W : List (Ref sig .tc) := [main_while0b_c_59, main_while0b_v93, main_v6_5, main_v6_6, main_v6_7, main_v6_8, main_v6_9, main_v6_10]
/-- `stepOps` touches TensorCore references only. -/
theorem stepOps_sub : (stepOps : List (HloOp τ sig (Elt F))).Forall fun op => op.bufs ⊆ tcRefs τ sig :=
  ⟨nullary_bufs_sub .., binary_bufs_sub .., unary_bufs_sub .., unary_bufs_sub .., unary_bufs_sub .., unary_bufs_sub .., unary_bufs_sub .., unary_bufs_sub ..⟩
/-- `stepOps` allocates no buffer. -/
theorem stepOps_fresh : (stepOps : List (HloOp τ sig (Elt F))).Forall fun op => op.fresh = ∅ :=
  forall_fresh_of_map rfl
/-- `stepOps` writes the buffers of `stepOps_W` only. -/
theorem stepOps_writes : (stepOps : List (HloOp τ sig (Elt F))).Forall fun op => op.writes ⊆ (stepOps_W.map (Proc.devRef (τ := τ) .tc)).toFinset :=
  forall_writes_sub_of_map rfl

/-- @main after the loop: the first result and the scaled loss. -/
abbrev exitOps : List (HloOp τ sig (Elt F)) :=
  [ StableHlo.binary main_v6_8 main_v3 main_v7 (subf : (⟨S4x512x32, .f32⟩ : BufTy).Contents (Elt F) → (⟨S4x512x32, .f32⟩ : BufTy).Contents (Elt F) → (⟨S4x512x32, .f32⟩ : BufTy).Contents (Elt F)),
    StableHlo.binary main_v3 main_v7 main_v8 (addf : (⟨S4x512x32, .f32⟩ : BufTy).Contents (Elt F) → (⟨S4x512x32, .f32⟩ : BufTy).Contents (Elt F) → (⟨S4x512x32, .f32⟩ : BufTy).Contents (Elt F)),
    StableHlo.nullary main_cst_3 (constant S_ .f32 0x3E800000#32),
    StableHlo.binary main_v6_10 main_cst_3 main_v9 (mulf : (⟨S_, .f32⟩ : BufTy).Contents (Elt F) → (⟨S_, .f32⟩ : BufTy).Contents (Elt F) → (⟨S_, .f32⟩ : BufTy).Contents (Elt F)) ]
/-- The buffers `exitOps` writes, in order. -/
abbrev exitOps_W : List (Ref sig .tc) := [main_v7, main_v8, main_cst_3, main_v9]
/-- `exitOps` touches TensorCore references only. -/
theorem exitOps_sub : (exitOps : List (HloOp τ sig (Elt F))).Forall fun op => op.bufs ⊆ tcRefs τ sig :=
  ⟨binary_bufs_sub .., binary_bufs_sub .., nullary_bufs_sub .., binary_bufs_sub ..⟩
/-- `exitOps` allocates no buffer. -/
theorem exitOps_fresh : (exitOps : List (HloOp τ sig (Elt F))).Forall fun op => op.fresh = ∅ :=
  forall_fresh_of_map rfl
/-- `exitOps` writes the buffers of `exitOps_W` only. -/
theorem exitOps_writes : (exitOps : List (HloOp τ sig (Elt F))).Forall fun op => op.writes ⊆ (exitOps_W.map (Proc.devRef (τ := τ) .tc)).toFinset :=
  forall_writes_sub_of_map rfl

/-- The condition's two operations: the bound, and the trip counter compared with it. -/
abbrev condOps : List (HloOp τ sig (Elt F)) :=
  [ StableHlo.nullary main_while0c_c_14 (constantI S_ 32 32#32),
    StableHlo.binary main_v6_5 main_while0c_c_14 main_while0c_v10 (cmpi .slt) ]
/-- The buffers the condition writes. -/
abbrev condOps_W : List (Ref sig .tc) := [main_while0c_c_14, main_while0c_v10]
/-- The condition writes the buffers of `condOps_W` only. -/
theorem condOps_writes : (condOps : List (HloOp τ sig (Elt F))).Forall fun op => op.writes ⊆ (condOps_W.map (Proc.devRef (τ := τ) .tc)).toFinset :=
  forall_writes_sub_of_map rfl

/-- @main's stretches before the loop. -/
abbrev preI : List (List (HloOp τ sig (Elt F))) := [entryOps]
/-- The loop body's stretches. -/
abbrev bodyI : List (List (HloOp τ sig (Elt F))) := [slotOps, slabOps, projOps, vecOps, biasOps, pickOps, seatOps, bookOps, distOps, argOps, spotOps, rowOps, nearOps, wordOps, meanOps, stepOps]
/-- @main's stretches after the loop. -/
abbrev postI : List (List (HloOp τ sig (Elt F))) := [exitOps]

/-- A stretch that touches TensorCore references only and allocates nothing may head a plain list. -/
theorem plain_cons {ops : List (HloOp τ sig (Elt F))} {rest : List (List (HloOp τ sig (Elt F)))}
    (hs : ops.Forall fun op => op.bufs ⊆ tcRefs τ sig) (hf : ops.Forall fun op => op.fresh = ∅) (hr : Plain rest) :
    Plain (ops :: rest) :=
  .cons hs (hf := List.forall_iff_forall_mem.mp hf) hr
theorem hpre : Plain (preI (F := F)) := plain_cons entryOps_sub entryOps_fresh .nil
theorem hpost : Plain (postI (F := F)) := plain_cons exitOps_sub exitOps_fresh .nil
theorem hbodyI : Plain (bodyI (F := F)) :=
  plain_cons slotOps_sub slotOps_fresh <| plain_cons slabOps_sub slabOps_fresh <| plain_cons projOps_sub projOps_fresh <| plain_cons vecOps_sub vecOps_fresh <| plain_cons biasOps_sub biasOps_fresh <| plain_cons pickOps_sub pickOps_fresh <| plain_cons seatOps_sub seatOps_fresh <| plain_cons bookOps_sub bookOps_fresh <| plain_cons distOps_sub distOps_fresh <| plain_cons argOps_sub argOps_fresh <| plain_cons spotOps_sub spotOps_fresh <| plain_cons rowOps_sub rowOps_fresh <| plain_cons nearOps_sub nearOps_fresh <| plain_cons wordOps_sub wordOps_fresh <| plain_cons meanOps_sub meanOps_fresh <| plain_cons stepOps_sub stepOps_fresh <| .nil

/-- @main is the entry's operations, the loop and the exit's operations. -/
theorem main_chain (c : Dev nD) : main (F := F) c = (Pipeline.chain
  [ StableHlo.seq entryOps, HostLoop.enter 0, StableHlo.seq exitOps ] : Prog (TpuEff nD τ sig (Elt F) (HostLoop.Sig (Pipeline.Sig Λ₀ (Fin 0) fun p => (pcfgs (F := F) p).Adm) 1) .tc) PUnit) := by
  rewrite [StableHlo.chain_seq_cons, Pipeline.chain_cons, StableHlo.chain_seq_cons]
  chain_rfl

/-- The loop's body is its stretches in order. -/
theorem body_chain : main_while0_body (F := F) = (Pipeline.chain
  [ StableHlo.seq slotOps, StableHlo.seq slabOps, StableHlo.seq projOps, StableHlo.seq vecOps, StableHlo.seq biasOps, StableHlo.seq pickOps, StableHlo.seq seatOps, StableHlo.seq bookOps, StableHlo.seq distOps, StableHlo.seq argOps, StableHlo.seq spotOps, StableHlo.seq rowOps, StableHlo.seq nearOps, StableHlo.seq wordOps, StableHlo.seq meanOps, StableHlo.seq stepOps ] : Prog (TpuEff nD τ sig (Elt F) (HostLoop.Sig (Pipeline.Sig Λ₀ (Fin 0) fun p => (pcfgs (F := F) p).Adm) 1) .tc) PUnit) := by
  rewrite [StableHlo.chain_seq_cons, StableHlo.chain_seq_cons, StableHlo.chain_seq_cons, StableHlo.chain_seq_cons, StableHlo.chain_seq_cons, StableHlo.chain_seq_cons, StableHlo.chain_seq_cons, StableHlo.chain_seq_cons, StableHlo.chain_seq_cons, StableHlo.chain_seq_cons, StableHlo.chain_seq_cons, StableHlo.chain_seq_cons, StableHlo.chain_seq_cons, StableHlo.chain_seq_cons, StableHlo.chain_seq_cons, StableHlo.chain_seq_cons]
  chain_rfl

/-! ## The trip counter -/

variable (m : (ℓ : Loc nD τ sig) → Buf (Elt F) ℓ) (ρ : Dev nD → PrngReg)

/-- Every buffer's contents before the `k`-th run of the condition, counted from 0. -/
abbrev atK (k : ℕ) (c : Dev nD) : Valuation τ sig (Elt F) := atTrip condOps bodyI (entryContents preI m) k c

/-- The buffers the body's stretches before the last write. -/
abbrev workW : List (Ref sig .tc) := (slotOps_W ++ (slabOps_W ++ (projOps_W ++ (vecOps_W ++ (biasOps_W ++ (pickOps_W ++ (seatOps_W ++ (bookOps_W ++ (distOps_W ++ (argOps_W ++ (spotOps_W ++ (rowOps_W ++ (nearOps_W ++ (wordOps_W ++ meanOps_W))))))))))))))

/-- The body's stretches before the last. -/
abbrev workI : List (List (HloOp τ sig (Elt F))) := [slotOps, slabOps, projOps, vecOps, biasOps, pickOps, seatOps, bookOps, distOps, argOps, spotOps, rowOps, nearOps, wordOps, meanOps]

/-- A buffer outside `workW` is left alone by the body's stretches before the last. -/
theorem work_ne (V : Valuation τ sig (Elt F)) {b : Ref sig .tc} (h : b ∉ workW) :
    afterL workI V (Proc.devRef .tc b) = V (Proc.devRef .tc b) := by
  simp only [workW, List.mem_append, not_or] at h
  obtain ⟨h0, h1, h2, h3, h4, h5, h6, h7, h8, h9, h10, h11, h12, h13, h14⟩ := h
  simp only [workI, afterL_cons, afterL_nil]
  rw [after_of_writes_sub meanOps _ meanOps_writes h14, after_of_writes_sub wordOps _ wordOps_writes h13, after_of_writes_sub nearOps _ nearOps_writes h12, after_of_writes_sub rowOps _ rowOps_writes h11, after_of_writes_sub spotOps _ spotOps_writes h10, after_of_writes_sub argOps _ argOps_writes h9, after_of_writes_sub distOps _ distOps_writes h8, after_of_writes_sub bookOps _ bookOps_writes h7, after_of_writes_sub seatOps _ seatOps_writes h6, after_of_writes_sub pickOps _ pickOps_writes h5, after_of_writes_sub biasOps _ biasOps_writes h4, after_of_writes_sub vecOps _ vecOps_writes h3, after_of_writes_sub projOps _ projOps_writes h2, after_of_writes_sub slabOps _ slabOps_writes h1, after_of_writes_sub slotOps _ slotOps_writes h0]

set_option maxRecDepth 100000 in
/-- The last stretch leaves the counter one step on. -/
theorem ctr_step (X : Valuation τ sig (Elt F)) :
    after stepOps X (Proc.devRef .tc main_v6_5) = addi (X (Proc.devRef .tc main_v6_5)) (constantI S_ 32 1#32) := by
  after_results
  rfl

/-- The condition writes no other buffer than its two. -/
theorem cond_ne (V : Valuation τ sig (Elt F)) {b : Ref sig .tc} (h : b ∉ condOps_W) :
    after condOps V (Proc.devRef .tc b) = V (Proc.devRef .tc b) :=
  after_of_writes_sub condOps V condOps_writes h

/-- The body is its work, then its last stretch. -/
theorem afterL_body (V : Valuation τ sig (Elt F)) : afterL bodyI V = after stepOps (afterL workI V) := rfl

/-- At the loop's entry the counter is 0. -/
theorem ctr_entry (c : Dev nD) : entryContents preI m c (Proc.devRef .tc main_v6_5) = fun _ => (0#32 : BitVec 32) := by
  simp only [entryContents, afterL_cons, afterL_nil]
  after_reads_simp
  rfl

/-- Before the `k`-th condition the counter is the loop's induction variable at `k`. -/
theorem atK_ctr (c : Dev nD) : ∀ k, atK m k c (Proc.devRef .tc main_v6_5) = fun _ => Scf.iv 0#32 1#32 k
  | 0 => by rw [show atK m 0 c = entryContents preI m c from rfl, ctr_entry, Scf.iv_zero]
  | k + 1 => by
    rw [show atK m (k + 1) c = afterL bodyI (after condOps (atK m k c)) from rfl, afterL_body, ctr_step,
      work_ne _ (by decide +kernel), cond_ne _ (by decide +kernel), atK_ctr c k, Scf.iv_succ]
    rfl

-- `iapply` of a rule stated for any thread at the TensorCore thread unifies only when unification may unfold
-- plain definitions in a metavariable's type
set_option backward.isDefEq.respectTransparency.types false in
/-- The condition's specification at the fold. -/
theorem cond_spec : CondSpec (pcfgs (F := F)) defs₀ loops (main_while0_cond (F := F)) condOps bodyI (entryContents preI m) 32 := by
  intro k hk c bd
  have hctr := atK_ctr m c k
  unfold main_while0_cond
  rw [wp_bind]
  iintro ⟨Hb, Hh⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (atK m k c) main_v6_5 HostLoop.idx0)
        (HloOp.result _ (atK m k c) main_while0c_c_14 HostLoop.idx0) = 1#1) (k < 32)
    rw [nullary_result_ne _ _ _ _ (by decide), nullary_result, hctr]
    exact Scf.cmpi_slt_iv_ub_iff (lb := 0#32) (ub := 32#32) (st := 1#32) (by decide) (show k ≤ Scf.trips 0#32 32#32 1#32 from hk)
  isplitl [Hb]; · iexact Hb
  rw [after_cons, after_cons, after_nil]; iexact Hh

set_option maxRecDepth 100000 in
/-- On every device, for any float values, from any memory with zero counters: every weakly fair execution of @main
    terminates with every unscoped TensorCore buffer at the fold. -/
theorem run_fold : θ_run (defs (F := F)) (onTc (τ := τ) (main (F := F))) ⟨m, fun _ => 0, ρ⟩
    (fun r => ∀ (c : Dev nD) (b : Ref sig .tc), (Proc.devRef .tc b : DevRef τ sig).isScoped = false →
      r.2.mem ((c.tc : Thread nD τ).loc b) = finalContents condOps preI bodyI postI 32 m c (Proc.devRef .tc b)) :=
  run_loop (pcfgs (F := F)) defs₀ loops main 0 main_while0_cond main_while0_body rfl preI bodyI postI condOps hpre hbodyI hpost
    (fun c => by rw [main_chain]; rfl) (by rw [body_chain]; rfl) 32 m ρ (cond_spec m)

end Cert.ReferenceIdeal.Value

end
-- ==== Proof.RefOps.lean ====
/-
The reference's operations that read or place a part of a tensor, at an index: the slice at a computed place, the argmin
over the codewords, the row of indices put in place, the codewords gathered.
-/
module

public import proofs.«01_k».proof.Proof.RefFacts
public import proofs.«01_k».proof.Proof.Inputs
public import Idealize.ShloMosaic.Lib.Routing.OpsSet
public import Idealize.ShloMosaic.Lib.Pointwise

@[expose] public section

set_option maxRecDepth 16384

noncomputable section

namespace Cert.ReferenceIdeal.Value

open Cert.ReferenceIdeal Cert.ReferenceIdeal.Gen Cert.Spec
open Idealize.ShloMosaic Idealize.ShloMosaic.TcCoe Idealize.ShloMosaic.Routing

/-! ## The slice at a computed place -/

/-- The slice of one member of a stack of matrices. -/
theorem slice3 {α : Type} {n0 n1 n2 : ℕ} (x : (⟨3, ![n0, n1, n2]⟩ : Shape).Idx → α) (st : Fin 3 → Int)
    (h : (⟨3, ![n0, n1, n2]⟩ : Shape).Slices (fun _ => 0) ⟨3, ![1, n1, n2]⟩) (k : Fin n0) (h0 : st 0 = (k.val : ℤ)) (h1 : st 1 = 0)
    (h2 : st 2 = 0) (p : Fin n1) (q : Fin n2) :
    Host.dynamicSlice ⟨3, ![1, n1, n2]⟩ x st h (ix3 0 p q) = x (ix3 k p q) := by
  rw [Host.dynamicSlice_apply, Shape.Idx.norm_def]
  refine congrArg x (funext fun a => Fin.ext ?_)
  dsimp only
  match a with
  | ⟨0, _⟩ =>
    exact (congrArg (· + _) (Host.clampedStart_of_le h.1 st 0 k.val h0 (by have := k.isLt; show k.val + 1 ≤ n0; omega))).trans (rfl)
  | ⟨1, _⟩ =>
    exact (congrArg (· + _) (Host.clampedStart_of_le h.1 st 1 0 h1 (by show 0 + n1 ≤ n1; omega))).trans (Nat.zero_add _)
  | ⟨2, _⟩ =>
    exact (congrArg (· + _) (Host.clampedStart_of_le h.1 st 2 0 h2 (by show 0 + n2 ≤ n2; omega))).trans (Nat.zero_add _)

/-- The slice of one row of a matrix. -/
theorem slice2 {α : Type} {n0 n1 : ℕ} (x : (⟨2, ![n0, n1]⟩ : Shape).Idx → α) (st : Fin 2 → Int)
    (h : (⟨2, ![n0, n1]⟩ : Shape).Slices (fun _ => 0) ⟨2, ![1, n1]⟩) (k : Fin n0) (h0 : st 0 = (k.val : ℤ)) (h1 : st 1 = 0) (p : Fin n1) :
    Host.dynamicSlice ⟨2, ![1, n1]⟩ x st h (ix2 0 p) = x (ix2 k p) := by
  rw [Host.dynamicSlice_apply, Shape.Idx.norm_def]
  refine congrArg x (funext fun a => Fin.ext ?_)
  dsimp only
  match a with
  | ⟨0, _⟩ =>
    exact (congrArg (· + _) (Host.clampedStart_of_le h.1 st 0 k.val h0 (by have := k.isLt; show k.val + 1 ≤ n0; omega))).trans (rfl)
  | ⟨1, _⟩ =>
    exact (congrArg (· + _) (Host.clampedStart_of_le h.1 st 1 0 h1 (by show 0 + n1 ≤ n1; omega))).trans (Nat.zero_add _)

/-! ## The argmin -/

/-- A value of a family with the word of its place. -/
def pair (f : Fin 8192 → ℝ) (n : Fin 8192) : EReal × BitVec 32 := ((f n : EReal), BitVec.ofNat 32 n.val)

/-- `k` comes no later than `m` in the order by value, then by place. -/
def Before (f : Fin 8192 → ℝ) (k m : Fin 8192) : Prop := f k < f m ∨ f k = f m ∧ k ≤ m

theorem Before.trans {f : Fin 8192 → ℝ} {a b c : Fin 8192} (h : Before f a b) (h' : Before f b c) : Before f a c := by
  rcases h with h | ⟨h, hk⟩ <;> rcases h' with h' | ⟨h', hk'⟩
  · exact Or.inl (h.trans h')
  · exact Or.inl (h' ▸ h)
  · exact Or.inl (h ▸ h')
  · exact Or.inr ⟨h.trans h', hk.trans hk'⟩

theorem Before.refl {f : Fin 8192 → ℝ} (a : Fin 8192) : Before f a a := Or.inr ⟨rfl, le_rfl⟩

/-- The words of two places compare as the places. -/
theorem slt_place (p q : Fin 8192) : IntOp.cmpi .slt (BitVec.ofNat 32 p.val) (BitVec.ofNat 32 q.val) = if p < q then 1#1 else 0#1 := by
  have hp := p.isLt
  have hq := q.isLt
  have e : (BitVec.ofNat 32 p.val).slt (BitVec.ofNat 32 q.val) = decide (p < q) := by
    rw [BitVec.slt_eq_decide, toInt_ofNat_of_lt (by omega), toInt_ofNat_of_lt (by omega)]
    exact decide_eq_decide.mpr Int.ofNat_lt
  show BitVec.ofBool ((BitVec.ofNat 32 p.val).slt (BitVec.ofNat 32 q.val)) = _
  rw [e]
  by_cases h : p < q <;> simp [h]

/-- The argmin's step keeps of two pairs the one that comes first. -/
theorem red_pair (f : Fin 8192 → ℝ) (p q : Fin 8192) :
    ∃ k, reducer_argmin_f32_i32 (F := Ideal) (pair f p) (pair f q) = pair f k ∧ Before f k p ∧ Before f k q := by
  unfold reducer_argmin_f32_i32 pair
  simp only [Ideal.cmpf_def, Ideal.cmp, slt_place]
  rcases lt_trichotomy (f p) (f q) with h | h | h
  · refine ⟨p, ?_, Before.refl _, Or.inl h⟩
    simp [h, h.ne, IntOp.ori, IntOp.andi, Scalar.select]
  · by_cases hk : p < q
    · refine ⟨p, ?_, Before.refl _, Or.inr ⟨h, hk.le⟩⟩
      simp [h, hk, IntOp.ori, IntOp.andi, Scalar.select]
    · refine ⟨q, ?_, Or.inr ⟨h.symm, not_lt.mp hk⟩, Before.refl _⟩
      simp [h, hk, IntOp.ori, IntOp.andi, Scalar.select]
  · refine ⟨q, ?_, Or.inl h, Before.refl _⟩
    simp [h.not_gt, h.ne', IntOp.ori, IntOp.andi, Scalar.select]

/-- From plus infinity the step takes the pair it meets. -/
theorem red_top (f : Fin 8192 → ℝ) (q : Fin 8192) :
    reducer_argmin_f32_i32 (F := Ideal) ((⊤ : EReal), 0#32) (pair f q) = pair f q := by
  unfold reducer_argmin_f32_i32 pair
  simp only [Ideal.cmpf_def, Ideal.cmp]
  simp [IntOp.ori, IntOp.andi, Scalar.select]

/-- The steps over a list of places end at one that comes first. -/
theorem fold_pair (f : Fin 8192 → ℝ) : ∀ (L : List (Fin 8192)) (k0 : Fin 8192),
    ∃ k, (L.map (pair f)).foldl (reducer_argmin_f32_i32 (F := Ideal)) (pair f k0) = pair f k ∧ ∀ m ∈ k0 :: L, Before f k m
  | [], k0 => ⟨k0, rfl, fun m hm => by rw [List.mem_singleton.mp hm]; exact Before.refl _⟩
  | q :: L, k0 => by
    obtain ⟨k1, h1, h10, h1q⟩ := red_pair f k0 q
    obtain ⟨k, hk, hb⟩ := fold_pair f L k1
    refine ⟨k, by rw [List.map_cons, List.foldl_cons, h1, hk], fun m hm => ?_⟩
    have hk1 := hb k1 (List.mem_cons_self ..)
    rcases List.mem_cons.mp hm with e | hm
    · exact e ▸ hk1.trans h10
    · rcases List.mem_cons.mp hm with e | hm
      · exact e ▸ hk1.trans h1q
      · exact hb m (List.mem_cons_of_mem _ hm)

/-- Over a list of every place, from plus infinity, the steps end at the first place of the least value. -/
theorem fold_first (f : Fin 8192 → ℝ) (L : List (Fin 8192)) (hL : ∀ m, m ∈ L) :
    (L.map (pair f)).foldl (reducer_argmin_f32_i32 (F := Ideal)) ((⊤ : EReal), 0#32) = pair f (first f) := by
  cases L with
  | nil => exact absurd (hL 0) List.not_mem_nil
  | cons q L =>
    rw [List.map_cons, List.foldl_cons, red_top]
    obtain ⟨k, hk, hb⟩ := fold_pair f L q
    rw [hk, eq_first (f := f) (k := k) ⟨fun m => ?_, fun m hm => ?_⟩]
    · rcases hb m (hL m) with h | ⟨h, -⟩
      · exact h.le
      · exact h.le
    · rcases hb m (hL m) with h | ⟨-, h⟩
      · exact h
      · exact absurd h (not_le.mpr hm)

/-- The codeword's coordinate of a place in the tensor of distances. -/
def codeword (i : S4x512x8192.Idx) : Fin 8192 := i 2

/-- The reference's argmin over the codewords, at a row: the first place of the least value. -/
theorem argmin_at (X : FVec Ideal S4x512x8192 .f32) (g : Fin 4 → Fin 512 → Fin 8192 → ℝ) (hX : ∀ b s n, X (ix3 b s n) = ((g b s n : ℝ) : EReal))
    (y : IVec S4x512x8192 32) (hy : ∀ b s n, y (ix3 b s n) = BitVec.ofNat 32 n.val) (u : FVec Ideal S_ .f32) (hu : ∀ z, u z = (⊤ : EReal))
    (v : IVec S_ 32) (hv : ∀ z, v z = 0#32) (b : Fin 4) (s : Fin 512) :
    (Host.argReduce reducer_argmin_f32_i32 X y u v reducesTo_S4x512x8192_S4x512_d2 h_S_ (ix2 b s)).2
      = BitVec.ofNat 32 (first (g b s)).val := by
  rw [Ideal.argReduce_eq_reduce2, Host.reduce2_eq_foldl_fiber, hu, hv, Host.argReduceFiber]
  have key : ∀ i : S4x512x8192.Idx, reducesTo_S4x512x8192_S4x512_d2.drop i = ix2 b s ↔ ∃ n : Fin 8192, ix3 b s n = i :=
    fun i => (show S4x512x8192.Reduces [2] S4x512 by decide +kernel).fiber_r3_a2 (ix2 b s) i
  refine (congrArg (fun L => (List.foldl (reducer_argmin_f32_i32 (F := Ideal)) ((⊤ : EReal), 0#32) L).2) ?_).trans
    (congrArg Prod.snd (fold_first (g b s)
      (((List.finRange S4x512x8192.numel).filter fun n => reducesTo_S4x512x8192_S4x512_d2.drop (S4x512x8192.rowMajor.symm n) = ix2 b s).map
        fun n => codeword (S4x512x8192.rowMajor.symm n)) ?_))
  · rw [List.map_map]
    refine List.map_congr_left fun n hn => ?_
    obtain ⟨k, hk⟩ := (key _).mp (of_decide_eq_true (List.mem_filter.mp hn).2)
    show (X _, y _) = pair (g b s) (codeword (S4x512x8192.rowMajor.symm n))
    rw [← hk, hX, hy]
    rfl
  · intro n
    refine List.mem_map.mpr ⟨S4x512x8192.rowMajor (ix3 b s n), List.mem_filter.mpr ⟨List.mem_finRange _, decide_eq_true ?_⟩, ?_⟩
    · rw [Equiv.symm_apply_apply]
      exact (key _).mpr ⟨n, rfl⟩
    · rw [Equiv.symm_apply_apply]
      rfl

/-! ## The row of indices put in place, the codewords gathered -/

/-- A row set in the tensor of indices: it holds the row there, what it held elsewhere. -/
theorem set_row (x : IVec S32x4x512 32) (idx : IVec S1 32) (upd : IVec S4x512 32) (k : Fin 32) (hk : ∀ z, idx z = BitVec.ofNat 32 k.val)
    (i : Fin 32) (b : Fin 4) (s : Fin 512) :
    Host.scatter scatter_S32x4x512_S1_S4x512_01_0_0_0 (fun _ b => b) x idx upd (ix3 i b s)
      = if i = k then upd (ix2 b s) else x (ix3 i b s) := by
  have key : ∀ j : S4x512.Idx, scatter_S32x4x512_S1_S4x512_01_0_0_0.resultIdx? j idx = some (ix3 i b s) ↔ i = k ∧ j = ix2 b s := fun j => by
    have e0 : scatter_S32x4x512_S1_S4x512_01_0_0_0.start j idx 0 = (k.val : ℤ) := by
      unfold ScatterDims.start
      rw [dif_pos (by decide), hk, toInt_ofNat_of_lt (by have := k.isLt; omega)]
    have e1 : scatter_S32x4x512_S1_S4x512_01_0_0_0.start j idx 1 = 0 := by
      unfold ScatterDims.start
      rw [dif_neg (by decide)]
    have e2 : scatter_S32x4x512_S1_S4x512_01_0_0_0.start j idx 2 = 0 := by
      unfold ScatterDims.start
      rw [dif_neg (by decide)]
    have w0 : scatter_S32x4x512_S1_S4x512_01_0_0_0.window j 0 = 0 := rfl
    have w1 : scatter_S32x4x512_S1_S4x512_01_0_0_0.window j 1 = (j 0).val := rfl
    have w2 : scatter_S32x4x512_S1_S4x512_01_0_0_0.window j 2 = (j 1).val := rfl
    rw [resultIdx?_eq_some]
    constructor
    · intro h
      have h0 := h 0
      have h1 := h 1
      have h2 := h 2
      rw [e0, w0] at h0
      rw [e1, w1] at h1
      rw [e2, w2] at h2
      have h0' : (k.val : ℤ) + 0 = (i.val : ℤ) := h0
      have h1' : 0 + ((j 0).val : ℤ) = (b.val : ℤ) := h1
      have h2' : 0 + ((j 1).val : ℤ) = (s.val : ℤ) := h2
      refine ⟨Fin.ext (by omega), funext fun a => Fin.ext ?_⟩
      match a with
      | ⟨0, _⟩ => exact (by omega : (j 0).val = b.val)
      | ⟨1, _⟩ => exact (by omega : (j 1).val = s.val)
    · rintro ⟨rfl, rfl⟩ a
      match a with
      | ⟨0, _⟩ => show scatter_S32x4x512_S1_S4x512_01_0_0_0.start _ idx 0 + ((scatter_S32x4x512_S1_S4x512_01_0_0_0.window _ 0 : ℕ) : ℤ) = _; rw [e0, w0]; exact add_zero _
      | ⟨1, _⟩ => show scatter_S32x4x512_S1_S4x512_01_0_0_0.start _ idx 1 + ((scatter_S32x4x512_S1_S4x512_01_0_0_0.window _ 1 : ℕ) : ℤ) = _; rw [e1, w1]; exact zero_add _
      | ⟨2, _⟩ => show scatter_S32x4x512_S1_S4x512_01_0_0_0.start _ idx 2 + ((scatter_S32x4x512_S1_S4x512_01_0_0_0.window _ 2 : ℕ) : ℤ) = _; rw [e2, w2]; exact zero_add _
  by_cases h : i = k
  · rw [if_pos h]
    exact scatter_set_hit _ x idx upd _ _ (fun j hj => by rw [((key j).mp hj).2]) (ix2 b s) ((key _).mpr ⟨h, rfl⟩)
  · rw [if_neg h]
    exact scatter_set_miss _ x idx upd _ fun j hj => h ((key j).mp hj).1

/-- The codewords gathered, at a row whose word is a codeword's place. -/
theorem gather_at {α : Type} (x : S8192x32.Idx → α) (idx : IVec S4x512x1 32) (b : Fin 4) (s : Fin 512) (d : Fin 32) (n : Fin 8192)
    (hn : idx (ix3 b s 0) = BitVec.ofNat 32 n.val) :
    Host.gather gather_S8192x32_S4x512x1_S4x512x32_2_0_n_n_0_2_132 x idx (ix3 b s d) = x (ix2 n d) := by
  unfold Host.gather
  refine congrArg x (funext fun a => Fin.ext ?_)
  have e0 : gather_S8192x32_S4x512x1_S4x512x32_2_0_n_n_0_2_132.start (ix3 b s d) idx 0 = n.val := by
    unfold GatherDims.start
    rw [dif_pos (by decide)]
    have hi : gather_S8192x32_S4x512x1_S4x512x32_2_0_n_n_0_2_132.siIdx (ix3 b s d) ⟨([0] : List (Fin 2)).idxOf 0, by decide⟩ = ix3 b s 0 := by
      funext a
      match a with
      | ⟨0, _⟩ => rfl
      | ⟨1, _⟩ => rfl
      | ⟨2, _⟩ => rfl
    have hi' : idx (gather_S8192x32_S4x512x1_S4x512x32_2_0_n_n_0_2_132.siIdx (ix3 b s d) ⟨([0] : List (Fin 2)).idxOf 0, by decide⟩) = BitVec.ofNat 32 n.val := by
      rw [hi, hn]
    have hl := n.isLt
    refine (congrArg (fun w : BitVec 32 => min w.toInt.toNat (8192 - 1)) hi').trans ?_
    rw [toInt_ofNat_of_lt (by omega)]
    show min n.val 8191 = n.val
    omega
  match a with
  | ⟨0, _⟩ =>
    show gather_S8192x32_S4x512x1_S4x512x32_2_0_n_n_0_2_132.start (ix3 b s d) idx 0 + 0 + 0 = _
    rw [e0]
    rfl
  | ⟨1, _⟩ =>
    show 0 + 0 + d.val = d.val
    omega

end Cert.ReferenceIdeal.Value
end
-- ==== Proof.RefStages.lean ====
/-
What each stretch of the reference's operations leaves in the buffers a later stretch reads, at the ideal instance, when
the buffers it reads hold real numbers.
-/
module

public import proofs.«01_k».proof.Proof.RefRun
public import proofs.«01_k».proof.Proof.RefOps

@[expose] public section

set_option maxRecDepth 100000

noncomputable section

namespace Cert.ReferenceIdeal.Value

open Cert.ReferenceIdeal Cert.ReferenceIdeal.Gen Cert.Spec
open Idealize.ShloMosaic Idealize.ShloMosaic.TcCoe Idealize.ShloMosaic.Tactic Idealize.ShloMosaic.StableHlo

/-- A matrix of extended reals holds the real numbers `f`. -/
def Real2 {n0 n1 : ℕ} (x : (⟨2, ![n0, n1]⟩ : Shape).Idx → EReal) (f : Fin n0 → Fin n1 → ℝ) : Prop :=
  ∀ a b, x (ix2 a b) = ((f a b : ℝ) : EReal)

/-- A stack of matrices of extended reals holds the real numbers `f`. -/
def Real3 {n0 n1 n2 : ℕ} (x : (⟨3, ![n0, n1, n2]⟩ : Shape).Idx → EReal) (f : Fin n0 → Fin n1 → Fin n2 → ℝ) : Prop :=
  ∀ a b c, x (ix3 a b c) = ((f a b c : ℝ) : EReal)

variable (V : Valuation τ sig (Elt Ideal))

/-- The word of a place below 10, clamped and wrapped as an index is. -/
theorem wrap10 : ∀ k : Fin 10, (IntOp.minsi (BitVec.ofNat 32 k.val) 9#32 = BitVec.ofNat 32 k.val)
    ∧ Scalar.select (IntOp.cmpi .slt (BitVec.ofNat 32 k.val) 0#32) (IntOp.addi (BitVec.ofNat 32 k.val) 10#32) (BitVec.ofNat 32 k.val)
      = BitVec.ofNat 32 k.val := by decide

/-- The word of a place below 32, wrapped as an index is; the next; whether it is below 10. -/
theorem wrap32 : ∀ k : Fin 32, (Scalar.select (IntOp.cmpi .slt (BitVec.ofNat 32 k.val) 0#32) (IntOp.addi (BitVec.ofNat 32 k.val) 32#32) (BitVec.ofNat 32 k.val)
      = BitVec.ofNat 32 k.val)
    ∧ IntOp.addi (BitVec.ofNat 32 k.val) 1#32 = BitVec.ofNat 32 (k.val + 1)
    ∧ IntOp.cmpi .slt (BitVec.ofNat 32 k.val) 10#32 = if k.val < 10 then 1#1 else 0#1 := by decide

/-- The word of a codeword's place, wrapped as an index is. -/
theorem wrap8192 (n : Fin 8192) : Scalar.select (IntOp.cmpi .slt (BitVec.ofNat 32 n.val) 0#32) (IntOp.addi (BitVec.ofNat 32 n.val) 8192#32) (BitVec.ofNat 32 n.val)
    = BitVec.ofNat 32 n.val := by
  have e := slt_place n 0
  have h0 : ¬ n < 0 := Fin.not_lt_zero n
  rw [if_neg h0] at e
  have e' : IntOp.cmpi .slt (BitVec.ofNat 32 n.val) 0#32 = 0#1 := e
  rw [e']
  rfl

/-- A word spread over a vector of one. -/
theorem spread_word (x : IVec S_ 32) (w : BitVec 32) (h : x = fun _ => w) (z : S1.Idx) : broadcastInDim S1 ![] bcast_S_S1 x z = w := by
  subst h
  rfl

section Index
variable (k : Fin 32) (hi : V (Proc.devRef .tc main_v6_6) = fun _ => BitVec.ofNat 32 k.val)
include hi

theorem slot_next : after slotOps V (Proc.devRef .tc main_while0b_v10) = fun _ => BitVec.ofNat 32 (k.val + 1) := by
  after_results
  funext z
  refine (congrFun (congrArg (fun x => addi x (constantI S_ 32 1#32)) hi) z).trans ?_
  exact (wrap32 k).2.1

theorem bias_test : after biasOps V (Proc.devRef .tc main_while0b_v37) = fun _ => if k.val < 10 then 1#1 else 0#1 := by
  after_results
  funext z
  refine (congrFun (congrArg (fun x => cmpi .slt x (constantI S_ 32 10#32)) hi) z).trans ?_
  exact (wrap32 k).2.2

theorem seat_0 : after seatOps V (Proc.devRef .tc main_while0b_v47) = fun _ => BitVec.ofNat 32 k.val := by
  after_results
  funext z
  refine (congrFun (congrArg (fun x => select (cmpi .slt x (constantI S_ 32 0#32)) (addi x (constantI S_ 32 32#32)) x) hi) z).trans ?_
  exact (wrap32 k).1

theorem spot_word : after spotOps V (Proc.devRef .tc main_while0b_v77) = fun _ => BitVec.ofNat 32 k.val := by
  after_results
  funext z
  refine spread_word _ _ (funext fun y => ?_) z
  refine (congrFun (congrArg (fun x => select (cmpi .slt x (constantI S_ 32 0#32)) (addi x (constantI S_ 32 32#32)) x) hi) y).trans ?_
  exact (wrap32 k).1

end Index

section Index10
variable (k : Fin 10) (hi : V (Proc.devRef .tc main_v6_6) = fun _ => BitVec.ofNat 32 k.val)

include hi in
theorem slot_clamp : after slotOps V (Proc.devRef .tc main_while0b_v11) = fun _ => BitVec.ofNat 32 k.val := by
  after_results
  funext z
  refine (congrFun (congrArg (fun x => minsi x (constantI S_ 32 9#32)) hi) z).trans ?_
  exact (wrap10 k).1

include hi in
theorem slot_0 : after slotOps V (Proc.devRef .tc main_while0b_v15) = fun _ => BitVec.ofNat 32 k.val := by
  after_results
  funext z
  refine (congrFun (congrArg (fun x => select (cmpi .slt (minsi x (constantI S_ 32 9#32)) (constantI S_ 32 0#32))
    (addi (minsi x (constantI S_ 32 9#32)) (constantI S_ 32 10#32)) (minsi x (constantI S_ 32 9#32))) hi) z).trans ?_
  show Scalar.select (IntOp.cmpi .slt (IntOp.minsi (BitVec.ofNat 32 k.val) 9#32) 0#32)
    (IntOp.addi (IntOp.minsi (BitVec.ofNat 32 k.val) 9#32) 10#32) (IntOp.minsi (BitVec.ofNat 32 k.val) 9#32) = _
  rw [(wrap10 k).1, (wrap10 k).2]

theorem proj_0 (h : V (Proc.devRef .tc main_while0b_v11) = fun _ => BitVec.ofNat 32 k.val) :
    after projOps V (Proc.devRef .tc main_while0b_v28) = fun _ => BitVec.ofNat 32 k.val := by
  after_results
  funext z
  refine (congrFun (congrArg (fun x => select (cmpi .slt x (constantI S_ 32 0#32)) (addi x (constantI S_ 32 10#32)) x) h) z).trans ?_
  exact (wrap10 k).2

end Index10

theorem slot_1 : after slotOps V (Proc.devRef .tc main_while0b_v18) = fun _ => 0#32 := by
  after_results
  rfl

theorem slot_2 : after slotOps V (Proc.devRef .tc main_while0b_v21) = fun _ => 0#32 := by
  after_results
  rfl

theorem proj_1 : after projOps V (Proc.devRef .tc main_while0b_v31) = fun _ => 0#32 := by
  after_results
  rfl

theorem seat_1 : after seatOps V (Proc.devRef .tc main_while0b_v50) = fun _ => 0#32 := by
  after_results
  rfl

theorem seat_2 : after seatOps V (Proc.devRef .tc main_while0b_v53) = fun _ => 0#32 := by
  after_results
  rfl

/-! ## The bias -/

theorem slab_at (k : Fin 10) (w : Fin 10 → Fin 4096 → Fin 32 → ℝ) (hw : Real3 (V (Proc.devRef .tc main_v6_0)) w)
    (h0 : V (Proc.devRef .tc main_while0b_v15) = fun _ => BitVec.ofNat 32 k.val) (h1 : V (Proc.devRef .tc main_while0b_v18) = fun _ => 0#32)
    (h2 : V (Proc.devRef .tc main_while0b_v21) = fun _ => 0#32) :
    Real3 (after slabOps V (Proc.devRef .tc main_while0b_v22)) fun (_ : Fin 1) => w k := by
  intro a q d
  obtain rfl : a = 0 := Subsingleton.elim _ _
  after_results
  refine (slice3 (V (Proc.devRef .tc main_v6_0)) _ _ k ?_ ?_ ?_ q d).trans (hw k q d)
  · refine (congrArg BitVec.toInt (congrFun h0 (Shape.Idx.first h_S_))).trans ?_
    exact toInt_ofNat_of_lt (by have := k.isLt; omega)
  · exact congrArg BitVec.toInt (congrFun h1 (Shape.Idx.first h_S_))
  · exact congrArg BitVec.toInt (congrFun h2 (Shape.Idx.first h_S_))

theorem proj_at (sem : Fin 4 → Fin 4096 → ℝ) (w : Fin 4096 → Fin 32 → ℝ) (hs : Real2 (V (Proc.devRef .tc main_v6_1)) sem)
    (hw : Real3 (V (Proc.devRef .tc main_while0b_v22)) fun (_ : Fin 1) => w) :
    Real2 (after projOps V (Proc.devRef .tc main_while0b_v24)) fun b d => ∑ q, sem b q * w q d := by
  intro b d
  after_results
  pointwise
  rw [coe_sum]
  refine Finset.sum_congr rfl fun q _ => ?_
  rw [EReal.coe_mul]
  exact congrArg₂ (· * ·) (hs b q) (hw 0 q d)

theorem vec_at (k : Fin 10) (v : Fin 10 → Fin 32 → ℝ) (hv : Real2 (V (Proc.devRef .tc main_v6_2)) v)
    (h0 : V (Proc.devRef .tc main_while0b_v28) = fun _ => BitVec.ofNat 32 k.val) (h1 : V (Proc.devRef .tc main_while0b_v31) = fun _ => 0#32) :
    Real2 (after vecOps V (Proc.devRef .tc main_while0b_v32)) fun (_ : Fin 1) => v k := by
  intro a d
  obtain rfl : a = 0 := Subsingleton.elim _ _
  after_results
  refine (slice2 (V (Proc.devRef .tc main_v6_2)) _ _ k ?_ ?_ d).trans (hv k d)
  · refine (congrArg BitVec.toInt (congrFun h0 (Shape.Idx.first h_S_))).trans ?_
    exact toInt_ofNat_of_lt (by have := k.isLt; omega)
  · exact congrArg BitVec.toInt (congrFun h1 (Shape.Idx.first h_S_))

theorem bias_at (p : Fin 4 → Fin 32 → ℝ) (v : Fin 32 → ℝ) (r : Fin 4 → Fin 512 → Fin 32 → ℝ)
    (hp : Real2 (V (Proc.devRef .tc main_while0b_v24)) p) (hv : Real2 (V (Proc.devRef .tc main_while0b_v32)) fun (_ : Fin 1) => v)
    (hr : Real3 (V (Proc.devRef .tc main_v6_7)) r) :
    Real3 (after biasOps V (Proc.devRef .tc main_while0b_v42)) fun b s d => r b s d + scale * (p b d + v d) := by
  intro b s d
  after_results
  pointwise
  rw [EReal.coe_add, EReal.coe_mul, EReal.coe_add, ← ofBits_scale]
  exact congrArg₂ (· + ·) (hr b s d) (congrArg (_ * ·) (congrArg₂ (· + ·) (hp b d) (hv 0 d)))

theorem pick_biased (f : Fin 4 → Fin 512 → Fin 32 → ℝ) (ht : V (Proc.devRef .tc main_while0b_v37) = fun _ => 1#1)
    (hf : Real3 (V (Proc.devRef .tc main_while0b_v42)) f) : Real3 (after pickOps V (Proc.devRef .tc main_while0b_v43)) f := by
  intro b s d
  after_results
  refine (congrFun (congrArg (fun t => select (broadcastInDim S4x512x32 ![] bcast_S_S4x512x32 t) (V (Proc.devRef .tc main_while0b_v42))
    (V (Proc.devRef .tc main_v6_7))) ht) (ix3 b s d)).trans ?_
  exact hf b s d

theorem pick_plain (f : Fin 4 → Fin 512 → Fin 32 → ℝ) (ht : V (Proc.devRef .tc main_while0b_v37) = fun _ => 0#1)
    (hf : Real3 (V (Proc.devRef .tc main_v6_7)) f) : Real3 (after pickOps V (Proc.devRef .tc main_while0b_v43)) f := by
  intro b s d
  after_results
  refine (congrFun (congrArg (fun t => select (broadcastInDim S4x512x32 ![] bcast_S_S4x512x32 t) (V (Proc.devRef .tc main_while0b_v42))
    (V (Proc.devRef .tc main_v6_7))) ht) (ix3 b s d)).trans ?_
  exact hf b s d

/-! ## The nearest codewords -/

theorem book_at (k : Fin 32) (C : Fin 32 → Fin 8192 → Fin 32 → ℝ) (hC : Real3 (V (Proc.devRef .tc main_v6_3)) C)
    (h0 : V (Proc.devRef .tc main_while0b_v47) = fun _ => BitVec.ofNat 32 k.val) (h1 : V (Proc.devRef .tc main_while0b_v50) = fun _ => 0#32)
    (h2 : V (Proc.devRef .tc main_while0b_v53) = fun _ => 0#32) :
    Real3 (after bookOps V (Proc.devRef .tc main_while0b_v54)) fun (_ : Fin 1) => C k := by
  intro a q d
  obtain rfl : a = 0 := Subsingleton.elim _ _
  after_results
  refine (slice3 (V (Proc.devRef .tc main_v6_3)) _ _ k ?_ ?_ ?_ q d).trans (hC k q d)
  · refine (congrArg BitVec.toInt (congrFun h0 (Shape.Idx.first h_S_))).trans ?_
    exact toInt_ofNat_of_lt (by have := k.isLt; omega)
  · exact congrArg BitVec.toInt (congrFun h1 (Shape.Idx.first h_S_))
  · exact congrArg BitVec.toInt (congrFun h2 (Shape.Idx.first h_S_))

/-- The root of the distance as the reference takes it. -/
theorem dist_read (R : Fin 32 → EReal) (r : Fin 32 → ℝ) (hr : ∀ x, R x = ((r x : ℝ) : EReal)) (K : Fin 32 → EReal) (c : Fin 32 → ℝ)
    (hc : ∀ x, K x = ((c x : ℝ) : EReal)) :
    Ideal.sqrt (max (∑ x, R x * R x - Ideal.ofBits .f32 0x40000000#32 * ∑ x, R x * K x + ∑ x, K x * K x) 0)
      = ((Real.sqrt (Spec.dist r c) : ℝ) : EReal) := by
  have e : Spec.dist r c = ∑ x, r x * r x - 2 * ∑ x, r x * c x + ∑ x, c x * c x := by
    unfold Spec.dist
    rw [Finset.mul_sum]
    refine congrArg (∑ x, r x * r x - · + ∑ x, c x * c x) (Finset.sum_congr rfl fun x _ => by ring)
  have hn := dist_nonneg r c
  simp only [hr, hc, ofBits_two, ← EReal.coe_mul, ← coe_sum, ← EReal.coe_sub, ← EReal.coe_add, ← e]
  rw [max_eq_left (by exact_mod_cast hn)]
  exact if_neg (not_lt.mpr hn)

section Dist
variable (C : Fin 8192 → Fin 32 → ℝ) (hC : Real3 (V (Proc.devRef .tc main_while0b_v54)) fun (_ : Fin 1) => C)
include hC

theorem dist_book : Real2 (after distOps V (Proc.devRef .tc main_while0b_v55)) C := by
  intro n d
  after_results
  pointwise
  exact hC 0 n d

theorem dist_at (r : Fin 4 → Fin 512 → Fin 32 → ℝ) (hr : Real3 (V (Proc.devRef .tc main_while0b_v43)) r) :
    Real3 (after distOps V (Proc.devRef .tc main_while0b_v71)) fun b s n => Real.sqrt (Spec.dist (r b s) (C n)) := by
  intro b s n
  after_results
  pointwise
  have e1 : ∀ x, V (Proc.devRef .tc main_while0b_v43) (ix3 b s x) = ((r b s x : ℝ) : EReal) := hr b s
  have e2 : ∀ x, V (Proc.devRef .tc main_while0b_v54) (ix3 0 n x) = ((C n x : ℝ) : EReal) := hC 0 n
  exact dist_read _ _ e1 _ _ e2

end Dist

/-- The places along the codewords' axis. -/
theorem iota_at (b : Fin 4) (s : Fin 512) (n : Fin 8192) : iotaInDim S4x512x8192 32 2 (ix3 b s n) = BitVec.ofNat 32 n.val := by
  pointwise

/-- A function of the argmin's four operands, applied to the buffers that hold them. -/
theorem arg_operands (G : FVec Ideal S4x512x8192 .f32 → IVec S4x512x8192 32 → FVec Ideal S_ .f32 → IVec S_ 32 → IVec S4x512 32)
    (X : FVec Ideal S4x512x8192 .f32) (Y : IVec S4x512x8192 32) (U : FVec Ideal S_ .f32) (W : IVec S_ 32) :
    (TRef.of main_while0b_v72 : TRef sig ⟨S4x512, .i32⟩).toBuf (Val := Elt Ideal) (G ((TRef.of main_while0b_v71 : TRef sig ⟨S4x512x8192, .f32⟩).ofBuf (Val := Elt Ideal) X)
      ((TRef.of main_while0b_call1_v0 : TRef sig ⟨S4x512x8192, .i32⟩).ofBuf (Val := Elt Ideal) ((TRef.of main_while0b_call1_v0 : TRef sig ⟨S4x512x8192, .i32⟩).toBuf (Val := Elt Ideal) Y))
      ((TRef.of main_while0b_call1_cst : TRef sig ⟨S_, .f32⟩).ofBuf (Val := Elt Ideal) ((TRef.of main_while0b_call1_cst : TRef sig ⟨S_, .f32⟩).toBuf (Val := Elt Ideal) U))
      ((TRef.of main_while0b_call1_c : TRef sig ⟨S_, .i32⟩).ofBuf (Val := Elt Ideal) ((TRef.of main_while0b_call1_c : TRef sig ⟨S_, .i32⟩).toBuf (Val := Elt Ideal) W))) = G X Y U W :=
  rfl

theorem arg_at (g : Fin 4 → Fin 512 → Fin 8192 → ℝ) (hg : Real3 (V (Proc.devRef .tc main_while0b_v71)) g) (b : Fin 4) (s : Fin 512) :
    after argOps V (Proc.devRef .tc main_while0b_v72) (ix2 b s) = BitVec.ofNat 32 (first (g b s)).val := by
  after_results
  refine (congrFun (arg_operands (fun x y u v j => (Host.argReduce reducer_argmin_f32_i32 x y u v reducesTo_S4x512x8192_S4x512_d2 h_S_ j).2)
    (V (Proc.devRef .tc main_while0b_v71)) (iotaInDim S4x512x8192 32 2) (constant S_ .f32 0x7F800000#32) (constantI S_ 32 0#32)) (ix2 b s)).trans ?_
  exact argmin_at _ g hg _ iota_at _ (fun z => ofBits_inf) _ (fun z => rfl) b s

theorem row_at (k : Fin 32) (h : V (Proc.devRef .tc main_while0b_v77) = fun _ => BitVec.ofNat 32 k.val) (i : Fin 32) (b : Fin 4) (s : Fin 512) :
    after rowOps V (Proc.devRef .tc main_while0b_v78) (ix3 i b s)
      = if i = k then V (Proc.devRef .tc main_while0b_v72) (ix2 b s) else V (Proc.devRef .tc main_v6_9) (ix3 i b s) := by
  after_results
  exact set_row (V (Proc.devRef .tc main_v6_9)) (V (Proc.devRef .tc main_while0b_v77)) (V (Proc.devRef .tc main_while0b_v72)) k (congrFun h) i b s

theorem near_at (t : Fin 4 → Fin 512 → Fin 8192) (ht : ∀ b s, V (Proc.devRef .tc main_while0b_v72) (ix2 b s) = BitVec.ofNat 32 (t b s).val)
    (b : Fin 4) (s : Fin 512) : after nearOps V (Proc.devRef .tc main_while0b_v84) (ix3 b s 0) = BitVec.ofNat 32 (t b s).val := by
  after_results
  pointwise
  rw [ht]
  exact wrap8192 (t b s)

section Word
variable (C : Fin 8192 → Fin 32 → ℝ) (hC : Real2 (V (Proc.devRef .tc main_while0b_v55)) C) (t : Fin 4 → Fin 512 → Fin 8192)
  (ht : ∀ b s, V (Proc.devRef .tc main_while0b_v84) (ix3 b s 0) = BitVec.ofNat 32 (t b s).val)
include hC ht

theorem word_at : Real3 (after wordOps V (Proc.devRef .tc main_while0b_v85)) fun b s => C (t b s) := by
  intro b s d
  after_results
  exact (gather_at (V (Proc.devRef .tc main_while0b_v55)) (V (Proc.devRef .tc main_while0b_v84)) b s d (t b s) (ht b s)).trans (hC (t b s) d)

theorem word_sum (q : Fin 4 → Fin 512 → Fin 32 → ℝ) (hq : Real3 (V (Proc.devRef .tc main_v6_8)) q) :
    Real3 (after wordOps V (Proc.devRef .tc main_while0b_v86)) fun b s d => q b s d + C (t b s) d := by
  intro b s d
  after_results
  rw [EReal.coe_add]
  exact congrArg₂ (· + ·) (hq b s d)
    ((gather_at (V (Proc.devRef .tc main_while0b_v55)) (V (Proc.devRef .tc main_while0b_v84)) b s d (t b s) (ht b s)).trans (hC (t b s) d))

end Word

/-- The loss with a step's mean added, as the reference takes it. -/
theorem loss_read (P : S4x512x32.Idx → EReal) (p : Fin 4 → Fin 512 → Fin 32 → ℝ) (hp : Real3 P p) (X : S4x512x32.Idx → EReal)
    (x : Fin 4 → Fin 512 → Fin 32 → ℝ) (hx : Real3 X x) (L : EReal) (l : ℝ) (hl : L = (l : EReal)) :
    L + Ideal.div (∑ b : Fin 4, ∑ s : Fin 512, ∑ d : Fin 32, (P (ix3 b s d) - X (ix3 b s d)) * (P (ix3 b s d) - X (ix3 b s d)))
        (Ideal.ofBits .f32 0x47800000#32)
      = ((l + (∑ b, ∑ s, ∑ d, (p b s d - x b s d) * (p b s d - x b s d)) / 65536 : ℝ) : EReal) := by
  simp only [hp _ _ _, hx _ _ _, hl, ← EReal.coe_sub, ← EReal.coe_mul, ← coe_sum, ofBits_count, div_count, ← EReal.coe_add]

section Mean
variable (p : Fin 4 → Fin 512 → Fin 32 → ℝ) (hp : Real3 (V (Proc.devRef .tc main_while0b_v85)) p)
include hp

theorem mean_res (r : Fin 4 → Fin 512 → Fin 32 → ℝ) (hr : Real3 (V (Proc.devRef .tc main_while0b_v43)) r) :
    Real3 (after meanOps V (Proc.devRef .tc main_while0b_v87)) fun b s d => r b s d - p b s d := by
  intro b s d
  after_results
  rw [EReal.coe_sub]
  exact congrArg₂ (· - ·) (hr b s d) (hp b s d)

theorem mean_loss (x : Fin 4 → Fin 512 → Fin 32 → ℝ) (hx : Real3 (V (Proc.devRef .tc main_v6_4)) x) (l : ℝ)
    (hl : ∀ z, V (Proc.devRef .tc main_v6_10) z = (l : EReal)) (z : S_.Idx) :
    after meanOps V (Proc.devRef .tc main_while0b_v92) z
      = ((l + (∑ b, ∑ s, ∑ d, (p b s d - x b s d) * (p b s d - x b s d)) / 65536 : ℝ) : EReal) := by
  after_results
  pointwise
  have e1 : ∀ b s d, V (Proc.devRef .tc main_while0b_v85) (ix3 b s d) = ((p b s d : ℝ) : EReal) := hp
  have e2 : ∀ b s d, V (Proc.devRef .tc main_v6_4) (ix3 b s d) = ((x b s d : ℝ) : EReal) := hx
  exact loss_read _ p e1 _ x e2 _ l (hl z)

end Mean

/-! ## The entry and the exit -/

theorem entry_x (a : Fin 4 → Fin 512 → Fin 512 → ℝ) (w : Fin 512 → Fin 32 → ℝ) (c : Fin 32 → ℝ)
    (ha : Real3 (V (Proc.devRef .tc main_arg0)) a) (hw : Real2 (V (Proc.devRef .tc main_arg2)) w)
    (hc : ∀ d : Fin 32, V (Proc.devRef .tc main_arg3) (ix1 d) = ((c d : ℝ) : EReal)) :
    Real3 (after entryOps V (Proc.devRef .tc main_v3)) fun b s d => ∑ k, a b s k * w k d + c d := by
  intro b s d
  after_results
  pointwise
  rw [EReal.coe_add, coe_sum]
  refine congrArg₂ (· + ·) (Finset.sum_congr rfl fun q _ => ?_) (hc d)
  rw [EReal.coe_mul]
  exact congrArg₂ (· * ·) (ha b s q) (hw q d)

theorem entry_6_4 : after entryOps V (Proc.devRef .tc main_v6_4) = after entryOps V (Proc.devRef .tc main_v3) := by
  after_results
  rfl

theorem entry_6_7 : after entryOps V (Proc.devRef .tc main_v6_7) = after entryOps V (Proc.devRef .tc main_v3) := by
  after_results
  rfl

theorem entry_6_0 : after entryOps V (Proc.devRef .tc main_v6_0) = V (Proc.devRef .tc main_arg5) := by
  after_results
  rfl

theorem entry_6_1 : after entryOps V (Proc.devRef .tc main_v6_1) = V (Proc.devRef .tc main_arg1) := by
  after_results
  rfl

theorem entry_6_2 : after entryOps V (Proc.devRef .tc main_v6_2) = V (Proc.devRef .tc main_arg6) := by
  after_results
  rfl

theorem entry_6_3 : after entryOps V (Proc.devRef .tc main_v6_3) = V (Proc.devRef .tc main_arg4) := by
  after_results
  rfl

theorem entry_6_6 : after entryOps V (Proc.devRef .tc main_v6_6) = fun _ => 0#32 := by
  after_results
  rfl

theorem entry_6_8 : Real3 (after entryOps V (Proc.devRef .tc main_v6_8)) fun (_ : Fin 4) (_ : Fin 512) (_ : Fin 32) => 0 := by
  intro b s d
  after_results
  simp only [id]
  pointwise
  exact EReal.coe_zero.symm

theorem entry_6_10 (z : S_.Idx) : after entryOps V (Proc.devRef .tc main_v6_10) z = ((0 : ℝ) : EReal) := by
  after_results
  simp only [id]
  pointwise
  exact EReal.coe_zero.symm

theorem step_6_6 : after stepOps V (Proc.devRef .tc main_v6_6) = V (Proc.devRef .tc main_while0b_v10) := by
  after_results
  rfl

theorem step_6_7 : after stepOps V (Proc.devRef .tc main_v6_7) = V (Proc.devRef .tc main_while0b_v87) := by
  after_results
  rfl

theorem step_6_8 : after stepOps V (Proc.devRef .tc main_v6_8) = V (Proc.devRef .tc main_while0b_v86) := by
  after_results
  rfl

theorem step_6_9 : after stepOps V (Proc.devRef .tc main_v6_9) = V (Proc.devRef .tc main_while0b_v78) := by
  after_results
  rfl

theorem step_6_10 : after stepOps V (Proc.devRef .tc main_v6_10) = V (Proc.devRef .tc main_while0b_v92) := by
  after_results
  rfl

/-- A tensor brought back by its difference from another. -/
theorem brought_back (X Q : FVec Ideal S4x512x32 .f32) (x q : Fin 4 → Fin 512 → Fin 32 → ℝ) (hX : Real3 X x) (hQ : Real3 Q q) :
    Real3 (addf X (subf Q X)) q := by
  intro b s d
  show X (ix3 b s d) + (Q (ix3 b s d) - X (ix3 b s d)) = _
  rw [hX, hQ, ← EReal.coe_sub, ← EReal.coe_add, add_sub_cancel]

theorem exit_0 (q x : Fin 4 → Fin 512 → Fin 32 → ℝ) (hq : Real3 (V (Proc.devRef .tc main_v6_8)) q) (hx : Real3 (V (Proc.devRef .tc main_v3)) x) :
    Real3 (after exitOps V (Proc.devRef .tc main_v8)) q := by
  after_results
  exact brought_back _ _ x q hx hq

theorem exit_2 (l : ℝ) (hl : ∀ z, V (Proc.devRef .tc main_v6_10) z = (l : EReal)) (z : S_.Idx) :
    after exitOps V (Proc.devRef .tc main_v9) z = (l : EReal) * Ideal.ofBits .f32 0x3E800000#32 := by
  after_results
  exact congrArg (· * Ideal.ofBits .f32 0x3E800000#32) (hl z)

end Cert.ReferenceIdeal.Value
end
-- ==== Proof.RefValue.lean ====
/-
The reference's value at the ideal instance: trip by trip its carried buffers hold the quantiser's state, so its three
results are the quantiser's.
-/
module

public import proofs.«01_k».proof.Proof.RefStages

@[expose] public section

set_option maxRecDepth 16384

noncomputable section

namespace Cert.ReferenceIdeal.Value

open Cert.ReferenceIdeal Cert.ReferenceIdeal.Gen Cert.Spec
open Idealize.ShloMosaic Idealize.ShloMosaic.TcCoe Idealize.SL.Sem Idealize.ShloMosaic.StableHlo

variable (D : Inputs)

/-- The root keeps the first place of the least distance. -/
theorem first_sqrt (C : Fin 8192 → Fin 32 → ℝ) (r : Fin 32 → ℝ) : first (fun n => Real.sqrt (Spec.dist r (C n))) = nearest C r := by
  have h := first_spec fun n => Spec.dist r (C n)
  exact (eq_first ⟨fun m => Real.sqrt_le_sqrt (h.1 m), fun m hm => Real.sqrt_lt_sqrt (dist_nonneg _ _) (h.2 m hm)⟩).symm

/-- A sum over the rows is the sum over the batches and their positions. -/
theorem sum_flat (g : Fin 2048 → ℝ) : ∑ r, g r = ∑ b, ∑ s, g (flat b s) := by
  rw [← Fintype.sum_prod_type' (f := fun (b : Fin 4) (s : Fin 512) => g (flat b s))]
  refine (Fintype.sum_equiv (finProdFinEquiv (m := 4) (n := 512)) _ _ fun p => congrArg g (Fin.ext ?_)).symm
  show 512 * p.1.val + p.2.val = p.2.val + 512 * p.1.val
  omega

theorem batch_flat (b : Fin 4) (s : Fin 512) : batch (flat b s) = b :=
  Fin.ext (by show (512 * b.val + s.val) / 512 = b.val; omega)

/-- What the carried buffers hold before trip `k`. -/
structure At (k : ℕ) (V : Valuation τ sig (Elt Ideal)) : Prop where
  wsem : Real3 (V (Proc.devRef .tc main_v6_0)) D.wsem
  sem : Real2 (V (Proc.devRef .tc main_v6_1)) D.sem
  bsem : Real2 (V (Proc.devRef .tc main_v6_2)) D.bsem
  cb : Real3 (V (Proc.devRef .tc main_v6_3)) D.cb
  x : Real3 (V (Proc.devRef .tc main_v6_4)) fun b s => D.x (flat b s)
  x0 : Real3 (V (Proc.devRef .tc main_v3)) fun b s => D.x (flat b s)
  i : V (Proc.devRef .tc main_v6_6) = fun _ => BitVec.ofNat 32 k
  res : Real3 (V (Proc.devRef .tc main_v6_7)) fun b s => (D.state k).res (flat b s)
  quant : Real3 (V (Proc.devRef .tc main_v6_8)) fun b s => (D.state k).quant (flat b s)
  index : ∀ (i : Fin 32) (b : Fin 4) (s : Fin 512), i.val < k →
    V (Proc.devRef .tc main_v6_9) (ix3 i b s) = BitVec.ofNat 32 (D.index i (flat b s)).val
  loss : ∀ z, V (Proc.devRef .tc main_v6_10) z = (((D.state k).loss : ℝ) : EReal)

/-- The buffers `At` reads. -/
abbrev carried : List (Ref sig .tc) :=
  [main_v6_0, main_v6_1, main_v6_2, main_v6_3, main_v6_4, main_v3, main_v6_6, main_v6_7, main_v6_8, main_v6_9, main_v6_10]

variable {D} {V : Valuation τ sig (Elt Ideal)} {k : ℕ}

/-- A stretch that writes none of the carried buffers keeps what they hold. -/
theorem At.keep (h : At D k V) (ops : List (HloOp τ sig (Elt Ideal))) {W : List (Ref sig .tc)}
    (hW : ops.Forall fun op => op.writes ⊆ (W.map (Proc.devRef (τ := τ) .tc)).toFinset) (hd : ∀ b ∈ carried, b ∉ W) :
    At D k (after ops V) := by
  have e : ∀ b ∈ carried, after ops V (Proc.devRef .tc b) = V (Proc.devRef .tc b) := fun b hb => after_of_writes_sub ops V hW (hd b hb)
  simp only [carried, List.forall_mem_cons] at e
  obtain ⟨e0, e1, e2, e3, e4, ex, e6, e7, e8, e9, e10, -⟩ := e
  exact ⟨by rw [e0]; exact h.wsem, by rw [e1]; exact h.sem, by rw [e2]; exact h.bsem, by rw [e3]; exact h.cb, by rw [e4]; exact h.x,
    by rw [ex]; exact h.x0, by rw [e6]; exact h.i, by rw [e7]; exact h.res, by rw [e8]; exact h.quant, by rw [e9]; exact h.index,
    by rw [e10]; exact h.loss⟩

/-- The stretches up to the choice: the residual with the trip's bias added, and the next index. -/
theorem At.biased (k : Fin 32) (h : At D k.val V) {X : Valuation τ sig (Elt Ideal)}
    (hX : X = after pickOps (after biasOps (after vecOps (after projOps (after slabOps (after slotOps V)))))) :
    At D k.val X ∧ (Real3 (X (Proc.devRef .tc main_while0b_v43)) fun b s => D.biased k (D.state k.val).res (flat b s))
      ∧ X (Proc.devRef .tc main_while0b_v10) = fun _ => BitVec.ofNat 32 (k.val + 1) := by
  have h1 := h.keep slotOps slotOps_writes (by decide +kernel)
  have h2 := h1.keep slabOps slabOps_writes (by decide +kernel)
  have h3 := h2.keep projOps projOps_writes (by decide +kernel)
  have h4 := h3.keep vecOps vecOps_writes (by decide +kernel)
  have h5 := h4.keep biasOps biasOps_writes (by decide +kernel)
  have h6 := h5.keep pickOps pickOps_writes (by decide +kernel)
  have ht := bias_test _ k h4.i
  subst hX
  refine ⟨h6, ?_, ?_⟩
  · by_cases hk : k.val < 10
    · have hi := slot_clamp V ⟨k.val, hk⟩ h.i
      have hs := slab_at _ ⟨k.val, hk⟩ D.wsem h1.wsem (slot_0 V ⟨k.val, hk⟩ h.i) (slot_1 V) (slot_2 V)
      have hp := proj_at _ D.sem (D.wsem ⟨k.val, hk⟩) h2.sem hs
      have hv := vec_at _ ⟨k.val, hk⟩ D.bsem h3.bsem
        (proj_0 _ ⟨k.val, hk⟩ (by rw [after_of_writes_sub slabOps _ slabOps_writes (by decide +kernel)]; exact hi)) (proj_1 _)
      have hb := bias_at _ _ (D.bsem ⟨k.val, hk⟩) _
        (by rw [after_of_writes_sub vecOps _ vecOps_writes (by decide +kernel)]; exact hp) hv h4.res
      have hf := pick_biased _ _ (by rw [ht]; funext _; exact if_pos hk) hb
      intro b s d
      rw [hf b s d]
      unfold Inputs.biased
      dsimp only
      rw [dif_pos hk, batch_flat]
      rfl
    · have hf := pick_plain _ _ (by rw [ht]; funext _; exact if_neg hk) h5.res
      intro b s d
      rw [hf b s d]
      unfold Inputs.biased
      dsimp only
      rw [dif_neg hk]
  · rw [after_of_writes_sub pickOps _ pickOps_writes (by decide +kernel), after_of_writes_sub biasOps _ biasOps_writes (by decide +kernel),
      after_of_writes_sub vecOps _ vecOps_writes (by decide +kernel), after_of_writes_sub projOps _ projOps_writes (by decide +kernel),
      after_of_writes_sub slabOps _ slabOps_writes (by decide +kernel)]
    exact slot_next V k h.i

/-- The stretches from the codebook to the codewords' places: the trip's indices, in their row and as places to gather. -/
theorem At.near (k : Fin 32) (h : At D k.val V) {f : Fin 4 → Fin 512 → Fin 32 → ℝ} (hf : Real3 (V (Proc.devRef .tc main_while0b_v43)) f)
    {X : Valuation τ sig (Elt Ideal)}
    (hX : X = after nearOps (after rowOps (after spotOps (after argOps (after distOps (after bookOps (after seatOps V))))))) :
    At D k.val X ∧ Real3 (X (Proc.devRef .tc main_while0b_v43)) f ∧ Real2 (X (Proc.devRef .tc main_while0b_v55)) (D.cb k)
      ∧ (∀ b s, X (Proc.devRef .tc main_while0b_v84) (ix3 b s 0) = BitVec.ofNat 32 (nearest (D.cb k) (f b s)).val)
      ∧ (∀ (i : Fin 32) b s, X (Proc.devRef .tc main_while0b_v78) (ix3 i b s)
          = if i = k then BitVec.ofNat 32 (nearest (D.cb k) (f b s)).val else V (Proc.devRef .tc main_v6_9) (ix3 i b s))
      ∧ X (Proc.devRef .tc main_while0b_v10) = V (Proc.devRef .tc main_while0b_v10) := by
  have h1 := h.keep seatOps seatOps_writes (by decide +kernel)
  have h2 := h1.keep bookOps bookOps_writes (by decide +kernel)
  have h3 := h2.keep distOps distOps_writes (by decide +kernel)
  have h4 := h3.keep argOps argOps_writes (by decide +kernel)
  have h5 := h4.keep spotOps spotOps_writes (by decide +kernel)
  have h6 := h5.keep rowOps rowOps_writes (by decide +kernel)
  have h7 := h6.keep nearOps nearOps_writes (by decide +kernel)
  have hC := book_at _ k D.cb h1.cb (seat_0 V k h.i) (seat_1 V) (seat_2 V)
  have hf2 : Real3 (after bookOps (after seatOps V) (Proc.devRef .tc main_while0b_v43)) f := by
    rw [after_of_writes_sub bookOps _ bookOps_writes (by decide +kernel), after_of_writes_sub seatOps _ seatOps_writes (by decide +kernel)]
    exact hf
  have hb := dist_book _ (D.cb k) hC
  have ha : ∀ b s, _ = BitVec.ofNat 32 (nearest (D.cb k) (f b s)).val := fun b s =>
    (arg_at _ _ (dist_at _ (D.cb k) hC f hf2) b s).trans (by rw [first_sqrt])
  have ha5 : ∀ b s, after spotOps (after argOps (after distOps (after bookOps (after seatOps V)))) (Proc.devRef .tc main_while0b_v72) (ix2 b s)
      = BitVec.ofNat 32 (nearest (D.cb k) (f b s)).val := by
    rw [after_of_writes_sub spotOps _ spotOps_writes (by decide +kernel)]
    exact ha
  have hs := spot_word _ k h4.i
  subst hX
  refine ⟨h7, ?_, ?_, ?_, fun i b s => ?_, ?_⟩
  · rw [after_of_writes_sub nearOps _ nearOps_writes (by decide +kernel), after_of_writes_sub rowOps _ rowOps_writes (by decide +kernel),
      after_of_writes_sub spotOps _ spotOps_writes (by decide +kernel), after_of_writes_sub argOps _ argOps_writes (by decide +kernel),
      after_of_writes_sub distOps _ distOps_writes (by decide +kernel)]
    exact hf2
  · rw [after_of_writes_sub nearOps _ nearOps_writes (by decide +kernel), after_of_writes_sub rowOps _ rowOps_writes (by decide +kernel),
      after_of_writes_sub spotOps _ spotOps_writes (by decide +kernel), after_of_writes_sub argOps _ argOps_writes (by decide +kernel)]
    exact hb
  · refine near_at _ _ ?_
    rw [after_of_writes_sub rowOps _ rowOps_writes (by decide +kernel)]
    exact ha5
  · rw [after_of_writes_sub nearOps _ nearOps_writes (by decide +kernel), row_at _ k hs, ha5,
      after_of_writes_sub spotOps _ spotOps_writes (by decide +kernel), after_of_writes_sub argOps _ argOps_writes (by decide +kernel),
      after_of_writes_sub distOps _ distOps_writes (by decide +kernel), after_of_writes_sub bookOps _ bookOps_writes (by decide +kernel),
      after_of_writes_sub seatOps _ seatOps_writes (by decide +kernel)]
  · rw [after_of_writes_sub nearOps _ nearOps_writes (by decide +kernel), after_of_writes_sub rowOps _ rowOps_writes (by decide +kernel),
      after_of_writes_sub spotOps _ spotOps_writes (by decide +kernel), after_of_writes_sub argOps _ argOps_writes (by decide +kernel),
      after_of_writes_sub distOps _ distOps_writes (by decide +kernel), after_of_writes_sub bookOps _ bookOps_writes (by decide +kernel),
      after_of_writes_sub seatOps _ seatOps_writes (by decide +kernel)]

/-- One trip takes the state before it to the state after it. -/
theorem At.trip (k : Fin 32) (h : At D k.val V) : At D (k.val + 1) (afterL bodyI V) := by
  rw [afterL_body]
  simp only [workI, afterL_cons, afterL_nil]
  obtain ⟨A, hA⟩ : ∃ A, A = after pickOps (after biasOps (after vecOps (after projOps (after slabOps (after slotOps V))))) := ⟨_, rfl⟩
  obtain ⟨hA', hf, h10⟩ := h.biased k hA
  rw [← hA]
  obtain ⟨B, hB⟩ : ∃ B, B = after nearOps (after rowOps (after spotOps (after argOps (after distOps (after bookOps (after seatOps A)))))) := ⟨_, rfl⟩
  obtain ⟨hB', hfB, hC, hn, h78, h10B⟩ := hA'.near k hf hB
  rw [← hB]
  have hw := word_at B (D.cb k) hC _ hn
  have hq := word_sum B (D.cb k) hC _ hn _ hB'.quant
  have hc := hB'.keep wordOps wordOps_writes (by decide +kernel)
  have hr := mean_res _ _ hw _ (by rw [after_of_writes_sub wordOps _ wordOps_writes (by decide +kernel)]; exact hfB)
  have hl := mean_loss _ _ hw _ hc.x _ hc.loss
  have hm := hc.keep meanOps meanOps_writes (by decide +kernel)
  have ks : ∀ b, b ∉ stepOps_W → after stepOps (after meanOps (after wordOps B)) (Proc.devRef .tc b)
      = after meanOps (after wordOps B) (Proc.devRef .tc b) := fun b hb => after_of_writes_sub stepOps _ stepOps_writes hb
  have km : ∀ b, b ∉ meanOps_W → after meanOps (after wordOps B) (Proc.devRef .tc b)
      = after wordOps B (Proc.devRef .tc b) := fun b hb => after_of_writes_sub meanOps _ meanOps_writes hb
  have kw : ∀ b, b ∉ wordOps_W → after wordOps B (Proc.devRef .tc b)
      = B (Proc.devRef .tc b) := fun b hb => after_of_writes_sub wordOps _ wordOps_writes hb
  have hst := D.state_succ k.val k.isLt
  refine ⟨?_, ?_, ?_, ?_, ?_, ?_, ?_, ?_, ?_, ?_, ?_⟩
  · rw [ks _ (by decide +kernel)]; exact hm.wsem
  · rw [ks _ (by decide +kernel)]; exact hm.sem
  · rw [ks _ (by decide +kernel)]; exact hm.bsem
  · rw [ks _ (by decide +kernel)]; exact hm.cb
  · rw [ks _ (by decide +kernel)]; exact hm.x
  · rw [ks _ (by decide +kernel)]; exact hm.x0
  · rw [step_6_6, km _ (by decide +kernel), kw _ (by decide +kernel), h10B, h10]; rfl
  · rw [step_6_7, hst]; exact hr
  · rw [step_6_8, km _ (by decide +kernel), hst]; exact hq
  · intro i b s hi
    rw [step_6_9, km _ (by decide +kernel), kw _ (by decide +kernel), h78]
    by_cases e : i = k
    · rw [if_pos e, e]; rfl
    · rw [if_neg e]
      exact hA'.index i b s (lt_of_le_of_ne (Nat.lt_succ_iff.mp hi) fun q => e (Fin.ext q))
  · intro z
    rw [step_6_10, hl z, hst]
    refine congrArg (fun t : ℝ => (((D.state k.val).loss + t / 65536 : ℝ) : EReal)) ?_
    exact (sum_flat fun r => ∑ d, (D.pick k (D.biased k (D.state k.val).res) r d - D.x r d) * (D.pick k (D.biased k (D.state k.val).res) r d - D.x r d)).symm

end Cert.ReferenceIdeal.Value
end
-- ==== Proof.RefEnd.lean ====
/-
The reference's whole run: what its three results hold at the ideal instance, and that its arguments end unchanged.
-/
module

public import proofs.«01_k».proof.Proof.RefValue

@[expose] public section

set_option maxRecDepth 16384

noncomputable section

namespace Cert.ReferenceIdeal.Value

open Cert.ReferenceIdeal Cert.ReferenceIdeal.Gen Cert.Spec
open Idealize.ShloMosaic Idealize.ShloMosaic.TcCoe Idealize.SL.Sem Idealize.ShloMosaic.StableHlo

/-! ## The arguments -/

section Args

variable {F : FTy → Type} [FloatOps F] (m : (ℓ : Loc nD τ sig) → Buf (Elt F) ℓ) (ρ : Dev nD → PrngReg)

/-- A buffer no stretch writes holds its launch contents before every trip. -/
theorem atK_keep (c : Dev nD) {b : Ref sig .tc} (h1 : b ∉ entryOps_W) (h2 : b ∉ condOps_W) (h3 : b ∉ workW) (h4 : b ∉ stepOps_W) :
    ∀ k, atK m k c (Proc.devRef .tc b) = m (c.tc.loc b)
  | 0 => after_of_writes_sub entryOps _ entryOps_writes h1
  | k + 1 => by
    rw [show atK m (k + 1) c = afterL bodyI (after condOps (atK m k c)) from rfl, afterL_body,
      after_of_writes_sub stepOps _ stepOps_writes h4, work_ne _ h3, cond_ne _ h2, atK_keep c h1 h2 h3 h4 k]

/-- … and at the end. -/
theorem final_keep (c : Dev nD) {b : Ref sig .tc} (h1 : b ∉ entryOps_W) (h2 : b ∉ condOps_W) (h3 : b ∉ workW) (h4 : b ∉ stepOps_W)
    (h5 : b ∉ exitOps_W) : finalContents condOps preI bodyI postI 32 m c (Proc.devRef .tc b) = m (c.tc.loc b) := by
  rw [show finalContents condOps preI bodyI postI 32 m c = after exitOps (after condOps (atK m 32 c)) from rfl,
    after_of_writes_sub exitOps _ exitOps_writes h5, cond_ne _ h2, atK_keep m c h1 h2 h3 h4 32]

/-- The reference's run ends with its arguments unchanged and every counter at zero. -/
theorem frame : θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) := by
  refine (θ_run defs _ _).mono (fun r h => ⟨fun c => ?_, Idealize.ShloMosaic.sem_eq_zero_of_no_sems (by decide) r.2⟩) (run_fold m ρ)
  have e : ∀ b ∈ [main_arg0, main_arg1, main_arg2, main_arg3, main_arg4, main_arg5, main_arg6],
      r.2.mem ((c.tc : Thread nD τ).loc b) = m ((c.tc : Thread nD τ).loc b) := fun b hb =>
    have hs : ∀ b ∈ [main_arg0, main_arg1, main_arg2, main_arg3, main_arg4, main_arg5, main_arg6],
      (Proc.devRef .tc b : DevRef τ sig).isScoped = false ∧ b ∉ entryOps_W ∧ b ∉ condOps_W ∧ b ∉ workW ∧ b ∉ stepOps_W ∧ b ∉ exitOps_W := by
      decide +kernel
    have ⟨h0, h1, h2, h3, h4, h5⟩ := hs b hb
    (h c b h0).trans (final_keep m c h1 h2 h3 h4 h5)
  simp only [List.forall_mem_cons] at e
  obtain ⟨e0, e1, e2, e3, e4, e5, e6, -⟩ := e
  exact ⟨e0, e1, e2, e3, e4, e5, e6⟩

end Args

/-! ## The results -/

section Results

variable (D : Inputs) (m : (ℓ : Loc nD τ sig) → Buf (Elt Ideal) ℓ) (ρ : Dev nD → PrngReg)

/-- The argument buffers of a device hold the inputs. -/
abbrev InHolds (c : Dev nD) : Prop :=
  Holds D (m (c.tc.loc main_arg0)) (m (c.tc.loc main_arg1)) (m (c.tc.loc main_arg2)) (m (c.tc.loc main_arg3)) (m (c.tc.loc main_arg4))
    (m (c.tc.loc main_arg5)) (m (c.tc.loc main_arg6))

variable {D} (c : Dev nD) (h : InHolds D m c)
include h

/-- At the loop's entry the carried buffers hold the first state. -/
theorem at_entry : At D 0 (entryContents preI m c) := by
  have hx := entry_x (launchContents m c) (fun b s k => D.audio (flat b s) k) D.win D.bin h.audio h.win h.bin
  show At D 0 (after entryOps (launchContents m c))
  refine ⟨?_, ?_, ?_, ?_, ?_, hx, entry_6_6 _, ?_, ?_, fun i b s hi => absurd hi (Nat.not_lt_zero _), fun z => entry_6_10 _ z⟩
  · rw [entry_6_0]; exact h.wsem
  · rw [entry_6_1]; exact h.sem
  · rw [entry_6_2]; exact h.bsem
  · rw [entry_6_3]; exact h.cb
  · rw [entry_6_4]; exact hx
  · rw [entry_6_7]; exact hx
  · exact entry_6_8 _

/-- Before every trip the carried buffers hold its state. -/
theorem at_trip : ∀ k, k ≤ 32 → At D k (atK m k c)
  | 0, _ => at_entry m c h
  | k + 1, hk => ((at_trip k (Nat.le_of_succ_le hk)).keep condOps condOps_writes (by decide +kernel)).trip ⟨k, hk⟩

/-- What the carried buffers hold when the loop is left. -/
theorem at_exit : At D 32 (after condOps (atK m 32 c)) :=
  (at_trip m c h 32 le_rfl).keep condOps condOps_writes (by decide +kernel)

/-- The first result is the quantised rows. -/
theorem res_0 : finalContents condOps preI bodyI postI 32 m c (Proc.devRef .tc main_v8) = D.result0 := by
  have e := at_exit m c h
  show after exitOps (after condOps (atK m 32 c)) (Proc.devRef .tc main_v8) = D.result0
  funext z
  rw [show z = ix3 (z 0) (z 1) (z 2) from eq_ix3 z]
  exact exit_0 _ _ _ e.quant e.x0 (z 0) (z 1) (z 2)

/-- The second result is the indices. -/
theorem res_1 : finalContents condOps preI bodyI postI 32 m c (Proc.devRef .tc main_v6_9) = D.result1 := by
  have e := at_exit m c h
  show after exitOps (after condOps (atK m 32 c)) (Proc.devRef .tc main_v6_9) = D.result1
  rw [after_of_writes_sub exitOps _ exitOps_writes (by decide +kernel)]
  funext z
  rw [show z = ix3 (z 0) (z 1) (z 2) from eq_ix3 z]
  exact e.index (z 0) (z 1) (z 2) (z 0).isLt

/-- The third result is the scaled loss. -/
theorem res_2 : finalContents condOps preI bodyI postI 32 m c (Proc.devRef .tc main_v9) = D.result2 := by
  have e := at_exit m c h
  show after exitOps (after condOps (atK m 32 c)) (Proc.devRef .tc main_v9) = D.result2
  funext z
  exact exit_2 _ _ e.loss z

end Results

/-- The reference's run ends with the quantiser's three results. -/
theorem run (D : Inputs) (m : (ℓ : Loc nD τ sig) → Buf (Elt Ideal) ℓ) (ρ : Dev nD → PrngReg) (h : ∀ c, InHolds D m c) :
    θ_run (defs (F := Ideal)) (onTc (τ := τ) (main (F := Ideal))) ⟨m, fun _ => 0, ρ⟩ (fun r => ∀ c : Dev nD,
      r.2.mem ((c.tc : Thread nD τ).loc main_v8) = D.result0
      ∧ r.2.mem ((c.tc : Thread nD τ).loc main_v6_9) = D.result1
      ∧ r.2.mem ((c.tc : Thread nD τ).loc main_v9) = D.result2) :=
  (θ_run defs _ _).mono (fun r hr c =>
    ⟨(hr c main_v8 (by decide)).trans (res_0 m c (h c)), (hr c main_v6_9 (by decide)).trans (res_1 m c (h c)),
      (hr c main_v9 (by decide)).trans (res_2 m c (h c))⟩)
    (run_fold m ρ)

end Cert.ReferenceIdeal.Value
end
-- ==== Proof.PreFacts.lean ====
/- The side conditions that `Pre_finite` states: shape relations of its operations, each decided. -/
module

public import proofs.«01_k».proof.Pre_finite
public import Idealize.ShloMosaic.Lib.Decide

@[expose] public section

namespace Cert.Pre_finite.Gen

open Idealize.ShloMosaic Idealize.SL.Sem

/-- `bcast_S_S4x512x512`, decided. -/
theorem bcast_S_S4x512x512 : S_.BroadcastsInDim S4x512x512 (![] : Fin 0 → Fin S4x512x512.rank) := by decide +kernel
/-- `reducesTo_S4x512x512_S_d0_1_2`, decided. -/
theorem reducesTo_S4x512x512_S_d0_1_2 : S4x512x512.ReducesTo [0, 1, 2] S_ := by decide +kernel
/-- `h_S_`, decided. -/
theorem h_S_ : 0 < S_.numel := by decide +kernel
/-- `bcast_S_S4x4096`, decided. -/
theorem bcast_S_S4x4096 : S_.BroadcastsInDim S4x4096 (![] : Fin 0 → Fin S4x4096.rank) := by decide +kernel
/-- `reducesTo_S4x4096_S_d0_1`, decided. -/
theorem reducesTo_S4x4096_S_d0_1 : S4x4096.ReducesTo [0, 1] S_ := by decide +kernel
/-- `bcast_S_S512x32`, decided. -/
theorem bcast_S_S512x32 : S_.BroadcastsInDim S512x32 (![] : Fin 0 → Fin S512x32.rank) := by decide +kernel
/-- `reducesTo_S512x32_S_d0_1`, decided. -/
theorem reducesTo_S512x32_S_d0_1 : S512x32.ReducesTo [0, 1] S_ := by decide +kernel
/-- `bcast_S_S32`, decided. -/
theorem bcast_S_S32 : S_.BroadcastsInDim S32 (![] : Fin 0 → Fin S32.rank) := by decide +kernel
/-- `reducesTo_S32_S_d0`, decided. -/
theorem reducesTo_S32_S_d0 : S32.ReducesTo [0] S_ := by decide +kernel
/-- `bcast_S_S32x8192x32`, decided. -/
theorem bcast_S_S32x8192x32 : S_.BroadcastsInDim S32x8192x32 (![] : Fin 0 → Fin S32x8192x32.rank) := by decide +kernel
/-- `reducesTo_S32x8192x32_S_d0_1_2`, decided. -/
theorem reducesTo_S32x8192x32_S_d0_1_2 : S32x8192x32.ReducesTo [0, 1, 2] S_ := by decide +kernel
/-- `bcast_S_S10x4096x32`, decided. -/
theorem bcast_S_S10x4096x32 : S_.BroadcastsInDim S10x4096x32 (![] : Fin 0 → Fin S10x4096x32.rank) := by decide +kernel
/-- `reducesTo_S10x4096x32_S_d0_1_2`, decided. -/
theorem reducesTo_S10x4096x32_S_d0_1_2 : S10x4096x32.ReducesTo [0, 1, 2] S_ := by decide +kernel
/-- `bcast_S_S10x32`, decided. -/
theorem bcast_S_S10x32 : S_.BroadcastsInDim S10x32 (![] : Fin 0 → Fin S10x32.rank) := by decide +kernel
/-- `reducesTo_S10x32_S_d0_1`, decided. -/
theorem reducesTo_S10x32_S_d0_1 : S10x32.ReducesTo [0, 1] S_ := by decide +kernel

/-- The stated side conditions, together. -/
instance facts : Facts :=
  ⟨bcast_S_S4x512x512, reducesTo_S4x512x512_S_d0_1_2, h_S_, bcast_S_S4x4096, reducesTo_S4x4096_S_d0_1, bcast_S_S512x32, reducesTo_S512x32_S_d0_1, bcast_S_S32, reducesTo_S32_S_d0, bcast_S_S32x8192x32, reducesTo_S32x8192x32_S_d0_1_2, bcast_S_S10x4096x32, reducesTo_S10x4096x32_S_d0_1_2, bcast_S_S10x32, reducesTo_S10x32_S_d0_1⟩

end Cert.Pre_finite.Gen

end
-- ==== Proof.Finite.lean ====
/-
The precondition read back: where it holds, no element of any argument array is infinite.
-/
module

public import proofs.«01_k».proof.Proof.PreFacts
public import proofs.«01_k».proof.Proof.Inputs
public import Idealize.ShloMosaic.Lib.Pointwise

@[expose] public section

noncomputable section

namespace Cert.Pre_finite.Gen

open Cert.Pre_finite Cert.Spec Idealize.ShloMosaic

attribute [local instance] facts

/-- A conjunction of two bits is 1 exactly when both are. -/
theorem andi_one (a b : BitVec 1) : IntOp.andi a b = 1#1 ↔ a = 1#1 ∧ b = 1#1 := by
  rcases BitVec.eq_zero_or_eq_one a with rfl | rfl <;> rcases BitVec.eq_zero_or_eq_one b with rfl | rfl <;> decide

/-- Bits conjoined one after another give 1 only if each of them is 1. -/
theorem foldl_andi {ι : Type} (p : ι → BitVec 1) : ∀ (l : List ι) (a : BitVec 1), l.foldl (fun a i => IntOp.andi a (p i)) a = 1#1 →
    a = 1#1 ∧ ∀ i ∈ l, p i = 1#1
  | [], a, h => ⟨h, fun _ hi => absurd hi List.not_mem_nil⟩
  | i :: l, a, h => by
    obtain ⟨h1, h2⟩ := foldl_andi p l _ h
    obtain ⟨h3, h4⟩ := (andi_one _ _).mp h1
    exact ⟨h3, List.forall_mem_cons.mpr ⟨h4, h2⟩⟩

/-- The and over a whole array of bits, where 1, finds every one of them 1. -/
theorem all_of_reduce {s : Shape} {axes : List (Fin s.rank)} (x : IVec s 1) (v : IVec S_ 1) (h : s.ReducesTo axes S_) (hu : 0 < S_.numel)
    (j : S_.Idx) (e : Host.reduce IntOp.andi x v h hu j = 1#1) (i : s.Idx) : x i = 1#1 := by
  rw [Host.reduce_eq_foldl] at e
  refine (foldl_andi _ _ _ e).2 i ?_
  refine List.mem_filter.mpr ⟨List.mem_map.mpr ⟨s.rowMajor i, List.mem_finRange _, s.rowMajor.symm_apply_apply i⟩, ?_⟩
  exact decide_eq_true (funext fun b => b.elim0)

/-- An array whose every magnitude is below infinity has no infinite element. -/
theorem finite_of_reduce {s : Shape} {axes : List (Fin s.rank)} (a : FVec Ideal s .f32) (hb : S_.BroadcastsInDim s (![] : Fin 0 → Fin s.rank))
    (h : s.ReducesTo axes S_) (hu : 0 < S_.numel) (j : S_.Idx)
    (e : Host.reduce IntOp.andi (cmpf .olt (Host.absf a) (broadcastInDim s ![] hb (constant (F := Ideal) S_ .f32 0x7F800000#32))) (constantI S_ 1 1#1) h hu j = 1#1)
    (i : s.Idx) : (a i : EReal) ≠ ⊤ ∧ (a i : EReal) ≠ ⊥ := by
  have h1 := all_of_reduce _ _ h hu j e i
  have h2 : Ideal.cmp .olt (max (a i : EReal) (-(a i : EReal))) (Ideal.ofBits .f32 0x7F800000#32) = 1#1 := h1
  rw [Spec.ofBits_inf] at h2
  have h3 : BitVec.ofBool (decide (max (a i : EReal) (-(a i : EReal)) < ⊤)) = 1#1 := h2
  have h4 : max (a i : EReal) (-(a i : EReal)) < ⊤ := by
    by_contra hn
    rw [decide_eq_false hn] at h3
    exact absurd h3 (by decide)
  refine ⟨((le_max_left _ _).trans_lt h4).ne, fun hb => ?_⟩
  have h5 := (le_max_right _ _).trans_lt h4
  rw [hb] at h5
  exact absurd h5 (by simp)

/-- Where the precondition holds, every argument array is finite. -/
theorem args_finite (a0 : FVec Ideal S4x512x512 .f32) (a1 : FVec Ideal S4x4096 .f32) (a2 : FVec Ideal S512x32 .f32) (a3 : FVec Ideal S32 .f32)
    (a4 : FVec Ideal S32x8192x32 .f32) (a5 : FVec Ideal S10x4096x32 .f32) (a6 : FVec Ideal S10x32 .f32)
    (e : fn (F := Ideal) a0 a1 a2 a3 a4 a5 a6 = fun _ => 1#1) : ∃ D, Holds D a0 a1 a2 a3 a4 a5 a6 := by
  have e' := congrFun e (fun b => b.elim0)
  obtain ⟨e', e6⟩ := (andi_one _ _).mp e'
  obtain ⟨e', e5⟩ := (andi_one _ _).mp e'
  obtain ⟨e', e4⟩ := (andi_one _ _).mp e'
  obtain ⟨e', e3⟩ := (andi_one _ _).mp e'
  obtain ⟨e', e2⟩ := (andi_one _ _).mp e'
  obtain ⟨e0, e1⟩ := (andi_one _ _).mp e'
  exact exists_holds a0 a1 a2 a3 a4 a5 a6 (finite_of_reduce a0 _ _ _ _ e0) (finite_of_reduce a1 _ _ _ _ e1) (finite_of_reduce a2 _ _ _ _ e2)
    (finite_of_reduce a3 _ _ _ _ e3) (finite_of_reduce a4 _ _ _ _ e4) (finite_of_reduce a5 _ _ _ _ e5) (finite_of_reduce a6 _ _ _ _ e6)

end Cert.Pre_finite.Gen
end
-- ==== Proof.lean ====
/-
The proof of the claim.
-/
module

public import proofs.«01_k».proof.Defs
public import proofs.«01_k».proof.Proof.KernelFrame
public import proofs.«01_k».proof.Proof.Fold
public import proofs.«01_k».proof.Proof.RefEnd
public import proofs.«01_k».proof.Proof.Finite

@[expose] public section

noncomputable section

namespace Cert.Proof

open Idealize.ShloMosaic Idealize.SL.Sem

/-- From memories that agree on the arguments, all finite, the kernel and the reference end with the same three results. -/
theorem algebraic : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  intro m g m' g' hpre hargs
  obtain ⟨D, hD⟩ := Cert.Pre_finite.Gen.args_finite _ _ _ _ _ _ _ (hpre 0)
  have hK : ∀ c, Cert.KernelIdeal.Fold.InHolds D m c := fun c => by
    rw [show c = 0 from Subsingleton.elim _ _]; exact hD
  have hR : ∀ c, Cert.ReferenceIdeal.Value.InHolds D m' c := fun c => by
    obtain ⟨e0, e1, e2, e3, e4, e5, e6⟩ := hargs c
    have h := hK c
    exact ⟨fun b s k => (congrFun e0 _).trans (h.audio b s k), fun b k => (congrFun e1 _).trans (h.sem b k),
      fun k d => (congrFun e2 _).trans (h.win k d), fun d => (congrFun e3 _).trans (h.bin d), fun i n d => (congrFun e4 _).trans (h.cb i n d),
      fun j k d => (congrFun e5 _).trans (h.wsem j k d), fun j d => (congrFun e6 _).trans (h.bsem j d)⟩
  refine ⟨fun _ => D.result0, fun _ => D.result1, fun _ => D.result2, ?_, ?_⟩
  · refine (θ_run _ _ _).mono (fun r hr c => ?_) (θ_run_and (Cert.KernelIdeal.Fold.run D m g hK) (Cert.KernelIdeal.Gen.unchanged m g))
    have ⟨h0, h1, h2⟩ := hr.1 c
    exact ⟨h0, h1, h2, hr.2 c⟩
  · refine (θ_run _ _ _).mono (fun r hr c => ?_) (θ_run_and (Cert.ReferenceIdeal.Value.run D m' g' hR) (Cert.ReferenceIdeal.Value.frame m' g'))
    have ⟨h0, h1, h2⟩ := hr.1 c
    exact ⟨h0, h1, h2, hr.2.1 c⟩

/-- The certificate's claim. -/
theorem claim : Cert.Claim := ⟨Cert.Kernel.Gen.facts, Cert.KernelIdeal.Gen.facts, Cert.ReferenceIdeal.Gen.facts, Cert.Pre_finite.Gen.facts,
  fun m g _ => framesKernel m g, fun m g _ => Cert.KernelIdeal.Gen.frame m g, fun m g _ => Cert.KernelIdeal.Gen.frame m g,
  fun m g _ => Cert.ReferenceIdeal.Value.frame m g, fun m g _ => Cert.ReferenceIdeal.Value.frame m g, trivial, algebraic⟩

end Cert.Proof
